-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_cache [hPre_finite_cache : Cert.Pre_finite_cache.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_cache.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite_cache.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite_cache.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_cache [hPre_finite_cache : Cert.Pre_finite_cache.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_cache.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite_cache.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite_cache.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_cache [hKernel8Ideal : Cert.Kernel8Ideal.Facts] [hPre_finite_cache : Cert.Pre_finite_cache.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_cache m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_cache [hReference8Ideal : Cert.Reference8Ideal.Facts] [hPre_finite_cache : Cert.Pre_finite_cache.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_cache m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite_cache [hKernel8Ideal : Cert.Kernel8Ideal.Facts] [hReference8Ideal : Cert.Reference8Ideal.Facts] [hPre_finite_cache : Cert.Pre_finite_cache.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_cache m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v26)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v74) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v55) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_cache : Cert.Pre_finite_cache.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_cache (hKernel8Ideal := hKernel8Ideal) (hPre_finite_cache := hPre_finite_cache)
    ∧ quiescent_Reference8Ideal (hReference8Ideal := hReference8Ideal)
    ∧ quiescent_Reference8Ideal_pre_finite_cache (hReference8Ideal := hReference8Ideal) (hPre_finite_cache := hPre_finite_cache)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_cache (hKernel8Ideal := hKernel8Ideal) (hReference8Ideal := hReference8Ideal) (hPre_finite_cache := hPre_finite_cache)
    ∧ preserves_Kernel9_Kernel9Ideal
    ∧ algebraic_Kernel9Ideal_Reference9Ideal (hKernel9Ideal := hKernel9Ideal) (hReference9Ideal := hReference9Ideal)
-- ==== Pre_finite.lean ====
abbrev S16384x10240 : Shape := ⟨2, ![16384, 10240]⟩
abbrev S1x8x257 : Shape := ⟨3, ![1, 8, 257]⟩
abbrev S_ : Shape := ⟨0, ![]⟩

class Facts : Prop where
  bcast_S_S16384x10240 : S_.BroadcastsInDim S16384x10240 (![] : Fin 0 → Fin S16384x10240.rank)
  bcast_S_S1x8x257 : S_.BroadcastsInDim S1x8x257 (![] : Fin 0 → Fin S1x8x257.rank)

variable [Facts]

def fn {F : FTy → Type} [FloatOps F] (main_arg0 : FVec F S16384x10240 .f32) (main_arg1 : FVec F S1x8x257 .f32) : IVec S16384x10240 1 × IVec S1x8x257 1 :=
  let main_v0 : FVec F S16384x10240 .f32 := Host.absf main_arg0
  let main_cst : FVec F S_ .f32 := constant S_ .f32 0x7F800000#32
  let main_v1 : FVec F S16384x10240 .f32 := broadcastInDim S16384x10240 ![] bcast_S_S16384x10240 main_cst
  let main_v2 : IVec S16384x10240 1 := cmpf .olt main_v0 main_v1
  let main_v3 : FVec F S1x8x257 .f32 := Host.absf main_arg1
  let main_cst_0 : FVec F S_ .f32 := constant S_ .f32 0x7F800000#32
  let main_v4 : FVec F S1x8x257 .f32 := broadcastInDim S1x8x257 ![] bcast_S_S1x8x257 main_cst_0
  let main_v5 : IVec S1x8x257 1 := cmpf .olt main_v3 main_v4
  (main_v2, main_v5)
-- ==== Pre_finite_cache.lean ====
abbrev S512x10240 : Shape := ⟨2, ![512, 10240]⟩
abbrev S1x32x512x8x128 : Shape := ⟨5, ![1, 32, 512, 8, 128]⟩
abbrev S1x8x257 : Shape := ⟨3, ![1, 8, 257]⟩
abbrev S_ : Shape := ⟨0, ![]⟩

class Facts : Prop where
  bcast_S_S512x10240 : S_.BroadcastsInDim S512x10240 (![] : Fin 0 → Fin S512x10240.rank)
  bcast_S_S1x32x512x8x128 : S_.BroadcastsInDim S1x32x512x8x128 (![] : Fin 0 → Fin S1x32x512x8x128.rank)
  bcast_S_S1x8x257 : S_.BroadcastsInDim S1x8x257 (![] : Fin 0 → Fin S1x8x257.rank)

variable [Facts]

def fn {F : FTy → Type} [FloatOps F] (main_arg0 : FVec F S512x10240 .f32) (main_arg1 : FVec F S1x32x512x8x128 .f32) (main_arg2 : FVec F S1x32x512x8x128 .f32) (main_arg3 : FVec F S1x8x257 .f32) : IVec S512x10240 1 × IVec S1x32x512x8x128 1 × IVec S1x8x257 1 :=
  let main_v0 : FVec F S512x10240 .f32 := Host.absf main_arg0
  let main_cst : FVec F S_ .f32 := constant S_ .f32 0x7F800000#32
  let main_v1 : FVec F S512x10240 .f32 := broadcastInDim S512x10240 ![] bcast_S_S512x10240 main_cst
  let main_v2 : IVec S512x10240 1 := cmpf .olt main_v0 main_v1
  let main_v3 : FVec F S1x32x512x8x128 .f32 := Host.absf main_arg1
  let main_cst_0 : FVec F S_ .f32 := constant S_ .f32 0x7F800000#32
  let main_v4 : FVec F S1x32x512x8x128 .f32 := broadcastInDim S1x32x512x8x128 ![] bcast_S_S1x32x512x8x128 main_cst_0
  let main_v5 : IVec S1x32x512x8x128 1 := cmpf .olt main_v3 main_v4
  let main_v6 : FVec F S1x8x257 .f32 := Host.absf main_arg3
  let main_cst_1 : FVec F S_ .f32 := constant S_ .f32 0x7F800000#32
  let main_v7 : FVec F S1x8x257 .f32 := broadcastInDim S1x8x257 ![] bcast_S_S1x8x257 main_cst_1
  let main_v8 : IVec S1x8x257 1 := cmpf .olt main_v6 main_v7
  (main_v2, main_v5, main_v8)
-- ==== Kernel.lean ====
abbrev S16384x10240 : Shape := ⟨2, ![16384, 10240]⟩
abbrev S1x8x257 : Shape := ⟨3, ![1, 8, 257]⟩
abbrev S8x257 : Shape := ⟨2, ![8, 257]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S1x128x640 : Shape := ⟨3, ![1, 128, 640]⟩
abbrev S8x256 : Shape := ⟨2, ![8, 256]⟩
abbrev S8x1 : Shape := ⟨2, ![8, 1]⟩
abbrev S8x511 : Shape := ⟨2, ![8, 511]⟩
abbrev S8x767 : Shape := ⟨2, ![8, 767]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S16384x1024 : Shape := ⟨2, ![16384, 1024]⟩
abbrev S512x512 : Shape := ⟨2, ![512, 512]⟩
abbrev S4x128x640 : Shape := ⟨3, ![4, 128, 640]⟩
abbrev S1024x512 : Shape := ⟨2, ![1024, 512]⟩
abbrev S128x128 : Shape := ⟨2, ![128, 128]⟩
abbrev S640x128 : Shape := ⟨2, ![640, 128]⟩

abbrev nBuf : Space → Nat
  | .hbm => 74
  | .vmem => 16
  | .smem => 0
  | _ => 0

abbrev bufTy : (tb : Table) → Fin (tcTables nBuf tb) → BufTy
  | .hbm, ⟨0, _⟩ => ⟨S16384x10240, .f32⟩
  | .hbm, ⟨1, _⟩ => ⟨S1x8x257, .f32⟩
  | .hbm, ⟨2, _⟩ => ⟨S8x257, .f32⟩
  | .hbm, ⟨3, _⟩ => ⟨S128, .i32⟩
  | .hbm, ⟨4, _⟩ => ⟨S128x1, .i32⟩
  | .hbm, ⟨5, _⟩ => ⟨S640, .i32⟩
  | .hbm, ⟨6, _⟩ => ⟨S1x640, .i32⟩
  | .hbm, ⟨7, _⟩ => ⟨S_, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i1⟩
  | .hbm, ⟨20, _⟩ => ⟨S128x1, .i1⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S_, .i32⟩
  | .hbm, ⟨27, _⟩ => ⟨S1x640, .i32⟩
  | .hbm, ⟨28, _⟩ => ⟨S1x640, .i32⟩
  | .hbm, ⟨29, _⟩ => ⟨S1x640, .i32⟩
  | .hbm, ⟨30, _⟩ => ⟨S_, .i32⟩
  | .hbm, ⟨31, _⟩ => ⟨S1x640, .i32⟩
  | .hbm, ⟨32, _⟩ => ⟨S1x640, .i1⟩
  | .hbm, ⟨33, _⟩ => ⟨S1x640, .i32⟩
  | .hbm, ⟨34, _⟩ => ⟨S1x640, .i32⟩
  | .hbm, ⟨35, _⟩ => ⟨S_, .i32⟩
  | .hbm, ⟨36, _⟩ => ⟨S1x640, .i32⟩
  | .hbm, ⟨37, _⟩ => ⟨S1x640, .i1⟩
  | .hbm, ⟨38, _⟩ => ⟨S1x640, .i1⟩
  | .hbm, ⟨39, _⟩ => ⟨S_, .i32⟩
  | .hbm, ⟨40, _⟩ => ⟨S1x640, .i32⟩
  | .hbm, ⟨41, _⟩ => ⟨S1x640, .i32⟩
  | .hbm, ⟨42, _⟩ => ⟨S1x640, .i32⟩
  | .hbm, ⟨43, _⟩ => ⟨S128x640, .i32⟩
  | .hbm, ⟨44, _⟩ => ⟨S128x640, .i32⟩
  | .hbm, ⟨45, _⟩ => ⟨S128x640, .i1⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x640, .i32⟩
  | .hbm, ⟨50, _⟩ => ⟨S128x640, .i32⟩
  | .hbm, ⟨51, _⟩ => ⟨S128x640, .i1⟩
  | .hbm, ⟨52, _⟩ => ⟨S128x640, .i1⟩
  | .hbm, ⟨53, _⟩ => ⟨S1x128x640, .i1⟩
  | .hbm, ⟨54, _⟩ => ⟨S8x256, .f32⟩
  | .hbm, ⟨55, _⟩ => ⟨S8x1, .f32⟩
  | .hbm, ⟨56, _⟩ => ⟨S8x511, .f32⟩
  | .hbm, ⟨57, _⟩ => ⟨S8x767, .f32⟩
  | .hbm, ⟨58, _⟩ => ⟨S8x767, .f32⟩
  | .hbm, ⟨59, _⟩ => ⟨S_, .i32⟩
  | .hbm, ⟨60, _⟩ => ⟨S_, .f32⟩
  | .hbm, ⟨61, _⟩ => ⟨S8x768, .f32⟩
  | .hbm, ⟨62, _⟩ => ⟨S1x8x1x768, .f32⟩
  | .hbm, ⟨63, _⟩ => ⟨S1x8x128x768, .f32⟩
  | .hbm, ⟨64, _⟩ => ⟨S8x98304, .f32⟩
  | .hbm, ⟨65, _⟩ => ⟨S8x98176, .f32⟩
  | .hbm, ⟨66, _⟩ => ⟨S8x128x767, .f32⟩
  | .hbm, ⟨67, _⟩ => ⟨S8x128x640, .f32⟩
  | .hbm, ⟨68, _⟩ => ⟨S_, .f32⟩
  | .hbm, ⟨69, _⟩ => ⟨S_, .f32⟩
  | .hbm, ⟨70, _⟩ => ⟨S8x128x640, .i1⟩
  | .hbm, ⟨71, _⟩ => ⟨S8x128x640, .f32⟩
  | .hbm, ⟨72, _⟩ => ⟨S8x128x640, .f32⟩
  | .hbm, ⟨73, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S4x128x640, .f32⟩
  | .local _ .vmem, ⟨11, _⟩ => ⟨S4x128x640, .f32⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c_1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_2 : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let v2 : BitVec 32 := Scalar.addi c0_i32 arg0
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.addi c2_i32 arg0
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c2_i32 : BitVec 32 := 2#32
  let v2 : BitVec 32 := Scalar.addi c2_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c4_i32 : BitVec 32 := 4#32
  let v4 : BitVec 32 := Scalar.addi c4_i32 arg0
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c4_i32 : BitVec 32 := 4#32
  let v2 : BitVec 32 := Scalar.addi c4_i32 arg0
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x10240 : Shape := ⟨2, ![16384, 10240]⟩
abbrev S1x8x257 : Shape := ⟨3, ![1, 8, 257]⟩
abbrev S16384x1024 : Shape := ⟨2, ![16384, 1024]⟩
abbrev S2x8192x8x128 : Shape := ⟨4, ![2, 8192, 8, 128]⟩
abbrev S8192 : Shape := ⟨1, ![8192]⟩
abbrev S2x8x8192x8192 : Shape := ⟨4, ![2, 8, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8x257 : Shape := ⟨2, ![8, 257]⟩
abbrev S8192x8192x1 : Shape := ⟨3, ![8192, 8192, 1]⟩
abbrev S8x8192x8192 : Shape := ⟨3, ![8, 8192, 8192]⟩
abbrev S1x8x8192x8192 : Shape := ⟨4, ![1, 8, 8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩

abbrev nBuf : Space → Nat
  | .hbm => 98
  | .vmem => 0
  | .smem => 0
  | _ => 0

abbrev bufTy : (tb : Table) → Fin (tcTables nBuf tb) → BufTy
  | .hbm, ⟨0, _⟩ => ⟨S16384x10240, .f32⟩
  | .hbm, ⟨1, _⟩ => ⟨S1x8x257, .f32⟩
  | .hbm, ⟨2, _⟩ => ⟨S16384x1024, .f32⟩
  | .hbm, ⟨3, _⟩ => ⟨S2x8192x8x128, .f32⟩
  | .hbm, ⟨4, _⟩ => ⟨S16384x1024, .f32⟩
  | .hbm, ⟨5, _⟩ => ⟨S2x8192x8x128, .f32⟩
  | .hbm, ⟨6, _⟩ => ⟨S16384x1024, .f32⟩
  | .hbm, ⟨7, _⟩ => ⟨S2x8192x8x128, .f32⟩
  | .hbm, ⟨8, _⟩ => ⟨S8192, .i32⟩
  | .hbm, ⟨9, _⟩ => ⟨S2x8x8192x8192, .f32⟩
  | .hbm, ⟨10, _⟩ => ⟨S_, .f32⟩
  | .hbm, ⟨11, _⟩ => ⟨S2x8x8192x8192, .f32⟩
  | .hbm, ⟨12, _⟩ => ⟨S2x8x8192x8192, .f32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S8x257, .f32⟩
  | .hbm, ⟨30, _⟩ => ⟨S_, .i32⟩
  | .hbm, ⟨31, _⟩ => ⟨S8192x8192, .i32⟩
  | .hbm, ⟨32, _⟩ => ⟨S8192x8192, .i1⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i32⟩
  | .hbm, ⟨37, _⟩ => ⟨S8192x8192x1, .i32⟩
  | .hbm, ⟨38, _⟩ => ⟨S8x8192x8192, .f32⟩
  | .hbm, ⟨39, _⟩ => ⟨S1x8x8192x8192, .f32⟩
  | .hbm, ⟨40, _⟩ => ⟨S2x8x8192x8192, .f32⟩
  | .hbm, ⟨41, _⟩ => ⟨S2x8x8192x8192, .f32⟩
  | .hbm, ⟨42, _⟩ => ⟨S_, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S1x8192, .i32⟩
  | .hbm, ⟨61, _⟩ => ⟨S8192x1, .i32⟩
  | .hbm, ⟨62, _⟩ => ⟨S8192x8192, .i32⟩
  | .hbm, ⟨63, _⟩ => ⟨S8192x8192, .i32⟩
  | .hbm, ⟨64, _⟩ => ⟨S8192x8192, .i1⟩
  | .hbm, ⟨65, _⟩ => ⟨S1x8192, .i32⟩
  | .hbm, ⟨66, _⟩ => ⟨S8192x1, .i32⟩
  | .hbm, ⟨67, _⟩ => ⟨S_, .i32⟩
  | .hbm, ⟨68, _⟩ => ⟨S8192x1, .i32⟩
  | .hbm, ⟨69, _⟩ => ⟨S8192x1, .i32⟩
  | .hbm, ⟨70, _⟩ => ⟨S8192x8192, .i32⟩
  | .hbm, ⟨71, _⟩ => ⟨S8192x8192, .i32⟩
  | .hbm, ⟨72, _⟩ => ⟨S8192x8192, .i1⟩
  | .hbm, ⟨73, _⟩ => ⟨S8192x8192, .i1⟩
  | .hbm, ⟨74, _⟩ => ⟨S1x1x8192x8192, .i1⟩
  | .hbm, ⟨75, _⟩ => ⟨S_, .f32⟩
  | .hbm, ⟨76, _⟩ => ⟨S_, .f32⟩
  | .hbm, ⟨77, _⟩ => ⟨S2x8x8192x8192, .i1⟩
  | .hbm, ⟨78, _⟩ => ⟨S2x8x8192x8192, .f32⟩
  | .hbm, ⟨79, _⟩ => ⟨S2x8x8192x8192, .f32⟩
  | .hbm, ⟨80, _⟩ => ⟨S_, .f32⟩
  | .hbm, ⟨81, _⟩ => ⟨S2x8x8192, .f32⟩
  | .hbm, ⟨82, _⟩ => ⟨S_, .f32⟩
  | .hbm, ⟨83, _⟩ => ⟨S2x8x8192, .f32⟩
  | .hbm, ⟨84, _⟩ => ⟨S2x8x8192, .f32⟩
  | .hbm, ⟨85, _⟩ => ⟨S2x8x8192x1, .f32⟩
  | .hbm, ⟨86, _⟩ => ⟨S2x8x8192x8192, .f32⟩
  | .hbm, ⟨87, _⟩ => ⟨S2x8x8192x8192, .f32⟩
  | .hbm, ⟨88, _⟩ => ⟨S2x8x8192x8192, .f32⟩
  | .hbm, ⟨89, _⟩ => ⟨S_, .f32⟩
  | .hbm, ⟨90, _⟩ => ⟨S2x8x8192, .f32⟩
  | .hbm, ⟨91, _⟩ => ⟨S2x8x8192x1, .f32⟩
  | .hbm, ⟨92, _⟩ => ⟨S2x8x8192x8192, .f32⟩
  | .hbm, ⟨93, _⟩ => ⟨S2x8x8192x8192, .f32⟩
  | .hbm, ⟨94, _⟩ => ⟨S2x8x128x8192, .f32⟩
  | .hbm, ⟨95, _⟩ => ⟨S2x8192x8x128, .f32⟩
  | .hbm, ⟨96, _⟩ => ⟨S16384x1024, .f32⟩
  | .hbm, ⟨97, _⟩ => ⟨S16384x1024, .bf16⟩
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v44 : Ref sig .tc := ⟨.hbm, 79, rfl⟩
abbrev main_cst_7 : Ref sig .tc := ⟨.hbm, 80, rfl⟩
abbrev main_v45 : Ref sig .tc := ⟨.hbm, 81, rfl⟩
abbrev main_cst_8 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩

abbrev nD : Nat := 1
abbrev τ : Topo := Topo.v7x

variable {F : FTy → Type} [FloatOps F]
-- ==== Kernel2.lean ====
abbrev S2x8192x2048 : Shape := ⟨3, ![2, 8192, 2048]⟩
abbrev S2x12288 : Shape := ⟨2, ![2, 12288]⟩
abbrev S1x2048 : Shape := ⟨2, ![1, 2048]⟩
abbrev S1x2048x10256 : Shape := ⟨3, ![1, 2048, 10256]⟩
abbrev S2x2048 : Shape := ⟨2, ![2, 2048]⟩
abbrev S2x1x2048 : Shape := ⟨3, ![2, 1, 2048]⟩
abbrev S2048x10256 : Shape := ⟨2, ![2048, 10256]⟩
abbrev S2048x6144 : Shape := ⟨2, ![2048, 6144]⟩
abbrev S2048x4096 : Shape := ⟨2, ![2048, 4096]⟩
abbrev S2048x10240 : Shape := ⟨2, ![2048, 10240]⟩
abbrev S2048x16 : Shape := ⟨2, ![2048, 16]⟩
abbrev S_ : Shape := ⟨0, ![]⟩
abbrev S2048x128 : Shape := ⟨2, ![2048, 128]⟩
abbrev S16384x2048 : Shape := ⟨2, ![16384, 2048]⟩
abbrev S2048 : Shape := ⟨1, ![2048]⟩
abbrev S16384x10240 : Shape := ⟨2, ![16384, 10240]⟩
abbrev S16384x128 : Shape := ⟨2, ![16384, 128]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 24
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x12288, .f32⟩
  | .hbm, ⟨2, _⟩ => ⟨S1x2048, .f32⟩
  | .hbm, ⟨3, _⟩ => ⟨S1x2048x10256, .f32⟩
  | .hbm, ⟨4, _⟩ => ⟨S2x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2048x10256, .f32⟩
  | .hbm, ⟨9, _⟩ => ⟨S2048x6144, .f32⟩
  | .hbm, ⟨10, _⟩ => ⟨S2048x6144, .bf16⟩
  | .hbm, ⟨11, _⟩ => ⟨S2048x4096, .f32⟩
  | .hbm, ⟨12, _⟩ => ⟨S2048x4096, .bf16⟩
  | .hbm, ⟨13, _⟩ => ⟨S2048x10240, .bf16⟩
  | .hbm, ⟨14, _⟩ => ⟨S2048x16, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S16384x2048, .f32⟩
  | .hbm, ⟨20, _⟩ => ⟨S2048, .f32⟩
  | .hbm, ⟨21, _⟩ => ⟨S1x2048, .f32⟩
  | .hbm, ⟨22, _⟩ => ⟨S16384x10240, .f32⟩
  | .hbm, ⟨23, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x8192x2048 : Shape := ⟨3, ![2, 8192, 2048]⟩
abbrev S2x12288 : Shape := ⟨2, ![2, 12288]⟩
abbrev S1x2048 : Shape := ⟨2, ![1, 2048]⟩
abbrev S1x2048x10256 : Shape := ⟨3, ![1, 2048, 10256]⟩
abbrev S2x2048 : Shape := ⟨2, ![2, 2048]⟩
abbrev S2x1x2048 : Shape := ⟨3, ![2, 1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x10256 : Shape := ⟨2, ![2048, 10256]⟩
abbrev S2x8192x10256 : Shape := ⟨3, ![2, 8192, 10256]⟩
abbrev S16384x10256 : Shape := ⟨2, ![16384, 10256]⟩
abbrev S16384x16 : Shape := ⟨2, ![16384, 16]⟩
abbrev S16384x6144 : Shape := ⟨2, ![16384, 6144]⟩
abbrev S16384x4096 : Shape := ⟨2, ![16384, 4096]⟩
abbrev S16384x10240 : Shape := ⟨2, ![16384, 10240]⟩
abbrev S16384x128 : Shape := ⟨2, ![16384, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x12288, .f32⟩
  | .hbm, ⟨2, _⟩ => ⟨S1x2048, .f32⟩
  | .hbm, ⟨3, _⟩ => ⟨S1x2048x10256, .f32⟩
  | .hbm, ⟨4, _⟩ => ⟨S2x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S1x1x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2048x10256, .f32⟩
  | .hbm, ⟨33, _⟩ => ⟨S2x8192x10256, .f32⟩
  | .hbm, ⟨34, _⟩ => ⟨S16384x10256, .f32⟩
  | .hbm, ⟨35, _⟩ => ⟨S16384x16, .f32⟩
  | .hbm, ⟨36, _⟩ => ⟨S16384x6144, .f32⟩
  | .hbm, ⟨37, _⟩ => ⟨S16384x4096, .f32⟩
  | .hbm, ⟨38, _⟩ => ⟨S16384x10240, .f32⟩
  | .hbm, ⟨39, _⟩ => ⟨S_, .i32⟩
  | .hbm, ⟨40, _⟩ => ⟨S_, .f32⟩
  | .hbm, ⟨41, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel3.lean ====
abbrev S16384x1024 : Shape := ⟨2, ![16384, 1024]⟩
abbrev S16384x10240 : Shape := ⟨2, ![16384, 10240]⟩
abbrev S2x8192x2048 : Shape := ⟨3, ![2, 8192, 2048]⟩
abbrev S2x12288 : Shape := ⟨2, ![2, 12288]⟩
abbrev S1x2048 : Shape := ⟨2, ![1, 2048]⟩
abbrev S1x1024x2048 : Shape := ⟨3, ![1, 1024, 2048]⟩
abbrev S1x2048x2048 : Shape := ⟨3, ![1, 2048, 2048]⟩
abbrev S2x2048 : Shape := ⟨2, ![2, 2048]⟩
abbrev S2x1x2048 : Shape := ⟨3, ![2, 1, 2048]⟩
abbrev S16384x2048 : Shape := ⟨2, ![16384, 2048]⟩
abbrev S2048 : Shape := ⟨1, ![2048]⟩
abbrev S1024x2048 : Shape := ⟨2, ![1024, 2048]⟩
abbrev S2048x2048 : Shape := ⟨2, ![2048, 2048]⟩
abbrev S2048x16384 : Shape := ⟨2, ![2048, 16384]⟩
abbrev S256x1024 : Shape := ⟨2, ![256, 1024]⟩
abbrev S256x2048 : Shape := ⟨2, ![256, 2048]⟩
abbrev S1x1x2048 : Shape := ⟨3, ![1, 1, 2048]⟩
abbrev S2048x256 : Shape := ⟨2, ![2048, 256]⟩
abbrev S256 : Shape := ⟨1, ![256]⟩
abbrev S256x1 : Shape := ⟨2, ![256, 1]⟩

abbrev nBuf : Space → Nat
  | .hbm => 26
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .f32⟩
  | .hbm, ⟨3, _⟩ => ⟨S2x8192x2048, .f32⟩
  | .hbm, ⟨4, _⟩ => ⟨S2x12288, .f32⟩
  | .hbm, ⟨5, _⟩ => ⟨S1x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S16384x2048, .f32⟩
  | .hbm, ⟨16, _⟩ => ⟨S2048, .f32⟩
  | .hbm, ⟨17, _⟩ => ⟨S1x2048, .f32⟩
  | .hbm, ⟨18, _⟩ => ⟨S1024x2048, .f32⟩
  | .hbm, ⟨19, _⟩ => ⟨S1024x2048, .bf16⟩
  | .hbm, ⟨20, _⟩ => ⟨S1024x2048, .f32⟩
  | .hbm, ⟨21, _⟩ => ⟨S1024x2048, .bf16⟩
  | .hbm, ⟨22, _⟩ => ⟨S2048x2048, .f32⟩
  | .hbm, ⟨23, _⟩ => ⟨S2048x2048, .bf16⟩
  | .hbm, ⟨24, _⟩ => ⟨S16384x2048, .f32⟩
  | .hbm, ⟨25, _⟩ => ⟨S2048x16384, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S256x2048, .f32⟩
  | .local _ .vmem, ⟨21, _⟩ => ⟨S256x2048, .f32⟩
  | .local _ .vmem, ⟨22, _⟩ => ⟨S2048x256, .bf16⟩
  | .local _ .vmem, ⟨23, _⟩ => ⟨S2048x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S16384x10240 : Shape := ⟨2, ![16384, 10240]⟩
abbrev S2x8192x2048 : Shape := ⟨3, ![2, 8192, 2048]⟩
abbrev S2x12288 : Shape := ⟨2, ![2, 12288]⟩
abbrev S1x2048 : Shape := ⟨2, ![1, 2048]⟩
abbrev S1x1024x2048 : Shape := ⟨3, ![1, 1024, 2048]⟩
abbrev S1x2048x2048 : Shape := ⟨3, ![1, 2048, 2048]⟩
abbrev S2x2048 : Shape := ⟨2, ![2, 2048]⟩
abbrev S2x1x2048 : Shape := ⟨3, ![2, 1, 2048]⟩
abbrev S2x8192x1024 : Shape := ⟨3, ![2, 8192, 1024]⟩
abbrev S16384x4096 : Shape := ⟨2, ![16384, 4096]⟩
abbrev S2x8192x4096 : Shape := ⟨3, ![2, 8192, 4096]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩
abbrev S2048x16384 : Shape := ⟨2, ![2048, 16384]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .f32⟩
  | .hbm, ⟨3, _⟩ => ⟨S2x8192x2048, .f32⟩
  | .hbm, ⟨4, _⟩ => ⟨S2x12288, .f32⟩
  | .hbm, ⟨5, _⟩ => ⟨S1x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S16384x1024, .f32⟩
  | .hbm, ⟨16, _⟩ => ⟨S2x8192x1024, .f32⟩
  | .hbm, ⟨17, _⟩ => ⟨S16384x1024, .f32⟩
  | .hbm, ⟨18, _⟩ => ⟨S2x8192x1024, .f32⟩
  | .hbm, ⟨19, _⟩ => ⟨S16384x4096, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S_, .f32⟩
  | .hbm, ⟨24, _⟩ => ⟨S2x8192x4096, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x2048, .f32⟩
  | .hbm, ⟨30, _⟩ => ⟨S2x8192x2048, .f32⟩
  | .hbm, ⟨31, _⟩ => ⟨S1024x2048, .f32⟩
  | .hbm, ⟨32, _⟩ => ⟨S2x8192x2048, .f32⟩
  | .hbm, ⟨33, _⟩ => ⟨S2x8192x2048, .f32⟩
  | .hbm, ⟨34, _⟩ => ⟨S1024x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2048x2048, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S2x8192x2048, .f32⟩
  | .hbm, ⟨43, _⟩ => ⟨S2048, .f32⟩
  | .hbm, ⟨44, _⟩ => ⟨S2x8192x2048, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x2048, .f32⟩
  | .hbm, ⟨56, _⟩ => ⟨S2x8192x2048, .f32⟩
  | .hbm, ⟨57, _⟩ => ⟨S1x1x2048, .f32⟩
  | .hbm, ⟨58, _⟩ => ⟨S2x8192x2048, .f32⟩
  | .hbm, ⟨59, _⟩ => ⟨S2x8192x2048, .f32⟩
  | .hbm, ⟨60, _⟩ => ⟨S_, .f32⟩
  | .hbm, ⟨61, _⟩ => ⟨S2x1x2048, .f32⟩
  | .hbm, ⟨62, _⟩ => ⟨S2x1x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S2x8192x2048, .f32⟩
  | .hbm, ⟨67, _⟩ => ⟨S16384x2048, .f32⟩
  | .hbm, ⟨68, _⟩ => ⟨S16384x2048, .f32⟩
  | .hbm, ⟨69, _⟩ => ⟨S2048x16384, .f32⟩
  | .hbm, ⟨70, _⟩ => ⟨S2048x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Kernel4.lean ====
abbrev S512x10240 : Shape := ⟨2, ![512, 10240]⟩
abbrev S512x128 : Shape := ⟨2, ![512, 128]⟩
abbrev S1x32x4x128x256 : Shape := ⟨5, ![1, 32, 4, 128, 256]⟩
abbrev S1x16x512 : Shape := ⟨3, ![1, 16, 512]⟩
abbrev S1x512 : Shape := ⟨2, ![1, 512]⟩
abbrev S1x256 : Shape := ⟨2, ![1, 256]⟩
abbrev S16x512 : Shape := ⟨2, ![16, 512]⟩
abbrev S_ : Shape := ⟨0, ![]⟩
abbrev S128x512 : Shape := ⟨2, ![128, 512]⟩
abbrev S32x4x128x256 : Shape := ⟨4, ![32, 4, 128, 256]⟩
abbrev S512 : Shape := ⟨1, ![512]⟩
abbrev S256 : Shape := ⟨1, ![256]⟩
abbrev S512x1024 : Shape := ⟨2, ![512, 1024]⟩
abbrev S16x1024 : Shape := ⟨2, ![16, 1024]⟩
abbrev S16x128 : Shape := ⟨2, ![16, 128]⟩
abbrev S1x4x128x256 : Shape := ⟨4, ![1, 4, 128, 256]⟩
abbrev S16x16 : Shape := ⟨2, ![16, 16]⟩
abbrev S16x256 : Shape := ⟨2, ![16, 256]⟩
abbrev S128x128 : Shape := ⟨2, ![128, 128]⟩
abbrev S1x128 : Shape := ⟨2, ![1, 128]⟩
abbrev S128x256 : Shape := ⟨2, ![128, 256]⟩
abbrev S1x1x128x256 : Shape := ⟨4, ![1, 1, 128, 256]⟩
abbrev S16 : Shape := ⟨1, ![16]⟩
abbrev S16x1 : Shape := ⟨2, ![16, 1]⟩

abbrev nBuf : Space → Nat
  | .hbm => 18
  | .vmem => 19
  | .smem => 0
  | _ => 0

abbrev bufTy : (tb : Table) → Fin (tcTables nBuf tb) → BufTy
  | .hbm, ⟨0, _⟩ => ⟨S512x10240, .f32⟩
  | .hbm, ⟨1, _⟩ => ⟨S512x128, .f32⟩
  | .hbm, ⟨2, _⟩ => ⟨S1x32x4x128x256, .f32⟩
  | .hbm, ⟨3, _⟩ => ⟨S1x16x512, .f32⟩
  | .hbm, ⟨4, _⟩ => ⟨S1x512, .f32⟩
  | .hbm, ⟨5, _⟩ => ⟨S1x256, .f32⟩
  | .hbm, ⟨6, _⟩ => ⟨S16x512, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S128x512, .bf16⟩
  | .hbm, ⟨11, _⟩ => ⟨S32x4x128x256, .f32⟩
  | .hbm, ⟨12, _⟩ => ⟨S512, .f32⟩
  | .hbm, ⟨13, _⟩ => ⟨S1x512, .f32⟩
  | .hbm, ⟨14, _⟩ => ⟨S256, .f32⟩
  | .hbm, ⟨15, _⟩ => ⟨S1x256, .f32⟩
  | .hbm, ⟨16, _⟩ => ⟨S512x1024, .bf16⟩
  | .hbm, ⟨17, _⟩ => ⟨S32x4x128x256, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x128, .f32⟩
  | .local _ .vmem, ⟨9, _⟩ => ⟨S16x128, .f32⟩
  | .local _ .vmem, ⟨10, _⟩ => ⟨S1x4x128x256, .f32⟩
  | .local _ .vmem, ⟨11, _⟩ => ⟨S1x4x128x256, .f32⟩
  | .local _ .vmem, ⟨12, _⟩ => ⟨S128x512, .bf16⟩
  | .local _ .vmem, ⟨13, _⟩ => ⟨S1x512, .f32⟩
  | .local _ .vmem, ⟨14, _⟩ => ⟨S1x256, .f32⟩
  | .local _ .vmem, ⟨15, _⟩ => ⟨S16x1024, .bf16⟩
  | .local _ .vmem, ⟨16, _⟩ => ⟨S16x1024, .bf16⟩
  | .local _ .vmem, ⟨17, _⟩ => ⟨S1x4x128x256, .f32⟩
  | .local _ .vmem, ⟨18, _⟩ => ⟨S1x4x128x256, .f32⟩
  | _, _ => ⟨S512x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S512x10240 : Shape := ⟨2, ![512, 10240]⟩
abbrev S512x128 : Shape := ⟨2, ![512, 128]⟩
abbrev S1x32x4x128x256 : Shape := ⟨5, ![1, 32, 4, 128, 256]⟩
abbrev S1x16x512 : Shape := ⟨3, ![1, 16, 512]⟩
abbrev S1x512 : Shape := ⟨2, ![1, 512]⟩
abbrev S1x256 : Shape := ⟨2, ![1, 256]⟩
abbrev S512x512 : Shape := ⟨2, ![512, 512]⟩
abbrev S32x16x4x128 : Shape := ⟨4, ![32, 16, 4, 128]⟩
abbrev S_ : Shape := ⟨0, ![]⟩
abbrev S512x1024 : Shape := ⟨2, ![512, 1024]⟩
abbrev S32x16x4x256 : Shape := ⟨4, ![32, 16, 4, 256]⟩
abbrev S512x16 : Shape := ⟨2, ![512, 16]⟩
abbrev S16x512 : Shape := ⟨2, ![16, 512]⟩
abbrev S512 : Shape := ⟨1, ![512]⟩
abbrev S32x1x4x128 : Shape := ⟨4, ![32, 1, 4, 128]⟩
abbrev S32x4x16x16 : Shape := ⟨4, ![32, 4, 16, 16]⟩
abbrev S16x16 : Shape := ⟨2, ![16, 16]⟩
abbrev S32x4x256x16 : Shape := ⟨4, ![32, 4, 256, 16]⟩
abbrev S32x4x128x256 : Shape := ⟨4, ![32, 4, 128, 256]⟩
abbrev S32x4x128 : Shape := ⟨3, ![32, 4, 128]⟩
abbrev S32x4x128x1 : Shape := ⟨4, ![32, 4, 128, 1]⟩
abbrev S256 : Shape := ⟨1, ![256]⟩
abbrev S32x16x4 : Shape := ⟨3, ![32, 16, 4]⟩
abbrev S32x16x4x1 : Shape := ⟨4, ![32, 16, 4, 1]⟩
abbrev S1x1x1x256 : Shape := ⟨4, ![1, 1, 1, 256]⟩

abbrev nBuf : Space → Nat
  | .hbm => 125
  | .vmem => 0
  | .smem => 0
  | _ => 0

abbrev bufTy : (tb : Table) → Fin (tcTables nBuf tb) → BufTy
  | .hbm, ⟨0, _⟩ => ⟨S512x10240, .f32⟩
  | .hbm, ⟨1, _⟩ => ⟨S512x128, .f32⟩
  | .hbm, ⟨2, _⟩ => ⟨S1x32x4x128x256, .f32⟩
  | .hbm, ⟨3, _⟩ => ⟨S1x16x512, .f32⟩
  | .hbm, ⟨4, _⟩ => ⟨S1x512, .f32⟩
  | .hbm, ⟨5, _⟩ => ⟨S1x256, .f32⟩
  | .hbm, ⟨6, _⟩ => ⟨S512x512, .f32⟩
  | .hbm, ⟨7, _⟩ => ⟨S32x16x4x128, .f32⟩
  | .hbm, ⟨8, _⟩ => ⟨S_, .f32⟩
  | .hbm, ⟨9, _⟩ => ⟨S32x16x4x128, .f32⟩
  | .hbm, ⟨10, _⟩ => ⟨S32x16x4x128, .f32⟩
  | .hbm, ⟨11, _⟩ => ⟨S512x512, .f32⟩
  | .hbm, ⟨12, _⟩ => ⟨S32x16x4x128, .f32⟩
  | .hbm, ⟨13, _⟩ => ⟨S_, .f32⟩
  | .hbm, ⟨14, _⟩ => ⟨S32x16x4x128, .f32⟩
  | .hbm, ⟨15, _⟩ => ⟨S32x16x4x128, .f32⟩
  | .hbm, ⟨16, _⟩ => ⟨S512x1024, .f32⟩
  | .hbm, ⟨17, _⟩ => ⟨S32x16x4x256, .f32⟩
  | .hbm, ⟨18, _⟩ => ⟨S512x16, .f32⟩
  | .hbm, ⟨19, _⟩ => ⟨S16x512, .f32⟩
  | .hbm, ⟨20, _⟩ => ⟨S512x512, .f32⟩
  | .hbm, ⟨21, _⟩ => ⟨S512, .f32⟩
  | .hbm, ⟨22, _⟩ => ⟨S1x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .i1⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S32x16x4x128, .f32⟩
  | .hbm, ⟨45, _⟩ => ⟨S_, .f32⟩
  | .hbm, ⟨46, _⟩ => ⟨S_, .f32⟩
  | .hbm, ⟨47, _⟩ => ⟨S32x16x4x128, .f32⟩
  | .hbm, ⟨48, _⟩ => ⟨S32x1x4x128, .f32⟩
  | .hbm, ⟨49, _⟩ => ⟨S32x16x4x128, .f32⟩
  | .hbm, ⟨50, _⟩ => ⟨S32x16x4x128, .f32⟩
  | .hbm, ⟨51, _⟩ => ⟨S32x16x4x128, .f32⟩
  | .hbm, ⟨52, _⟩ => ⟨S32x16x4x128, .f32⟩
  | .hbm, ⟨53, _⟩ => ⟨S32x16x4x128, .f32⟩
  | .hbm, ⟨54, _⟩ => ⟨S32x16x4x128, .f32⟩
  | .hbm, ⟨55, _⟩ => ⟨S32x16x4x128, .f32⟩
  | .hbm, ⟨56, _⟩ => ⟨S32x16x4x128, .f32⟩
  | .hbm, ⟨57, _⟩ => ⟨S32x4x16x16, .f32⟩
  | .hbm, ⟨58, _⟩ => ⟨S_, .i1⟩
  | .hbm, ⟨59, _⟩ => ⟨S16x16, .i1⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i32⟩
  | .hbm, ⟨65, _⟩ => ⟨S16x16, .i1⟩
  | .hbm, ⟨66, _⟩ => ⟨S_, .i1⟩
  | .hbm, ⟨67, _⟩ => ⟨S16x16, .i1⟩
  | .hbm, ⟨68, _⟩ => ⟨S16x16, .i1⟩
  | .hbm, ⟨69, _⟩ => ⟨S_, .f32⟩
  | .hbm, ⟨70, _⟩ => ⟨S_, .f32⟩
  | .hbm, ⟨71, _⟩ => ⟨S32x4x16x16, .i1⟩
  | .hbm, ⟨72, _⟩ => ⟨S32x4x16x16, .f32⟩
  | .hbm, ⟨73, _⟩ => ⟨S32x4x16x16, .f32⟩
  | .hbm, ⟨74, _⟩ => ⟨S32x1x4x128, .f32⟩
  | .hbm, ⟨75, _⟩ => ⟨S32x4x256x16, .f32⟩
  | .hbm, ⟨76, _⟩ => ⟨S32x16x4x256, .f32⟩
  | .hbm, ⟨77, _⟩ => ⟨S32x16x4x128, .f32⟩
  | .hbm, ⟨78, _⟩ => ⟨S32x16x4x128, .f32⟩
  | .hbm, ⟨79, _⟩ => ⟨S32x4x128x256, .f32⟩
  | .hbm, ⟨80, _⟩ => ⟨S32x4x256x16, .f32⟩
  | .hbm, ⟨81, _⟩ => ⟨S32x16x4x256, .f32⟩
  | .hbm, ⟨82, _⟩ => ⟨S32x16x4x256, .f32⟩
  | .hbm, ⟨83, _⟩ => ⟨S32x4x128, .f32⟩
  | .hbm, ⟨84, _⟩ => ⟨S32x4x128, .f32⟩
  | .hbm, ⟨85, _⟩ => ⟨S32x4x128x1, .f32⟩
  | .hbm, ⟨86, _⟩ => ⟨S32x4x128x256, .f32⟩
  | .hbm, ⟨87, _⟩ => ⟨S32x4x128x256, .f32⟩
  | .hbm, ⟨88, _⟩ => ⟨S32x4x128x256, .f32⟩
  | .hbm, ⟨89, _⟩ => ⟨S32x16x4x128, .f32⟩
  | .hbm, ⟨90, _⟩ => ⟨S32x16x4x128, .f32⟩
  | .hbm, ⟨91, _⟩ => ⟨S32x16x4x128, .f32⟩
  | .hbm, ⟨92, _⟩ => ⟨S32x16x4x128, .f32⟩
  | .hbm, ⟨93, _⟩ => ⟨S32x4x128x256, .f32⟩
  | .hbm, ⟨94, _⟩ => ⟨S32x4x128x256, .f32⟩
  | .hbm, ⟨95, _⟩ => ⟨S256, .f32⟩
  | .hbm, ⟨96, _⟩ => ⟨S32x16x4x256, .f32⟩
  | .hbm, ⟨97, _⟩ => ⟨S_, .f32⟩
  | .hbm, ⟨98, _⟩ => ⟨S32x16x4, .f32⟩
  | .hbm, ⟨99, _⟩ => ⟨S32x16x4x1, .f32⟩
  | .hbm, ⟨100, _⟩ => ⟨S_, .f32⟩
  | .hbm, ⟨101, _⟩ => ⟨S32x16x4x1, .f32⟩
  | .hbm, ⟨102, _⟩ => ⟨S32x16x4x1, .f32⟩
  | .hbm, ⟨103, _⟩ => ⟨S_, .f32⟩
  | .hbm, ⟨104, _⟩ => ⟨S32x16x4x1, .f32⟩
  | .hbm, ⟨105, _⟩ => ⟨S32x16x4x1, .f32⟩
  | .hbm, ⟨106, _⟩ => ⟨S32x16x4x1, .f32⟩
  | .hbm, ⟨107, _⟩ => ⟨S32x16x4x256, .f32⟩
  | .hbm, ⟨108, _⟩ => ⟨S32x16x4x256, .f32⟩
  | .hbm, ⟨109, _⟩ => ⟨S1x1x1x256, .f32⟩
  | .hbm, ⟨110, _⟩ => ⟨S32x16x4x256, .f32⟩
  | .hbm, ⟨111, _⟩ => ⟨S32x16x4x256, .f32⟩
  | .hbm, ⟨112, _⟩ => ⟨S512x1024, .f32⟩
  | .hbm, ⟨113, _⟩ => ⟨S512x1024, .f32⟩
  | .hbm, ⟨114, _⟩ => ⟨S512x1024, .f32⟩
  | .hbm, ⟨115, _⟩ => ⟨S512x1024, .f32⟩
  | .hbm, ⟨116, _⟩ => ⟨S_, .f32⟩
  | .hbm, ⟨117, _⟩ => ⟨S512x1024, .f32⟩
  | .hbm, ⟨118, _⟩ => ⟨S512x1024, .f32⟩
  | .hbm, ⟨119, _⟩ => ⟨S_, .f32⟩
  | .hbm, ⟨120, _⟩ => ⟨S512x1024, .f32⟩
  | .hbm, ⟨121, _⟩ => ⟨S512x1024, .f32⟩
  | .hbm, ⟨122, _⟩ => ⟨S512x1024, .f32⟩
  | .hbm, ⟨123, _⟩ => ⟨S512x1024, .f32⟩
  | .hbm, ⟨124, _⟩ => ⟨S512x1024, .bf16⟩
  | _, _ => ⟨S512x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call1_call0_cst : Ref sig .tc := ⟨.hbm, 45, rfl⟩
abbrev main_call1_call0_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c : Ref sig .tc := ⟨.hbm, 58, rfl⟩
abbrev main_v32 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v33 : Ref sig .tc := ⟨.hbm, 68, rfl⟩
abbrev main_cst_2 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_3 : Ref sig .tc := ⟨.hbm, 97, rfl⟩
abbrev main_v58 : Ref sig .tc := ⟨.hbm, 98, rfl⟩
abbrev main_v59 : Ref sig .tc := ⟨.hbm, 99, rfl⟩
abbrev main_cst_4 : Ref sig .tc := ⟨.hbm, 100, rfl⟩
abbrev main_v60 : Ref sig .tc := ⟨.hbm, 101, rfl⟩
abbrev main_v61 : Ref sig .tc := ⟨.hbm, 102, rfl⟩
abbrev main_cst_5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩

abbrev nD : Nat := 1
abbrev τ : Topo := Topo.v7x

variable {F : FTy → Type} [FloatOps F]
-- ==== Kernel5.lean ====
abbrev S2x2048 : Shape := ⟨2, ![2, 2048]⟩
abbrev S32x2048 : Shape := ⟨2, ![32, 2048]⟩
abbrev S1x2048x12288 : Shape := ⟨3, ![1, 2048, 12288]⟩
abbrev S1x12288 : Shape := ⟨2, ![1, 12288]⟩
abbrev S_ : Shape := ⟨0, ![]⟩
abbrev S14x2048 : Shape := ⟨2, ![14, 2048]⟩
abbrev S48x2048 : Shape := ⟨2, ![48, 2048]⟩
abbrev S2048x12288 : Shape := ⟨2, ![2048, 12288]⟩
abbrev S12288 : Shape := ⟨1, ![12288]⟩
abbrev S48x12288 : Shape := ⟨2, ![48, 12288]⟩
abbrev S2048x1024 : Shape := ⟨2, ![2048, 1024]⟩
abbrev S1x1024 : Shape := ⟨2, ![1, 1024]⟩
abbrev S48x1024 : Shape := ⟨2, ![48, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S_, .f32⟩
  | .hbm, ⟨5, _⟩ => ⟨S14x2048, .f32⟩
  | .hbm, ⟨6, _⟩ => ⟨S48x2048, .f32⟩
  | .hbm, ⟨7, _⟩ => ⟨S2048x12288, .f32⟩
  | .hbm, ⟨8, _⟩ => ⟨S12288, .f32⟩
  | .hbm, ⟨9, _⟩ => ⟨S1x12288, .f32⟩
  | .hbm, ⟨10, _⟩ => ⟨S48x12288, .f32⟩
  | .local _ .vmem, ⟨0, _⟩ => ⟨S48x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S48x1024, .f32⟩
  | .local _ .vmem, ⟨6, _⟩ => ⟨S48x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x2048 : Shape := ⟨2, ![2, 2048]⟩
abbrev S32x2048 : Shape := ⟨2, ![32, 2048]⟩
abbrev S1x2048x12288 : Shape := ⟨3, ![1, 2048, 12288]⟩
abbrev S1x12288 : Shape := ⟨2, ![1, 12288]⟩
abbrev S34x2048 : Shape := ⟨2, ![34, 2048]⟩
abbrev S_ : Shape := ⟨0, ![]⟩
abbrev S48x2048 : Shape := ⟨2, ![48, 2048]⟩
abbrev S2048x12288 : Shape := ⟨2, ![2048, 12288]⟩
abbrev S48x12288 : Shape := ⟨2, ![48, 12288]⟩
abbrev S12288 : Shape := ⟨1, ![12288]⟩

abbrev nBuf : Space → Nat
  | .hbm => 23
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S34x2048, .f32⟩
  | .hbm, ⟨5, _⟩ => ⟨S_, .i32⟩
  | .hbm, ⟨6, _⟩ => ⟨S_, .f32⟩
  | .hbm, ⟨7, _⟩ => ⟨S48x2048, .f32⟩
  | .hbm, ⟨8, _⟩ => ⟨S48x2048, .f32⟩
  | .hbm, ⟨9, _⟩ => ⟨S48x2048, .f32⟩
  | .hbm, ⟨10, _⟩ => ⟨S_, .f32⟩
  | .hbm, ⟨11, _⟩ => ⟨S48x2048, .f32⟩
  | .hbm, ⟨12, _⟩ => ⟨S48x2048, .f32⟩
  | .hbm, ⟨13, _⟩ => ⟨S_, .f32⟩
  | .hbm, ⟨14, _⟩ => ⟨S48x2048, .f32⟩
  | .hbm, ⟨15, _⟩ => ⟨S48x2048, .f32⟩
  | .hbm, ⟨16, _⟩ => ⟨S48x2048, .f32⟩
  | .hbm, ⟨17, _⟩ => ⟨S2048x12288, .f32⟩
  | .hbm, ⟨18, _⟩ => ⟨S48x12288, .f32⟩
  | .hbm, ⟨19, _⟩ => ⟨S12288, .f32⟩
  | .hbm, ⟨20, _⟩ => ⟨S1x12288, .f32⟩
  | .hbm, ⟨21, _⟩ => ⟨S48x12288, .f32⟩
  | .hbm, ⟨22, _⟩ => ⟨S48x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_call1_cst : Ref sig .tc := ⟨.hbm, 10, rfl⟩
abbrev main_call1_v2 : Ref sig .tc := ⟨.hbm, 11, rfl⟩
abbrev main_call1_v3 : Ref sig .tc := ⟨.hbm, 12, rfl⟩
abbrev main_call1_cst_0 : Ref sig .tc := ⟨.hbm, 13, rfl⟩
abbrev main_call1_v4 : Ref sig .tc := ⟨.hbm, 14, rfl⟩
abbrev main_call1_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Kernel6.lean ====
abbrev S32x16x2048 : Shape := ⟨3, ![32, 16, 2048]⟩
abbrev S32x12288 : Shape := ⟨2, ![32, 12288]⟩
abbrev S1x2048 : Shape := ⟨2, ![1, 2048]⟩
abbrev S1x2048x10256 : Shape := ⟨3, ![1, 2048, 10256]⟩
abbrev S32x2048 : Shape := ⟨2, ![32, 2048]⟩
abbrev S512x2048 : Shape := ⟨2, ![512, 2048]⟩
abbrev S2048x10256 : Shape := ⟨2, ![2048, 10256]⟩
abbrev S2048x6144 : Shape := ⟨2, ![2048, 6144]⟩
abbrev S2048x4096 : Shape := ⟨2, ![2048, 4096]⟩
abbrev S2048x10240 : Shape := ⟨2, ![2048, 10240]⟩
abbrev S2048x16 : Shape := ⟨2, ![2048, 16]⟩
abbrev S_ : Shape := ⟨0, ![]⟩
abbrev S2048x128 : Shape := ⟨2, ![2048, 128]⟩
abbrev S2048 : Shape := ⟨1, ![2048]⟩
abbrev S512x10240 : Shape := ⟨2, ![512, 10240]⟩
abbrev S512x128 : Shape := ⟨2, ![512, 128]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 11
  | .smem => 0
  | _ => 0

abbrev bufTy : (tb : Table) → Fin (tcTables nBuf tb) → BufTy
  | .hbm, ⟨0, _⟩ => ⟨S32x16x2048, .f32⟩
  | .hbm, ⟨1, _⟩ => ⟨S32x12288, .f32⟩
  | .hbm, ⟨2, _⟩ => ⟨S1x2048, .f32⟩
  | .hbm, ⟨3, _⟩ => ⟨S1x2048x10256, .f32⟩
  | .hbm, ⟨4, _⟩ => ⟨S32x2048, .f32⟩
  | .hbm, ⟨5, _⟩ => ⟨S32x16x2048, .f32⟩
  | .hbm, ⟨6, _⟩ => ⟨S512x2048, .f32⟩
  | .hbm, ⟨7, _⟩ => ⟨S32x2048, .f32⟩
  | .hbm, ⟨8, _⟩ => ⟨S32x16x2048, .f32⟩
  | .hbm, ⟨9, _⟩ => ⟨S512x2048, .f32⟩
  | .hbm, ⟨10, _⟩ => ⟨S2048x10256, .f32⟩
  | .hbm, ⟨11, _⟩ => ⟨S2048x6144, .f32⟩
  | .hbm, ⟨12, _⟩ => ⟨S2048x6144, .bf16⟩
  | .hbm, ⟨13, _⟩ => ⟨S2048x4096, .f32⟩
  | .hbm, ⟨14, _⟩ => ⟨S2048x4096, .bf16⟩
  | .hbm, ⟨15, _⟩ => ⟨S2048x10240, .bf16⟩
  | .hbm, ⟨16, _⟩ => ⟨S2048x16, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S2048x128, .bf16⟩
  | .hbm, ⟨21, _⟩ => ⟨S512x2048, .f32⟩
  | .hbm, ⟨22, _⟩ => ⟨S2048, .f32⟩
  | .hbm, ⟨23, _⟩ => ⟨S1x2048, .f32⟩
  | .hbm, ⟨24, _⟩ => ⟨S512x10240, .f32⟩
  | .hbm, ⟨25, _⟩ => ⟨S512x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x2048, .bf16⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨2, ![1, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference6Ideal.lean ====
abbrev S32x16x2048 : Shape := ⟨3, ![32, 16, 2048]⟩
abbrev S32x12288 : Shape := ⟨2, ![32, 12288]⟩
abbrev S1x2048 : Shape := ⟨2, ![1, 2048]⟩
abbrev S1x2048x10256 : Shape := ⟨3, ![1, 2048, 10256]⟩
abbrev S32x2048 : Shape := ⟨2, ![32, 2048]⟩
abbrev S32x1x2048 : Shape := ⟨3, ![32, 1, 2048]⟩
abbrev S2048 : Shape := ⟨1, ![2048]⟩
abbrev S_ : Shape := ⟨0, ![]⟩
abbrev S32x16 : Shape := ⟨2, ![32, 16]⟩
abbrev S32x16x1 : Shape := ⟨3, ![32, 16, 1]⟩
abbrev S1x1x2048 : Shape := ⟨3, ![1, 1, 2048]⟩
abbrev S2048x10256 : Shape := ⟨2, ![2048, 10256]⟩
abbrev S32x16x10256 : Shape := ⟨3, ![32, 16, 10256]⟩
abbrev S512x10256 : Shape := ⟨2, ![512, 10256]⟩
abbrev S512x16 : Shape := ⟨2, ![512, 16]⟩
abbrev S512x6144 : Shape := ⟨2, ![512, 6144]⟩
abbrev S512x4096 : Shape := ⟨2, ![512, 4096]⟩
abbrev S512x10240 : Shape := ⟨2, ![512, 10240]⟩
abbrev S512x128 : Shape := ⟨2, ![512, 128]⟩

abbrev nBuf : Space → Nat
  | .hbm => 42
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S32x12288, .f32⟩
  | .hbm, ⟨2, _⟩ => ⟨S1x2048, .f32⟩
  | .hbm, ⟨3, _⟩ => ⟨S1x2048x10256, .f32⟩
  | .hbm, ⟨4, _⟩ => ⟨S32x2048, .f32⟩
  | .hbm, ⟨5, _⟩ => ⟨S32x1x2048, .f32⟩
  | .hbm, ⟨6, _⟩ => ⟨S32x2048, .f32⟩
  | .hbm, ⟨7, _⟩ => ⟨S32x1x2048, .f32⟩
  | .hbm, ⟨8, _⟩ => ⟨S2048, .f32⟩
  | .hbm, ⟨9, _⟩ => ⟨S32x16x2048, .f32⟩
  | .hbm, ⟨10, _⟩ => ⟨S_, .f32⟩
  | .hbm, ⟨11, _⟩ => ⟨S32x16, .f32⟩
  | .hbm, ⟨12, _⟩ => ⟨S32x16x1, .f32⟩
  | .hbm, ⟨13, _⟩ => ⟨S_, .f32⟩
  | .hbm, ⟨14, _⟩ => ⟨S32x16x1, .f32⟩
  | .hbm, ⟨15, _⟩ => ⟨S32x16x1, .f32⟩
  | .hbm, ⟨16, _⟩ => ⟨S_, .f32⟩
  | .hbm, ⟨17, _⟩ => ⟨S32x16x1, .f32⟩
  | .hbm, ⟨18, _⟩ => ⟨S32x16x1, .f32⟩
  | .hbm, ⟨19, _⟩ => ⟨S32x16x1, .f32⟩
  | .hbm, ⟨20, _⟩ => ⟨S32x16x2048, .f32⟩
  | .hbm, ⟨21, _⟩ => ⟨S32x16x2048, .f32⟩
  | .hbm, ⟨22, _⟩ => ⟨S1x1x2048, .f32⟩
  | .hbm, ⟨23, _⟩ => ⟨S32x16x2048, .f32⟩
  | .hbm, ⟨24, _⟩ => ⟨S32x16x2048, .f32⟩
  | .hbm, ⟨25, _⟩ => ⟨S_, .f32⟩
  | .hbm, ⟨26, _⟩ => ⟨S32x1x2048, .f32⟩
  | .hbm, ⟨27, _⟩ => ⟨S32x1x2048, .f32⟩
  | .hbm, ⟨28, _⟩ => ⟨S32x16x2048, .f32⟩
  | .hbm, ⟨29, _⟩ => ⟨S32x16x2048, .f32⟩
  | .hbm, ⟨30, _⟩ => ⟨S32x16x2048, .f32⟩
  | .hbm, ⟨31, _⟩ => ⟨S32x16x2048, .f32⟩
  | .hbm, ⟨32, _⟩ => ⟨S2048x10256, .f32⟩
  | .hbm, ⟨33, _⟩ => ⟨S32x16x10256, .f32⟩
  | .hbm, ⟨34, _⟩ => ⟨S512x10256, .f32⟩
  | .hbm, ⟨35, _⟩ => ⟨S512x16, .f32⟩
  | .hbm, ⟨36, _⟩ => ⟨S512x6144, .f32⟩
  | .hbm, ⟨37, _⟩ => ⟨S512x4096, .f32⟩
  | .hbm, ⟨38, _⟩ => ⟨S512x10240, .f32⟩
  | .hbm, ⟨39, _⟩ => ⟨S_, .i32⟩
  | .hbm, ⟨40, _⟩ => ⟨S_, .f32⟩
  | .hbm, ⟨41, _⟩ => ⟨S512x128, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel7.lean ====
abbrev S1x2048x2048 : Shape := ⟨3, ![1, 2048, 2048]⟩
abbrev S1x2x128x128 : Shape := ⟨4, ![1, 2, 128, 128]⟩
abbrev S2048x2048 : Shape := ⟨2, ![2048, 2048]⟩
abbrev S2x128x128 : Shape := ⟨3, ![2, 128, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 7
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x2x128x128, .f32⟩
  | .hbm, ⟨2, _⟩ => ⟨S2048x2048, .f32⟩
  | .hbm, ⟨3, _⟩ => ⟨S2048x2048, .bf16⟩
  | .hbm, ⟨4, _⟩ => ⟨S2x128x128, .f32⟩
  | .hbm, ⟨5, _⟩ => ⟨S2x128x128, .bf16⟩
  | .hbm, ⟨6, _⟩ => ⟨S2048x2048, .f32⟩
  | .local _ .vmem, ⟨0, _⟩ => ⟨S2048x128, .bf16⟩
  | .local _ .vmem, ⟨1, _⟩ => ⟨S2048x128, .bf16⟩
  | .local _ .vmem, ⟨2, _⟩ => ⟨S1x128x128, .bf16⟩
  | .local _ .vmem, ⟨3, _⟩ => ⟨S1x128x128, .bf16⟩
  | .local _ .vmem, ⟨4, _⟩ => ⟨S2048x128, .f32⟩
  | .local _ .vmem, ⟨5, _⟩ => ⟨S2048x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S1x2048x2048 : Shape := ⟨3, ![1, 2048, 2048]⟩
abbrev S1x2x128x128 : Shape := ⟨4, ![1, 2, 128, 128]⟩
abbrev S2048x2048 : Shape := ⟨2, ![2048, 2048]⟩
abbrev S2048x8x2x128 : Shape := ⟨4, ![2048, 8, 2, 128]⟩
abbrev S2x128x128 : Shape := ⟨3, ![2, 128, 128]⟩
abbrev S2x128x2048x8 : Shape := ⟨4, ![2, 128, 2048, 8]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2x128x128, .f32⟩
  | .hbm, ⟨2, _⟩ => ⟨S2048x2048, .f32⟩
  | .hbm, ⟨3, _⟩ => ⟨S2048x8x2x128, .f32⟩
  | .hbm, ⟨4, _⟩ => ⟨S2x128x128, .f32⟩
  | .hbm, ⟨5, _⟩ => ⟨S2x128x2048x8, .f32⟩
  | .hbm, ⟨6, _⟩ => ⟨S2048x8x2x128, .f32⟩
  | .hbm, ⟨7, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S512x10240 : Shape := ⟨2, ![512, 10240]⟩
abbrev S1x32x512x8x128 : Shape := ⟨5, ![1, 32, 512, 8, 128]⟩
abbrev S1x8x257 : Shape := ⟨3, ![1, 8, 257]⟩
abbrev S8x257 : Shape := ⟨2, ![8, 257]⟩
abbrev S8x128 : Shape := ⟨2, ![8, 128]⟩
abbrev S8x1 : Shape := ⟨2, ![8, 1]⟩
abbrev S8x399 : Shape := ⟨2, ![8, 399]⟩
abbrev S8x527 : Shape := ⟨2, ![8, 527]⟩
abbrev S_ : Shape := ⟨0, ![]⟩
abbrev S8x528 : Shape := ⟨2, ![8, 528]⟩
abbrev S1x8x1x528 : Shape := ⟨4, ![1, 8, 1, 528]⟩
abbrev S1x8x16x528 : Shape := ⟨4, ![1, 8, 16, 528]⟩
abbrev S8x8448 : Shape := ⟨2, ![8, 8448]⟩
abbrev S8x8432 : Shape := ⟨2, ![8, 8432]⟩
abbrev S8x16x527 : Shape := ⟨3, ![8, 16, 527]⟩
abbrev S8x16x512 : Shape := ⟨3, ![8, 16, 512]⟩
abbrev S8x31 : Shape := ⟨2, ![8, 31]⟩
abbrev S8x32 : Shape := ⟨2, ![8, 32]⟩
abbrev S1x8x1x32 : Shape := ⟨4, ![1, 8, 1, 32]⟩
abbrev S1x8x16x32 : Shape := ⟨4, ![1, 8, 16, 32]⟩
abbrev S8x512 : Shape := ⟨2, ![8, 512]⟩
abbrev S8x496 : Shape := ⟨2, ![8, 496]⟩
abbrev S8x16x31 : Shape := ⟨3, ![8, 16, 31]⟩
abbrev S8x16x16 : Shape := ⟨3, ![8, 16, 16]⟩
abbrev S32x512x8x128 : Shape := ⟨4, ![32, 512, 8, 128]⟩
abbrev S32x4096x128 : Shape := ⟨3, ![32, 4096, 128]⟩
abbrev S512x1024 : Shape := ⟨2, ![512, 1024]⟩
abbrev S16x1024 : Shape := ⟨2, ![16, 1024]⟩
abbrev S1x4096x128 : Shape := ⟨3, ![1, 4096, 128]⟩
abbrev S16x128 : Shape := ⟨2, ![16, 128]⟩
abbrev S1x512x128 : Shape := ⟨3, ![1, 512, 128]⟩
abbrev S512x128 : Shape := ⟨2, ![512, 128]⟩
abbrev S16x512 : Shape := ⟨2, ![16, 512]⟩
abbrev S16x16 : Shape := ⟨2, ![16, 16]⟩
abbrev S1x16x512 : Shape := ⟨3, ![1, 16, 512]⟩
abbrev S1x16x16 : Shape := ⟨3, ![1, 16, 16]⟩
abbrev S16 : Shape := ⟨1, ![16]⟩
abbrev S16x1 : Shape := ⟨2, ![16, 1]⟩

abbrev nBuf : Space → Nat
  | .hbm => 35
  | .vmem => 14
  | .smem => 0
  | _ => 0

abbrev bufTy : (tb : Table) → Fin (tcTables nBuf tb) → BufTy
  | .hbm, ⟨0, _⟩ => ⟨S512x10240, .f32⟩
  | .hbm, ⟨1, _⟩ => ⟨S1x32x512x8x128, .f32⟩
  | .hbm, ⟨2, _⟩ => ⟨S1x32x512x8x128, .f32⟩
  | .hbm, ⟨3, _⟩ => ⟨S1x8x257, .f32⟩
  | .hbm, ⟨4, _⟩ => ⟨S8x257, .f32⟩
  | .hbm, ⟨5, _⟩ => ⟨S8x128, .f32⟩
  | .hbm, ⟨6, _⟩ => ⟨S8x1, .f32⟩
  | .hbm, ⟨7, _⟩ => ⟨S8x399, .f32⟩
  | .hbm, ⟨8, _⟩ => ⟨S8x527, .f32⟩
  | .hbm, ⟨9, _⟩ => ⟨S8x527, .f32⟩
  | .hbm, ⟨10, _⟩ => ⟨S_, .i32⟩
  | .hbm, ⟨11, _⟩ => ⟨S_, .f32⟩
  | .hbm, ⟨12, _⟩ => ⟨S8x528, .f32⟩
  | .hbm, ⟨13, _⟩ => ⟨S1x8x1x528, .f32⟩
  | .hbm, ⟨14, _⟩ => ⟨S1x8x16x528, .f32⟩
  | .hbm, ⟨15, _⟩ => ⟨S8x8448, .f32⟩
  | .hbm, ⟨16, _⟩ => ⟨S8x8432, .f32⟩
  | .hbm, ⟨17, _⟩ => ⟨S8x16x527, .f32⟩
  | .hbm, ⟨18, _⟩ => ⟨S8x16x512, .f32⟩
  | .hbm, ⟨19, _⟩ => ⟨S8x31, .f32⟩
  | .hbm, ⟨20, _⟩ => ⟨S8x31, .f32⟩
  | .hbm, ⟨21, _⟩ => ⟨S_, .i32⟩
  | .hbm, ⟨22, _⟩ => ⟨S_, .f32⟩
  | .hbm, ⟨23, _⟩ => ⟨S8x32, .f32⟩
  | .hbm, ⟨24, _⟩ => ⟨S1x8x1x32, .f32⟩
  | .hbm, ⟨25, _⟩ => ⟨S1x8x16x32, .f32⟩
  | .hbm, ⟨26, _⟩ => ⟨S8x512, .f32⟩
  | .hbm, ⟨27, _⟩ => ⟨S8x496, .f32⟩
  | .hbm, ⟨28, _⟩ => ⟨S8x16x31, .f32⟩
  | .hbm, ⟨29, _⟩ => ⟨S8x16x16, .f32⟩
  | .hbm, ⟨30, _⟩ => ⟨S32x512x8x128, .f32⟩
  | .hbm, ⟨31, _⟩ => ⟨S32x4096x128, .f32⟩
  | .hbm, ⟨32, _⟩ => ⟨S32x512x8x128, .f32⟩
  | .hbm, ⟨33, _⟩ => ⟨S32x4096x128, .f32⟩
  | .hbm, ⟨34, _⟩ => ⟨S512x1024, .bf16⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S8x16x512, .f32⟩
  | .local _ .vmem, ⟨11, _⟩ => ⟨S8x16x16, .f32⟩
  | .local _ .vmem, ⟨12, _⟩ => ⟨S16x1024, .bf16⟩
  | .local _ .vmem, ⟨13, _⟩ => ⟨S16x1024, .bf16⟩
  | _, _ => ⟨S512x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call3_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S512x10240 : Shape := ⟨2, ![512, 10240]⟩
abbrev S1x32x512x8x128 : Shape := ⟨5, ![1, 32, 512, 8, 128]⟩
abbrev S1x8x257 : Shape := ⟨3, ![1, 8, 257]⟩
abbrev S512x1024 : Shape := ⟨2, ![512, 1024]⟩
abbrev S32x16x8x128 : Shape := ⟨4, ![32, 16, 8, 128]⟩
abbrev S32x512x8x128 : Shape := ⟨4, ![32, 512, 8, 128]⟩
abbrev S32x528x8x128 : Shape := ⟨4, ![32, 528, 8, 128]⟩
abbrev S16 : Shape := ⟨1, ![16]⟩
abbrev S_ : Shape := ⟨0, ![]⟩
abbrev S528 : Shape := ⟨1, ![528]⟩
abbrev S32x8x16x528 : Shape := ⟨4, ![32, 8, 16, 528]⟩
abbrev S16x1 : Shape := ⟨2, ![16, 1]⟩
abbrev S1x528 : Shape := ⟨2, ![1, 528]⟩
abbrev S16x528 : Shape := ⟨2, ![16, 528]⟩
abbrev S8x257 : Shape := ⟨2, ![8, 257]⟩
abbrev S16x528x1 : Shape := ⟨3, ![16, 528, 1]⟩
abbrev S8x16x528 : Shape := ⟨3, ![8, 16, 528]⟩
abbrev S1x8x16x528 : Shape := ⟨4, ![1, 8, 16, 528]⟩
abbrev S1x1x16x528 : Shape := ⟨4, ![1, 1, 16, 528]⟩
abbrev S32x8x16 : Shape := ⟨3, ![32, 8, 16]⟩
abbrev S32x8x16x1 : Shape := ⟨4, ![32, 8, 16, 1]⟩
abbrev S32x8x128x16 : Shape := ⟨4, ![32, 8, 128, 16]⟩

abbrev nBuf : Space → Nat
  | .hbm => 135
  | .vmem => 0
  | .smem => 0
  | _ => 0

abbrev hbmTy0_0 (i : Nat) : BufTy := match i % 128 with
  | 0 => ⟨S512x10240, .f32⟩
  | 1 => ⟨S1x32x512x8x128, .f32⟩
  | 2 => ⟨S1x32x512x8x128, .f32⟩
  | 3 => ⟨S1x8x257, .f32⟩
  | 4 => ⟨S512x1024, .f32⟩
  | 5 => ⟨S32x16x8x128, .f32⟩
  | 6 => ⟨S512x1024, .f32⟩
  | 7 => ⟨S32x16x8x128, .f32⟩
  | 8 => ⟨S512x1024, .f32⟩
  | 9 => ⟨S32x16x8x128, .f32⟩
  | 10 => ⟨S32x512x8x128, .f32⟩
  | 11 => ⟨S32x528x8x128, .f32⟩
  | 12 => ⟨S32x512x8x128, .f32⟩
  | 13 => ⟨S32x528x8x128, .f32⟩
  | 14 => ⟨S16, .i32⟩
  | 15 => ⟨S_, .i32⟩
  | 16 => ⟨S16, .i32⟩
  | 17 => ⟨S16, .i32⟩
  | 18 => ⟨S528, .i32⟩
  | 19 => ⟨S_, .i32⟩
  | 20 => ⟨S528, .i32⟩
  | 21 => ⟨S528, .i32⟩
  | 22 => ⟨S32x8x16x528, .f32⟩
  | 23 => ⟨S_, .f32⟩
  | 24 => ⟨S32x8x16x528, .f32⟩
  | 25 => ⟨S32x8x16x528, .f32⟩
  | 26 => ⟨S16x1, .i32⟩
  | 27 => ⟨S1x528, .i32⟩
  | 28 => ⟨S16x528, .i32⟩
  | 29 => ⟨S16x528, .i32⟩
  | 30 => ⟨S16x528, .i32⟩
  | 31 => ⟨S_, .i32⟩
  | 32 => ⟨S_, .i32⟩
  | 33 => ⟨S_, .i32⟩
  | 34 => ⟨S16x528, .i32⟩
  | 35 => ⟨S16x528, .i32⟩
  | 36 => ⟨S_, .i32⟩
  | 37 => ⟨S16x528, .i32⟩
  | 38 => ⟨S16x528, .i32⟩
  | 39 => ⟨S_, .i32⟩
  | 40 => ⟨S16x528, .i32⟩
  | 41 => ⟨S16x528, .i32⟩
  | 42 => ⟨S8x257, .f32⟩
  | 43 => ⟨S_, .i32⟩
  | 44 => ⟨S16x528, .i32⟩
  | 45 => ⟨S16x528, .i1⟩
  | 46 => ⟨S_, .i32⟩
  | 47 => ⟨S16x528, .i32⟩
  | 48 => ⟨S16x528, .i32⟩
  | 49 => ⟨S16x528, .i32⟩
  | 50 => ⟨S16x528x1, .i32⟩
  | 51 => ⟨S8x16x528, .f32⟩
  | 52 => ⟨S1x8x16x528, .f32⟩
  | 53 => ⟨S32x8x16x528, .f32⟩
  | 54 => ⟨S32x8x16x528, .f32⟩
  | 55 => ⟨S_, .i32⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i1⟩
  | 63 => ⟨S16, .i32⟩
  | 64 => ⟨S16, .i32⟩
  | 65 => ⟨S_, .i32⟩
  | 66 => ⟨S16, .i32⟩
  | 67 => ⟨S16, .i1⟩
  | 68 => ⟨S16, .i1⟩
  | 69 => ⟨S_, .i32⟩
  | 70 => ⟨S16, .i32⟩
  | 71 => ⟨S16, .i32⟩
  | 72 => ⟨S16, .i32⟩
  | 73 => ⟨S_, .i32⟩
  | 74 => ⟨S_, .i32⟩
  | 75 => ⟨S528, .i32⟩
  | 76 => ⟨S528, .i32⟩
  | 77 => ⟨S528, .i32⟩
  | 78 => ⟨S_, .i32⟩
  | 79 => ⟨S528, .i32⟩
  | 80 => ⟨S528, .i1⟩
  | 81 => ⟨S528, .i32⟩
  | 82 => ⟨S528, .i32⟩
  | 83 => ⟨S_, .i32⟩
  | 84 => ⟨S528, .i32⟩
  | 85 => ⟨S528, .i1⟩
  | 86 => ⟨S528, .i1⟩
  | 87 => ⟨S_, .i32⟩
  | 88 => ⟨S528, .i32⟩
  | 89 => ⟨S528, .i32⟩
  | 90 => ⟨S528, .i32⟩
  | 91 => ⟨S1x528, .i32⟩
  | 92 => ⟨S_, .i32⟩
  | 93 => ⟨S1x528, .i32⟩
  | 94 => ⟨S1x528, .i1⟩
  | 95 => ⟨S1x528, .i32⟩
  | 96 => ⟨S16x1, .i32⟩
  | 97 => ⟨S16x528, .i32⟩
  | 98 => ⟨S16x528, .i32⟩
  | 99 => ⟨S16x528, .i1⟩
  | 100 => ⟨S16x528, .i1⟩
  | 101 => ⟨S16x528, .i1⟩
  | 102 => ⟨S1x528, .i32⟩
  | 103 => ⟨S16x1, .i32⟩
  | 104 => ⟨S_, .i32⟩
  | 105 => ⟨S16x1, .i32⟩
  | 106 => ⟨S16x1, .i32⟩
  | 107 => ⟨S16x528, .i32⟩
  | 108 => ⟨S16x528, .i32⟩
  | 109 => ⟨S16x528, .i1⟩
  | 110 => ⟨S16x528, .i1⟩
  | 111 => ⟨S1x1x16x528, .i1⟩
  | 112 => ⟨S_, .f32⟩
  | 113 => ⟨S_, .f32⟩
  | 114 => ⟨S32x8x16x528, .i1⟩
  | 115 => ⟨S32x8x16x528, .f32⟩
  | 116 => ⟨S32x8x16x528, .f32⟩
  | 117 => ⟨S_, .f32⟩
  | 118 => ⟨S32x8x16, .f32⟩
  | 119 => ⟨S_, .f32⟩
  | 120 => ⟨S32x8x16, .f32⟩
  | 121 => ⟨S32x8x16, .f32⟩
  | 122 => ⟨S32x8x16x1, .f32⟩
  | 123 => ⟨S32x8x16x528, .f32⟩
  | 124 => ⟨S32x8x16x528, .f32⟩
  | 125 => ⟨S32x8x16x528, .f32⟩
  | 126 => ⟨S_, .f32⟩
  | 127 => ⟨S32x8x16, .f32⟩
  | _ => ⟨S512x10240, .f32⟩

abbrev hbmTy0_1 (i : Nat) : BufTy := match i % 128 with
  | 0 => ⟨S32x8x16x1, .f32⟩
  | 1 => ⟨S32x8x16x528, .f32⟩
  | 2 => ⟨S32x8x16x528, .f32⟩
  | 3 => ⟨S32x8x128x16, .f32⟩
  | 4 => ⟨S32x16x8x128, .f32⟩
  | 5 => ⟨S512x1024, .f32⟩
  | 6 => ⟨S512x1024, .bf16⟩
  | _ => ⟨S512x10240, .f32⟩

abbrev hbmTy (i : Nat) : BufTy := match i / 128 with
  | 0 => hbmTy0_0 i
  | 1 => hbmTy0_1 i
  | _ => ⟨S512x10240, .f32⟩

abbrev bufTy : (tb : Table) → Fin (tcTables nBuf tb) → BufTy
  | .hbm, ⟨i, _⟩ => hbmTy i
  | _, _ => ⟨S512x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v38 : Ref sig .tc := ⟨.hbm, 72, rfl⟩
abbrev main_c_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_c : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_0 : Ref sig .tc := ⟨.hbm, 87, rfl⟩
abbrev main_call2_v12 : Ref sig .tc := ⟨.hbm, 88, rfl⟩
abbrev main_call2_v13 : Ref sig .tc := ⟨.hbm, 89, rfl⟩
abbrev main_v39 : Ref sig .tc := ⟨.hbm, 90, rfl⟩
abbrev main_v40 : Ref sig .tc := ⟨.hbm, 91, rfl⟩
abbrev main_c_8 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_9 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_10 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v59 : Ref sig .tc := ⟨.hbm, 116, rfl⟩
abbrev main_cst_11 : Ref sig .tc := ⟨.hbm, 117, rfl⟩
abbrev main_v60 : Ref sig .tc := ⟨.hbm, 118, rfl⟩
abbrev main_cst_12 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_13 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩

abbrev nD : Nat := 1
abbrev τ : Topo := Topo.v7x

variable {F : FTy → Type} [FloatOps F]
-- ==== Kernel9.lean ====
abbrev S512x1024 : Shape := ⟨2, ![512, 1024]⟩
abbrev S512x10240 : Shape := ⟨2, ![512, 10240]⟩
abbrev S32x16x2048 : Shape := ⟨3, ![32, 16, 2048]⟩
abbrev S32x12288 : Shape := ⟨2, ![32, 12288]⟩
abbrev S1x2048 : Shape := ⟨2, ![1, 2048]⟩
abbrev S1x1024x2048 : Shape := ⟨3, ![1, 1024, 2048]⟩
abbrev S1x2048x2048 : Shape := ⟨3, ![1, 2048, 2048]⟩
abbrev S32x2048 : Shape := ⟨2, ![32, 2048]⟩
abbrev S512x2048 : Shape := ⟨2, ![512, 2048]⟩
abbrev S2048 : Shape := ⟨1, ![2048]⟩
abbrev S1024x2048 : Shape := ⟨2, ![1024, 2048]⟩
abbrev S2048x2048 : Shape := ⟨2, ![2048, 2048]⟩
abbrev S2048x512 : Shape := ⟨2, ![2048, 512]⟩
abbrev S256x1024 : Shape := ⟨2, ![256, 1024]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 29
  | .vmem => 24
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x10240, .f32⟩
  | .hbm, ⟨3, _⟩ => ⟨S32x16x2048, .f32⟩
  | .hbm, ⟨4, _⟩ => ⟨S32x12288, .f32⟩
  | .hbm, ⟨5, _⟩ => ⟨S1x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S32x2048, .f32⟩
  | .hbm, ⟨10, _⟩ => ⟨S32x16x2048, .f32⟩
  | .hbm, ⟨11, _⟩ => ⟨S512x2048, .f32⟩
  | .hbm, ⟨12, _⟩ => ⟨S32x2048, .f32⟩
  | .hbm, ⟨13, _⟩ => ⟨S32x16x2048, .f32⟩
  | .hbm, ⟨14, _⟩ => ⟨S512x2048, .f32⟩
  | .hbm, ⟨15, _⟩ => ⟨S32x2048, .f32⟩
  | .hbm, ⟨16, _⟩ => ⟨S32x16x2048, .f32⟩
  | .hbm, ⟨17, _⟩ => ⟨S512x2048, .f32⟩
  | .hbm, ⟨18, _⟩ => ⟨S512x2048, .f32⟩
  | .hbm, ⟨19, _⟩ => ⟨S2048, .f32⟩
  | .hbm, ⟨20, _⟩ => ⟨S1x2048, .f32⟩
  | .hbm, ⟨21, _⟩ => ⟨S1024x2048, .f32⟩
  | .hbm, ⟨22, _⟩ => ⟨S1024x2048, .bf16⟩
  | .hbm, ⟨23, _⟩ => ⟨S1024x2048, .f32⟩
  | .hbm, ⟨24, _⟩ => ⟨S1024x2048, .bf16⟩
  | .hbm, ⟨25, _⟩ => ⟨S2048x2048, .f32⟩
  | .hbm, ⟨26, _⟩ => ⟨S2048x2048, .bf16⟩
  | .hbm, ⟨27, _⟩ => ⟨S512x2048, .f32⟩
  | .hbm, ⟨28, _⟩ => ⟨S2048x512, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S256x2048, .f32⟩
  | .local _ .vmem, ⟨21, _⟩ => ⟨S256x2048, .f32⟩
  | .local _ .vmem, ⟨22, _⟩ => ⟨S2048x256, .bf16⟩
  | .local _ .vmem, ⟨23, _⟩ => ⟨S2048x256, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S512x1024 : Shape := ⟨2, ![512, 1024]⟩
abbrev S512x10240 : Shape := ⟨2, ![512, 10240]⟩
abbrev S32x16x2048 : Shape := ⟨3, ![32, 16, 2048]⟩
abbrev S32x12288 : Shape := ⟨2, ![32, 12288]⟩
abbrev S1x2048 : Shape := ⟨2, ![1, 2048]⟩
abbrev S1x1024x2048 : Shape := ⟨3, ![1, 1024, 2048]⟩
abbrev S1x2048x2048 : Shape := ⟨3, ![1, 2048, 2048]⟩
abbrev S32x2048 : Shape := ⟨2, ![32, 2048]⟩
abbrev S32x1x2048 : Shape := ⟨3, ![32, 1, 2048]⟩
abbrev S32x16x1024 : Shape := ⟨3, ![32, 16, 1024]⟩
abbrev S512x4096 : Shape := ⟨2, ![512, 4096]⟩
abbrev S32x16x4096 : Shape := ⟨3, ![32, 16, 4096]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S32x16 : Shape := ⟨2, ![32, 16]⟩
abbrev S32x16x1 : Shape := ⟨3, ![32, 16, 1]⟩
abbrev S1x1x2048 : Shape := ⟨3, ![1, 1, 2048]⟩
abbrev S512x2048 : Shape := ⟨2, ![512, 2048]⟩
abbrev S2048x512 : Shape := ⟨2, ![2048, 512]⟩

abbrev nBuf : Space → Nat
  | .hbm => 71
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x10240, .f32⟩
  | .hbm, ⟨3, _⟩ => ⟨S32x16x2048, .f32⟩
  | .hbm, ⟨4, _⟩ => ⟨S32x12288, .f32⟩
  | .hbm, ⟨5, _⟩ => ⟨S1x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S32x2048, .f32⟩
  | .hbm, ⟨10, _⟩ => ⟨S32x1x2048, .f32⟩
  | .hbm, ⟨11, _⟩ => ⟨S32x2048, .f32⟩
  | .hbm, ⟨12, _⟩ => ⟨S32x1x2048, .f32⟩
  | .hbm, ⟨13, _⟩ => ⟨S32x2048, .f32⟩
  | .hbm, ⟨14, _⟩ => ⟨S32x1x2048, .f32⟩
  | .hbm, ⟨15, _⟩ => ⟨S512x1024, .f32⟩
  | .hbm, ⟨16, _⟩ => ⟨S32x16x1024, .f32⟩
  | .hbm, ⟨17, _⟩ => ⟨S512x1024, .f32⟩
  | .hbm, ⟨18, _⟩ => ⟨S32x16x1024, .f32⟩
  | .hbm, ⟨19, _⟩ => ⟨S512x4096, .f32⟩
  | .hbm, ⟨20, _⟩ => ⟨S32x16x4096, .f32⟩
  | .hbm, ⟨21, _⟩ => ⟨S32x16x4096, .f32⟩
  | .hbm, ⟨22, _⟩ => ⟨S32x16x4096, .f32⟩
  | .hbm, ⟨23, _⟩ => ⟨S_, .f32⟩
  | .hbm, ⟨24, _⟩ => ⟨S32x16x4096, .f32⟩
  | .hbm, ⟨25, _⟩ => ⟨S32x16x4096, .f32⟩
  | .hbm, ⟨26, _⟩ => ⟨S_, .f32⟩
  | .hbm, ⟨27, _⟩ => ⟨S32x16x4096, .f32⟩
  | .hbm, ⟨28, _⟩ => ⟨S32x16x4096, .f32⟩
  | .hbm, ⟨29, _⟩ => ⟨S32x16x2048, .f32⟩
  | .hbm, ⟨30, _⟩ => ⟨S32x16x2048, .f32⟩
  | .hbm, ⟨31, _⟩ => ⟨S1024x2048, .f32⟩
  | .hbm, ⟨32, _⟩ => ⟨S32x16x2048, .f32⟩
  | .hbm, ⟨33, _⟩ => ⟨S32x16x2048, .f32⟩
  | .hbm, ⟨34, _⟩ => ⟨S1024x2048, .f32⟩
  | .hbm, ⟨35, _⟩ => ⟨S32x16x2048, .f32⟩
  | .hbm, ⟨36, _⟩ => ⟨S32x16x2048, .f32⟩
  | .hbm, ⟨37, _⟩ => ⟨S32x16x2048, .f32⟩
  | .hbm, ⟨38, _⟩ => ⟨S2048x2048, .f32⟩
  | .hbm, ⟨39, _⟩ => ⟨S32x16x2048, .f32⟩
  | .hbm, ⟨40, _⟩ => ⟨S32x16x2048, .f32⟩
  | .hbm, ⟨41, _⟩ => ⟨S32x16x2048, .f32⟩
  | .hbm, ⟨42, _⟩ => ⟨S32x16x2048, .f32⟩
  | .hbm, ⟨43, _⟩ => ⟨S2048, .f32⟩
  | .hbm, ⟨44, _⟩ => ⟨S32x16x2048, .f32⟩
  | .hbm, ⟨45, _⟩ => ⟨S_, .f32⟩
  | .hbm, ⟨46, _⟩ => ⟨S32x16, .f32⟩
  | .hbm, ⟨47, _⟩ => ⟨S32x16x1, .f32⟩
  | .hbm, ⟨48, _⟩ => ⟨S_, .f32⟩
  | .hbm, ⟨49, _⟩ => ⟨S32x16x1, .f32⟩
  | .hbm, ⟨50, _⟩ => ⟨S32x16x1, .f32⟩
  | .hbm, ⟨51, _⟩ => ⟨S_, .f32⟩
  | .hbm, ⟨52, _⟩ => ⟨S32x16x1, .f32⟩
  | .hbm, ⟨53, _⟩ => ⟨S32x16x1, .f32⟩
  | .hbm, ⟨54, _⟩ => ⟨S32x16x1, .f32⟩
  | .hbm, ⟨55, _⟩ => ⟨S32x16x2048, .f32⟩
  | .hbm, ⟨56, _⟩ => ⟨S32x16x2048, .f32⟩
  | .hbm, ⟨57, _⟩ => ⟨S1x1x2048, .f32⟩
  | .hbm, ⟨58, _⟩ => ⟨S32x16x2048, .f32⟩
  | .hbm, ⟨59, _⟩ => ⟨S32x16x2048, .f32⟩
  | .hbm, ⟨60, _⟩ => ⟨S_, .f32⟩
  | .hbm, ⟨61, _⟩ => ⟨S32x1x2048, .f32⟩
  | .hbm, ⟨62, _⟩ => ⟨S32x1x2048, .f32⟩
  | .hbm, ⟨63, _⟩ => ⟨S32x16x2048, .f32⟩
  | .hbm, ⟨64, _⟩ => ⟨S32x16x2048, .f32⟩
  | .hbm, ⟨65, _⟩ => ⟨S32x16x2048, .f32⟩
  | .hbm, ⟨66, _⟩ => ⟨S32x16x2048, .f32⟩
  | .hbm, ⟨67, _⟩ => ⟨S512x2048, .f32⟩
  | .hbm, ⟨68, _⟩ => ⟨S512x2048, .f32⟩
  | .hbm, ⟨69, _⟩ => ⟨S2048x512, .f32⟩
  | .hbm, ⟨70, _⟩ => ⟨S2048x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Proof.Softmax.lean ====
/-
  The mathematics of a masked softmax average over the extended reals: the average over a window of keys, divided once at
  the end, is the average over all keys with every weight divided, when every key outside the window is masked by `-∞`.
-/
module

public import Idealize.ShloMosaic.PureOps.Ideal
public import Idealize.ShloMosaic.PureOps.Ideal.Laws

@[expose] public section

noncomputable section

namespace Cert.Band

open Idealize.ShloMosaic

/-- A sum of extended reals times a real constant that is not negative, term by term. -/
theorem sum_mul_real {ι : Type*} (A : Finset ι) (f : ι → EReal) (r : ℝ) (hr : 0 ≤ r) :
    (∑ i ∈ A, f i) * (r : EReal) = ∑ i ∈ A, f i * (r : EReal) := by
  classical
  induction A using Finset.induction_on with
  | empty => simp
  | insert a A ha ih =>
    rw [Finset.sum_insert ha, Finset.sum_insert ha, ← ih]
    exact EReal.right_distrib_of_nonneg_of_ne_top (by exact_mod_cast hr) (EReal.coe_ne_top r) _ _

/-- The greatest of finitely many extended reals, `-∞` for none. -/
def top {ι : Type*} [Fintype ι] (s : ι → EReal) : EReal := Finset.univ.fold max ⊥ s

/-- The greatest as a supremum. -/
theorem top_eq_sup {ι : Type*} [Fintype ι] (s : ι → EReal) : top s = Finset.univ.sup s := rfl

/-- The weight of an entry: the exponential of its distance from the greatest. -/
def weight {ι : Type*} [Fintype ι] (s : ι → EReal) (i : ι) : EReal := Ideal.exp (s i - top s)

/-- The weighted average with one division at the end. -/
def lateAverage {ι : Type*} [Fintype ι] (s v : ι → EReal) : EReal :=
  Ideal.div (∑ i, weight s i * v i) (∑ i, weight s i)

/-- The weighted average with each weight divided first: softmax, then the product with the values. -/
def average {ι : Type*} [Fintype ι] (s v : ι → EReal) : EReal :=
  ∑ i, Ideal.div (weight s i) (∑ j, weight s j) * v i

/-- A masked entry has no weight. -/
theorem weight_of_bot {ι : Type*} [Fintype ι] (s : ι → EReal) (i : ι) (h : s i = ⊥) : weight s i = 0 := by
  unfold weight
  rw [h, EReal.bot_sub]
  rfl

/-- Below `+∞` everywhere and above `-∞` somewhere, the greatest is a real number. -/
theorem top_real {ι : Type*} [Fintype ι] (s : ι → EReal) (ht : ∀ i, s i ≠ ⊤) (i₀ : ι) (h₀ : s i₀ ≠ ⊥) :
    ∃ r : ℝ, top s = r := by
  have h1 : top s ≠ ⊤ := by
    rw [top_eq_sup]
    exact ((Finset.sup_lt_iff (bot_lt_top : (⊥ : EReal) < ⊤)).2 fun i _ => lt_top_iff_ne_top.2 (ht i)).ne
  have h2 : top s ≠ ⊥ := by
    intro h
    have : s i₀ ≤ ⊥ := by rw [← h, top_eq_sup]; exact Finset.le_sup (Finset.mem_univ i₀)
    exact h₀ (le_bot_iff.1 this)
  exact ⟨(top s).toReal, (EReal.coe_toReal h1 h2).symm⟩

/-- Each weight is a nonnegative real, a positive one where the entry is not masked. -/
theorem weight_real {ι : Type*} [Fintype ι] (s : ι → EReal) (ht : ∀ i, s i ≠ ⊤) (i₀ : ι) (h₀ : s i₀ ≠ ⊥) (i : ι) :
    ∃ r : ℝ, weight s i = r ∧ 0 ≤ r ∧ (s i ≠ ⊥ → 0 < r) := by
  obtain ⟨t, e⟩ := top_real s ht i₀ h₀
  by_cases h : s i = ⊥
  · exact ⟨0, by rw [weight_of_bot s i h]; rfl, le_rfl, fun hn => absurd h hn⟩
  · obtain ⟨x, hx⟩ : ∃ x : ℝ, s i = x := ⟨(s i).toReal, (EReal.coe_toReal (ht i) h).symm⟩
    refine ⟨Real.exp (x - t), ?_, (Real.exp_pos _).le, fun _ => Real.exp_pos _⟩
    unfold weight
    rw [e, hx, ← EReal.coe_sub]
    rfl

/-- So their sum is a positive real. -/
theorem weights_real {ι : Type*} [Fintype ι] (s : ι → EReal) (ht : ∀ i, s i ≠ ⊤) (i₀ : ι) (h₀ : s i₀ ≠ ⊥) :
    ∃ r : ℝ, ∑ i, weight s i = r ∧ 0 < r := by
  choose r hr h0 hp using weight_real s ht i₀ h₀
  refine ⟨∑ i, r i, ?_, ?_⟩
  · rw [Finset.sum_congr rfl fun i _ => hr i]
    exact (map_sum (⟨⟨Real.toEReal, rfl⟩, EReal.coe_add⟩ : ℝ →+ EReal) r Finset.univ).symm
  · exact Finset.sum_pos' (fun i _ => h0 i) ⟨i₀, Finset.mem_univ _, hp i₀ h₀⟩

/-- Dividing at the end is dividing first. -/
theorem lateAverage_eq {ι : Type*} [Fintype ι] (s v : ι → EReal) (ht : ∀ i, s i ≠ ⊤) (i₀ : ι) (h₀ : s i₀ ≠ ⊥) :
    lateAverage s v = average s v := by
  obtain ⟨r, hr, hp⟩ := weights_real s ht i₀ h₀
  unfold lateAverage average
  rw [hr, Ideal.div_coe hp.ne', sum_mul_real _ _ _ (by positivity)]
  refine Finset.sum_congr rfl fun i _ => ?_
  rw [Ideal.div_coe hp.ne', mul_assoc, mul_comm (v i), ← mul_assoc]

/-- The window: `p c` says that window entry `c` is a key, `σ c` which one. A masked or absent window entry is `-∞`, and
    so is every key that no window entry names. Then the two greatest entries agree. -/
theorem top_window {ι κ : Type*} [Fintype ι] [Fintype κ] (s : ι → EReal) (s' : κ → EReal) (p : ι → Prop) (σ : ι → κ)
    (hs : ∀ c, p c → s c = s' (σ c)) (hn : ∀ c, ¬ p c → s c = ⊥) (ho : ∀ k, (∀ c, p c → σ c ≠ k) → s' k = ⊥) :
    top s = top s' := by
  rw [top_eq_sup, top_eq_sup]
  apply le_antisymm
  · refine Finset.sup_le fun c _ => ?_
    by_cases h : p c
    · rw [hs c h]; exact Finset.le_sup (Finset.mem_univ _)
    · rw [hn c h]; exact bot_le
  · refine Finset.sup_le fun k _ => ?_
    by_cases h : ∀ c, p c → σ c ≠ k
    · rw [ho k h]; exact bot_le
    · push Not at h
      obtain ⟨c, hc, rfl⟩ := h
      rw [← hs c hc]; exact Finset.le_sup (Finset.mem_univ _)

/-- A sum over the keys whose masked terms vanish is the sum over the window. -/
theorem sum_window {ι κ : Type*} [Fintype ι] [Fintype κ] (f : ι → EReal) (f' : κ → EReal) (p : ι → Prop) (σ : ι → κ)
    (hσ : ∀ c d, p c → p d → σ c = σ d → c = d)
    (hs : ∀ c, p c → f c = f' (σ c)) (hn : ∀ c, ¬ p c → f c = 0) (ho : ∀ k, (∀ c, p c → σ c ≠ k) → f' k = 0) :
    ∑ c, f c = ∑ k, f' k := by
  classical
  rw [← Finset.sum_subset (Finset.subset_univ (Finset.univ.filter p)) (fun c _ h => hn c (by simpa using h)),
    ← Finset.sum_subset (Finset.subset_univ ((Finset.univ.filter p).image σ)) (fun k _ h => ho k (by
      intro c hc e; exact h (Finset.mem_image.2 ⟨c, by simpa using hc, e⟩))),
    Finset.sum_image fun c hc d hd e => hσ c d (by simpa using hc) (by simpa using hd) e]
  exact Finset.sum_congr rfl fun c hc => hs c (by simpa using hc)

/-- **The window's late average is the softmax average over all keys.** -/
theorem average_window {ι κ : Type*} [Fintype ι] [Fintype κ] (s v : ι → EReal) (s' v' : κ → EReal) (p : ι → Prop) (σ : ι → κ)
    (hσ : ∀ c d, p c → p d → σ c = σ d → c = d)
    (hs : ∀ c, p c → s c = s' (σ c)) (hv : ∀ c, p c → v c = v' (σ c))
    (hn : ∀ c, ¬ p c → s c = ⊥) (ho : ∀ k, (∀ c, p c → σ c ≠ k) → s' k = ⊥)
    (ht : ∀ k, s' k ≠ ⊤) (k₀ : κ) (h₀ : s' k₀ ≠ ⊥) :
    lateAverage s v = average s' v' := by
  rw [← lateAverage_eq s' v' ht k₀ h₀]
  have e := top_window s s' p σ hs hn ho
  have hw : ∀ c, p c → weight s c = weight s' (σ c) := fun c hc => by unfold weight; rw [hs c hc, e]
  unfold lateAverage
  rw [sum_window (fun c => weight s c * v c) (fun k => weight s' k * v' k) p σ hσ
      (fun c hc => by rw [hw c hc, hv c hc]) (fun c hc => by rw [weight_of_bot s c (hn c hc), zero_mul])
      (fun k hk => by rw [weight_of_bot s' k (ho k hk), zero_mul]),
    sum_window (weight s) (weight s') p σ hσ hw (fun c hc => weight_of_bot s c (hn c hc))
      (fun k hk => weight_of_bot s' k (ho k hk))]

end Cert.Band

end
-- ==== Proof.Block.lean ====
/-
  What one grid point of the kernel leaves in its output block: for each of the four heads and four groups of 128 queries
  the same function of the group's queries, of 640 consecutive rows of the two staged key tiles and value tiles, and of the bias.
-/
module

public import proofs.«01_k».proof.Proof.Gen.KernelIdeal.Value
public import proofs.«01_k».proof.Proof.Softmax
public import Idealize.ShloMosaic.Lib.Pipeline.Value
public import Idealize.ShloMosaic.Lib.Pointwise
public import Idealize.ShloMosaic.Lib.MatmulPlain

@[expose] public section

set_option maxRecDepth 16384

noncomputable section

namespace Cert.KernelIdeal.Block

open Idealize.ShloMosaic Idealize.ShloMosaic.TcCoe Idealize.ShloMosaic.Tactic Cert.KernelIdeal.Gen Cert.KernelIdeal Cert.Band
open Cert.KernelIdeal.Facts

/-- The scores of 128 queries against 640 keys, masked: the scaled queries times the keys, plus the bias, plus `-∞` at
    the first `512 - r0` columns of the first tile. -/
def scores (first : BitVec 1) (r0 : BitVec 32) (q : FVec Ideal S128x128 .f32) (k : FVec Ideal S640x128 .bf16)
    (b : FVec Ideal S1x128x640 .f32) : FVec Ideal S128x640 .f32 :=
  addf (addf (matmul dot_S128x128_S640x128_S128x640_1_1_0_0_n_n none
      (truncf .bf16 (mulf q (broadcast S128x128 (Scalar.ofBits .f32 0x3DB504F3#32))) bitsLt_bf16_f32) k
      (constant S128x640 .f32 0x00000000#32)) (shapeCast S128x640 b shapeCasts_S1x128x640_S128x640))
    (broadcastTo S128x640 (select (andi (broadcast S1x640 first)
        (cmpi .slt (addi (iota Kind.tc S1x640 32 [1] iota_S1x640_d1_w32) (broadcast S1x640 r0)) (broadcast S1x640 512#32)))
      (broadcast S1x640 (Named.named κ "mask" 0xF149F2CA#32 : Ideal .f32)) (broadcast S1x640 (Scalar.ofBits .f32 0x00000000#32)))
      broadcasts_S1x640_S128x640)

/-- The exponentials of the scores, each less its row's greatest. -/
def weights (s : FVec Ideal S128x640 .f32) : FVec Ideal S128x640 .f32 :=
  exp (subf s (broadcastTo S128x640 (shapeCast S128x1
    (multiReduction .maximumf [1] S128 s 0xFF800000#32 reduces_S128x640_S128 (.inl rfl) rfl) shapeCasts_S128_S128x1)
    broadcasts_S128x1_S128x640))

/-- One head's output for 128 queries: the weights times the values, over the weights' sums. -/
def cell (s : FVec Ideal S128x640 .f32) (v : FVec Ideal S640x128 .bf16) : FVec Ideal S128x128 .bf16 :=
  truncf .bf16 (divf (matmul dot_S128x640_S640x128_S128x128_1_0_0_1_n_n none (truncf .bf16 (weights s) bitsLt_bf16_f32) v
      (constant S128x128 .f32 0x00000000#32))
    (broadcastTo S128x128 (shapeCast S128x1
      (multiReduction .add [1] S128 (weights s) 0x00000000#32 reduces_S128x640_S128 (.inl rfl) rfl) shapeCasts_S128_S128x1)
      broadcasts_S128x1_S128x128)) bitsLt_bf16_f32

/-- The word of `-∞`. -/
theorem ofBits_neg_inf : Ideal.ofBits .f32 0xFF800000#32 = (⊥ : EReal) := by
  simp [Ideal.ofBits, Ideal.ieee]

/-- The named mask is `-∞`. -/
theorem mask_eq : (Named.named κ "mask" 0xF149F2CA#32 : Ideal .f32) = (⊥ : EReal) :=
  IdealRules.named_const.ideal_named_scalar _ _ _ _ rfl

/-- The scale, `128 ^ (-1/2)` as its float word reads. -/
def scale : EReal := Ideal.ofBits .f32 0x3DB504F3#32

/-- What is added at column `c` of the group at rows `r0`: `-∞` before the sequence, else nothing. -/
def absent (first : BitVec 1) (w : ℕ) : EReal := if first = 1#1 ∧ w < 512 then ⊥ else 0

/-- The kernel's test for columns before the sequence, as `absent` states it. -/
theorem absent_word (first : BitVec 1) (r : ℕ) (hr : r < 4) (c : Fin 640) :
    (Scalar.select (IntOp.andi first (IntOp.cmpi CmpIPredicate.slt
        (IntOp.addi (BitVec.ofNat 32 c.val) (BitVec.ofNat 32 (128 * r))) 512#32)) ⊥ 0 : EReal) = absent first (128 * r + c.val) := by
  have hc := c.isLt
  have e : IntOp.cmpi CmpIPredicate.slt (IntOp.addi (BitVec.ofNat 32 c.val) (BitVec.ofNat 32 (128 * r))) 512#32
      = BitVec.ofBool (decide (128 * r + c.val < 512)) := by
    simp only [IntOp.cmpi, IntOp.addi]
    congr 1
    rw [BitVec.slt_eq_decide]
    congr 1
    rw [← BitVec.ofNat_add, BitVec.toInt_ofNat', BitVec.toInt_ofNat']
    simp only [eq_iff_iff]
    have h2 : ((c.val + 128 * r) % 2 ^ 32 : ℕ) = c.val + 128 * r := Nat.mod_eq_of_lt (by omega)
    simp [Int.bmod_def]
    omega
  rw [e]
  unfold absent
  rcases BitVec.eq_zero_or_eq_one first with rfl | rfl <;> by_cases h : 128 * r + c.val < 512 <;>
    simp [h, Scalar.select, IntOp.andi]

/-- One score of a group: the scaled product, plus the bias, plus `absent`. -/
theorem scores_apply (first : BitVec 1) (r : ℕ) (hr : r < 4) (q : FVec Ideal S128x128 .f32) (k : FVec Ideal S640x128 .bf16)
    (b : FVec Ideal S1x128x640 .f32) (a : Fin 128) (c : Fin 640) :
    scores first (BitVec.ofNat 32 (128 * r)) q k b (ix2 a c)
      = (∑ e : Fin 128, q (ix2 a e) * scale * k (ix2 c e)) + b (ix3 0 a c) + absent first (128 * r + c.val) := by
  rw [← absent_word first r hr c, ← mask_eq]
  unfold scores scale
  pointwise

/-- One output of a group: the exponentials' average of the values, divided at the end. -/
theorem cell_apply (s : FVec Ideal S128x640 .f32) (v : FVec Ideal S640x128 .bf16) (a d : Fin 128) :
    cell s v (ix2 a d) = lateAverage (fun c : Fin 640 => s (ix2 a c)) (fun c => v (ix2 c d)) := by
  unfold lateAverage weight top
  rw [← ofBits_neg_inf]
  unfold cell weights
  pointwise

/-- Row `w` of the two staged tiles on top of one another. -/
def stacked (x y : FVec Ideal S512x512 .f32) (w : ℕ) (j : Fin 512) : EReal :=
  if w < 512 then x (ix2 (Fin.ofNat 512 w) j) else y (ix2 (Fin.ofNat 512 (w - 512)) j)

/-- One entry of a grid point's output block. -/
def entry (first : BitVec 1) (x0 x1 x2 x3 x4 : FVec Ideal S512x512 .f32) (x5 : FVec Ideal S4x128x640 .f32) (y : S512x512.Idx) : EReal :=
  lateAverage (fun c : Fin 640 =>
      (∑ e : Fin 128, x0 (ix2 (y 0) (Fin.ofNat 512 (128 * ((y 1).val / 128) + e.val))) * scale
        * stacked x1 x2 (128 * ((y 0).val / 128) + c.val) (Fin.ofNat 512 (128 * ((y 1).val / 128) + e.val)))
      + x5 (ix3 (Fin.ofNat 4 ((y 1).val / 128)) (Fin.ofNat 128 (y 0).val) c) + absent first (128 * ((y 0).val / 128) + c.val))
    (fun c => stacked x3 x4 (128 * ((y 0).val / 128) + c.val) (y 1))

variable (m : (ℓ : Loc nD τ sig) → Buf (Elt Ideal) ℓ)

/-- The pieces of a scratch buffer: the current tile's rows below the earlier tile's. -/
def halves (x y : FVec Ideal S512x512 .f32) : List (View.Piece (Elt Ideal) S1024x512 .bf16) :=
  [⟨Rect.unit ![512, 0] ![512, 512] inb_S1024x512_S512x512_512_0,
      shapeCast S512x512 (truncf .bf16 (View.ld (Val := Elt Ideal) (e' := .f32) y (Rect.unit ![0, 0] ![512, 512] inb_S512x512_S512x512_0_0)) bitsLt_bf16_f32 : FVec Ideal S512x512 .bf16) shapeCasts_S512x512_S512x512⟩,
    ⟨Rect.unit ![0, 0] ![512, 512] inb_S1024x512_S512x512_0_0,
      shapeCast S512x512 (truncf .bf16 (View.ld (Val := Elt Ideal) (e' := .f32) x (Rect.unit ![0, 0] ![512, 512] inb_S512x512_S512x512_0_0)) bitsLt_bf16_f32 : FVec Ideal S512x512 .bf16) shapeCasts_S512x512_S512x512⟩]

/-- The two tiles that fill a scratch buffer, read at a row. -/
theorem halves_apply (x y : FVec Ideal S512x512 .f32) (w : Fin 1024) (j : Fin 512) :
    View.canon (Val := Elt Ideal) (halves x y) (ix2 w j) = stacked x y w.val j := by
  refine View.canon_apply_of_pieces (Val := Elt Ideal) (e := .bf16) (S := S1024x512)
    (fun i => stacked x y (i 0).val (i 1)) (halves x y) ?_ (ix2 w j) ?_
  · unfold halves
    simp only [List.forall_mem_cons, List.not_mem_nil, false_implies, implies_true, and_true]
    refine ⟨fun p => ?_, fun p => ?_⟩
    · obtain ⟨a, d, rfl⟩ : ∃ a d : Fin 512, p = ix2 a d := ⟨p 0, p 1, (ix2_eta p).symm⟩
      have e0 : ((Rect.unit (s := S1024x512) ![512, 0] ![512, 512] inb_S1024x512_S512x512_512_0).emb (ix2 a d) 0).val = 512 + a.val := by
        show 512 + 1 * a.val = _; omega
      have e1 : (Rect.unit (s := S1024x512) ![512, 0] ![512, 512] inb_S1024x512_S512x512_512_0).emb (ix2 a d) 1 = d :=
        Fin.ext (by show 0 + 1 * d.val = _; omega)
      show shapeCast S512x512 _ _ (ix2 a d) = stacked x y _ _
      rw [shapeCast_self, e0, e1]
      unfold stacked
      rw [if_neg (by omega)]
      refine congrArg y (funext fun j => Fin.ext ?_)
      match j with
      | ⟨0, _⟩ => show 0 + 1 * a.val = (512 + a.val - 512) % 512; omega
      | ⟨1, _⟩ => show 0 + 1 * d.val = d.val; omega
    · obtain ⟨a, d, rfl⟩ : ∃ a d : Fin 512, p = ix2 a d := ⟨p 0, p 1, (ix2_eta p).symm⟩
      have e0 : ((Rect.unit (s := S1024x512) ![0, 0] ![512, 512] inb_S1024x512_S512x512_0_0).emb (ix2 a d) 0).val = a.val := by
        show 0 + 1 * a.val = _; omega
      have e1 : (Rect.unit (s := S1024x512) ![0, 0] ![512, 512] inb_S1024x512_S512x512_0_0).emb (ix2 a d) 1 = d :=
        Fin.ext (by show 0 + 1 * d.val = _; omega)
      show shapeCast S512x512 _ _ (ix2 a d) = stacked x y _ _
      rw [shapeCast_self, e0, e1]
      unfold stacked
      rw [if_pos (by omega)]
      refine congrArg x (funext fun j => Fin.ext ?_)
      match j with
      | ⟨0, _⟩ => show 0 + 1 * a.val = a.val % 512; omega
      | ⟨1, _⟩ => show 0 + 1 * d.val = d.val; omega
  · unfold halves
    by_cases h : w.val < 512
    · refine ⟨_, List.mem_cons_of_mem _ (List.mem_cons_self), (Rect.mem_set_unit (inb := inb_S1024x512_S512x512_0_0)).2 fun a => ?_⟩
      match a with
      | ⟨0, _⟩ => exact ⟨Nat.zero_le _, by show w.val < 0 + 512; omega⟩
      | ⟨1, _⟩ => exact ⟨Nat.zero_le _, by show j.val < 0 + 512; omega⟩
    · refine ⟨_, List.mem_cons_self, (Rect.mem_set_unit (inb := inb_S1024x512_S512x512_512_0)).2 fun a => ?_⟩
      match a with
      | ⟨0, _⟩ => exact ⟨by show 512 ≤ w.val; omega, by show w.val < 512 + 512; omega⟩
      | ⟨1, _⟩ => exact ⟨Nat.zero_le _, by show j.val < 0 + 512; omega⟩

/-- The rows and columns of group `r` of head `hh` in a block. -/
abbrev group (hh r : ℕ) (i : ∀ a, (![128 * r, 128 * hh] : Fin 2 → ℕ) a + (![128, 128] : Fin 2 → ℕ) a ≤ S512x512.size a) : Rect S512x512 :=
  Rect.unit ![128 * r, 128 * hh] ![128, 128] i
/-- The 640 rows of the stacked tiles that group `r` of head `hh` reads. -/
abbrev window (hh r : ℕ) (i : ∀ a, (![128 * r, 128 * hh] : Fin 2 → ℕ) a + (![640, 128] : Fin 2 → ℕ) a ≤ S1024x512.size a) : Rect S1024x512 :=
  Rect.unit ![128 * r, 128 * hh] ![640, 128] i
/-- Head `hh`'s bias. -/
abbrev head (hh : ℕ) (i : ∀ a, (![hh, 0, 0] : Fin 3 → ℕ) a + (![1, 128, 640] : Fin 3 → ℕ) a ≤ S4x128x640.size a) : Rect S4x128x640 :=
  Rect.unit ![hh, 0, 0] ![1, 128, 640] i

/-- A load of the stacked tiles through a group's window. -/
theorem window_apply {κ : Kind} {sp : Space} {sig' : RefSig} (v : View sig' κ sp S1024x512 .bf16) (x y : FVec Ideal S512x512 .f32) (hh r : ℕ)
    (hhh : hh < 4) (hr : r < 4) (i) (c : Fin 640) (e : Fin 128) :
    (v.readCov (Val := Elt Ideal) (halves x y) (window hh r i).toLoadRect : FVec Ideal S640x128 .bf16) (ix2 c e)
      = stacked x y (128 * r + c.val) (Fin.ofNat 512 (128 * hh + e.val)) := by
  rw [View.readCov_eq_canon']
  have := halves_apply x y ⟨128 * r + c.val, by omega⟩ (Fin.ofNat 512 (128 * hh + e.val))
  rw [← this]
  refine congrArg _ (funext fun a => Fin.ext ?_)
  match a with
  | ⟨0, _⟩ => show 128 * r + 1 * c.val = 128 * r + c.val; omega
  | ⟨1, _⟩ => show 128 * hh + 1 * e.val = (128 * hh + e.val) % 512; omega

/-- A group's payload is the block's entries at the group's rows and columns. -/
theorem tile {κ₁ κ₂ : Kind} {sp₁ sp₂ : Space} {sig' : RefSig} (v₁ : View sig' κ₁ sp₁ S1024x512 .bf16) (v₂ : View sig' κ₂ sp₂ S1024x512 .bf16)
    (first : BitVec 1) (x0 x1 x2 x3 x4 : FVec Ideal S512x512 .f32) (x5 : FVec Ideal S4x128x640 .f32) (hh r : ℕ) (hhh : hh < 4) (hr : r < 4)
    (i1 i2 i3) (x : (group hh r i1).shape.Idx) :
    cell (scores first (BitVec.ofNat 32 (128 * r))
        (View.ld (Val := Elt Ideal) (e' := .f32) x0 (group hh r i1))
        (v₁.readCov (Val := Elt Ideal) (halves x1 x2) (window hh r i2).toLoadRect)
        (View.ld (Val := Elt Ideal) (e' := .f32) x5 (head hh i3)))
      (v₂.readCov (Val := Elt Ideal) (halves x3 x4) (window hh r i2).toLoadRect) x
    = entry first x0 x1 x2 x3 x4 x5 ((group hh r i1).emb x) := by
  obtain ⟨a, d, rfl⟩ : ∃ a d : Fin 128, x = ix2 a d := ⟨x 0, x 1, (ix2_eta x).symm⟩
  rw [cell_apply]
  have e0 : ((group hh r i1).emb (ix2 a d) 0).val = 128 * r + a.val := by show 128 * r + 1 * a.val = _; omega
  have e1 : ((group hh r i1).emb (ix2 a d) 1).val = 128 * hh + d.val := by show 128 * hh + 1 * d.val = _; omega
  have d0 : (128 * r + a.val) / 128 = r := by omega
  have d1 : (128 * hh + d.val) / 128 = hh := by omega
  unfold entry
  simp only [e0, e1, d0, d1]
  congr 1
  · funext c
    rw [scores_apply first r hr]
    congr 2
    · refine Finset.sum_congr rfl fun e _ => ?_
      rw [window_apply v₁ x1 x2 hh r hhh hr i2 c e]
      congr 2
      refine congrArg x0 (funext fun j => Fin.ext ?_)
      match j with
      | ⟨0, _⟩ => exact (show 128 * r + 1 * a.val = 128 * r + a.val by omega).trans e0.symm
      | ⟨1, _⟩ => show 128 * hh + 1 * e.val = (128 * hh + e.val) % 512; omega
    · refine congrArg x5 (funext fun j => Fin.ext ?_)
      match j with
      | ⟨0, _⟩ => show hh + 1 * 0 = hh % 4; omega
      | ⟨1, _⟩ => show 0 + 1 * a.val = (128 * r + a.val) % 128; omega
      | ⟨2, _⟩ => show 0 + 1 * c.val = c.val; omega
  · funext c
    rw [window_apply v₂ x3 x4 hh r hhh hr i2 c d]
    congr 1
    refine Fin.ext ?_
    rw [e1]
    show (128 * hh + d.val) % 512 = _
    omega

/-- **A grid point's output block, entry by entry.** -/
theorem outs_apply (c : Dev nD) (t : Fin cfg0.N) (y : S512x512.Idx) :
    outsAt0 m c t y = entry (Scalar.cmpi .eq (BitVec.ofNat 32 (grid0.coords t 2).val) 0#32)
      (iblk m c 0 t) (iblk m c 1 t) (iblk m c 2 t) (iblk m c 3 t) (iblk m c 4 t) (iblk m c 5 t) y := by
  unfold outsAt0 out0_A_6
  rw [View.read_writes_eq_canon _ _ _ (cover0_A_6 c _ _ _ _ _ _ _ _ _ _ _ _ _ _ _ _ _ _ _ _ _ _ _ _ _)]
  refine View.canon_apply_of_pieces (Val := Elt Ideal) (e := .bf16) (entry _ _ _ _ _ _ _) _ ?_ y (cover0_A_6 c _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  simp only [List.forall_mem_cons, List.not_mem_nil, false_implies, implies_true, and_true]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_⟩
  · exact tile _ _ _ _ _ _ _ _ _ 3 3 (by decide) (by decide) _ _ _ x
  · exact tile _ _ _ _ _ _ _ _ _ 3 2 (by decide) (by decide) _ _ _ x
  · exact tile _ _ _ _ _ _ _ _ _ 3 1 (by decide) (by decide) _ _ _ x
  · exact tile _ _ _ _ _ _ _ _ _ 3 0 (by decide) (by decide) _ _ _ x
  · exact tile _ _ _ _ _ _ _ _ _ 2 3 (by decide) (by decide) _ _ _ x
  · exact tile _ _ _ _ _ _ _ _ _ 2 2 (by decide) (by decide) _ _ _ x
  · exact tile _ _ _ _ _ _ _ _ _ 2 1 (by decide) (by decide) _ _ _ x
  · exact tile _ _ _ _ _ _ _ _ _ 2 0 (by decide) (by decide) _ _ _ x
  · exact tile _ _ _ _ _ _ _ _ _ 1 3 (by decide) (by decide) _ _ _ x
  · exact tile _ _ _ _ _ _ _ _ _ 1 2 (by decide) (by decide) _ _ _ x
  · exact tile _ _ _ _ _ _ _ _ _ 1 1 (by decide) (by decide) _ _ _ x
  · exact tile _ _ _ _ _ _ _ _ _ 1 0 (by decide) (by decide) _ _ _ x
  · exact tile _ _ _ _ _ _ _ _ _ 0 3 (by decide) (by decide) _ _ _ x
  · exact tile _ _ _ _ _ _ _ _ _ 0 2 (by decide) (by decide) _ _ _ x
  · exact tile _ _ _ _ _ _ _ _ _ 0 1 (by decide) (by decide) _ _ _ x
  · exact tile _ _ _ _ _ _ _ _ _ 0 0 (by decide) (by decide) _ _ _ x

end Cert.KernelIdeal.Block

end
-- ==== Proof.Array.lean ====
/-
  The kernel's result, entry by entry, in terms of the projections and the bias table: each grid point's block set at its place.
-/
module

public import proofs.«01_k».proof.Proof.Block
public import Idealize.ShloMosaic.Lib.Pipeline.ValueKit.Point

@[expose] public section

set_option maxRecDepth 16384

noncomputable section

namespace Cert.KernelIdeal.Array

open Idealize.ShloMosaic Idealize.ShloMosaic.TcCoe Idealize.ShloMosaic.Tactic Cert.KernelIdeal.Gen Cert.KernelIdeal Cert.Band Cert.KernelIdeal.Block

/-- The window column of a row's group at which the sequence's own keys begin is `512` minus this. -/
def start (R : ℕ) : ℕ := 128 * (R % 8192 / 128)

/-- The row of `z` that stands at window column `w` of row `R`'s group. -/
def keyRow (R : Fin 16384) (w : Fin 640) : Fin 16384 :=
  ⟨8192 * (R.val / 8192) + (if start R.val + w.val < 512 then start R.val + w.val else start R.val + w.val - 512), by
    have := R.isLt; have := w.isLt; unfold start; split <;> omega⟩

/-- The result at row `R` and column `C`. -/
def result (z : FVec Ideal S16384x10240 .f32) (b : FVec Ideal S8x128x640 .f32) (R : Fin 16384) (C : Fin 1024) : EReal :=
  lateAverage (fun w : Fin 640 =>
      (∑ e : Fin 128, z (ix2 R (Fin.ofNat 10240 (128 * (C.val / 128) + e.val))) * scale
        * z (ix2 (keyRow R w) (Fin.ofNat 10240 (1024 + 128 * (C.val / 128) + e.val))))
      + b (ix3 (Fin.ofNat 8 (C.val / 128)) (Fin.ofNat 128 R.val) w)
      + (if start R.val + w.val < 512 then ⊥ else 0))
    (fun w => z (ix2 (keyRow R w) (Fin.ofNat 10240 (2048 + C.val))))

variable (m : (ℓ : Loc nD τ sig) → Buf (Elt Ideal) ℓ)

/-- The block of queries that a grid point reads. -/
theorem index0 : ∀ t : Fin cfg0.N, win0_0.index t = ![16 * (grid0.coords t 1).val + (grid0.coords t 2).val, (grid0.coords t 0).val] :=
  (by decide +kernel : ∀ t : Fin grid0.N, _)
/-- The earlier block of keys. -/
theorem index1 : ∀ t : Fin cfg0.N, win0_1.index t = ![16 * (grid0.coords t 1).val + ((grid0.coords t 2).val - 1), 2 + (grid0.coords t 0).val] :=
  (by decide +kernel : ∀ t : Fin grid0.N, _)
/-- The current block of keys. -/
theorem index2 : ∀ t : Fin cfg0.N, win0_2.index t = ![16 * (grid0.coords t 1).val + (grid0.coords t 2).val, 2 + (grid0.coords t 0).val] :=
  (by decide +kernel : ∀ t : Fin grid0.N, _)
/-- The earlier block of values. -/
theorem index3 : ∀ t : Fin cfg0.N, win0_3.index t = ![16 * (grid0.coords t 1).val + ((grid0.coords t 2).val - 1), 4 + (grid0.coords t 0).val] :=
  (by decide +kernel : ∀ t : Fin grid0.N, _)
/-- The current block of values. -/
theorem index4 : ∀ t : Fin cfg0.N, win0_4.index t = ![16 * (grid0.coords t 1).val + (grid0.coords t 2).val, 4 + (grid0.coords t 0).val] :=
  (by decide +kernel : ∀ t : Fin grid0.N, _)
/-- The heads' bias tables that a grid point reads. -/
theorem index5 : ∀ t : Fin cfg0.N, win0_5.index t = ![(grid0.coords t 0).val, 0, 0] :=
  (by decide +kernel : ∀ t : Fin grid0.N, _)
/-- The block of the result that a grid point writes. -/
theorem index6 : ∀ t : Fin cfg0.N, win0_6.index t = ![16 * (grid0.coords t 1).val + (grid0.coords t 2).val, (grid0.coords t 0).val] :=
  (by decide +kernel : ∀ t : Fin grid0.N, _)

/-- A read of an input block is a read of its array. -/
theorem query_apply (c : Dev nD) (t : Fin cfg0.N) (a d : Fin 512) (R : Fin 16384) (C : Fin 10240)
    (hR : R.val = 512 * (16 * (grid0.coords t 1).val + (grid0.coords t 2).val) + a.val) (hC : C.val = 512 * (grid0.coords t 0).val + d.val) :
    (iblk m c 0 t : FVec Ideal S512x512 .f32) (ix2 a d) = (V m c main_arg0 : FVec Ideal S16384x10240 .f32) (ix2 R C) := by
  blk_ext! [iblk, index0 t]

/-- The earlier block of keys, read from `z`. -/
theorem key1_apply (c : Dev nD) (t : Fin cfg0.N) (a d : Fin 512) (R : Fin 16384) (C : Fin 10240)
    (hR : R.val = 512 * (16 * (grid0.coords t 1).val + ((grid0.coords t 2).val - 1)) + a.val) (hC : C.val = 1024 + 512 * (grid0.coords t 0).val + d.val) :
    (iblk m c 1 t : FVec Ideal S512x512 .f32) (ix2 a d) = (V m c main_arg0 : FVec Ideal S16384x10240 .f32) (ix2 R C) := by
  blk_ext! [iblk, index1 t]

/-- The current block of keys, read from `z`. -/
theorem key2_apply (c : Dev nD) (t : Fin cfg0.N) (a d : Fin 512) (R : Fin 16384) (C : Fin 10240)
    (hR : R.val = 512 * (16 * (grid0.coords t 1).val + (grid0.coords t 2).val) + a.val) (hC : C.val = 1024 + 512 * (grid0.coords t 0).val + d.val) :
    (iblk m c 2 t : FVec Ideal S512x512 .f32) (ix2 a d) = (V m c main_arg0 : FVec Ideal S16384x10240 .f32) (ix2 R C) := by
  blk_ext! [iblk, index2 t]

/-- The earlier block of values, read from `z`. -/
theorem value1_apply (c : Dev nD) (t : Fin cfg0.N) (a d : Fin 512) (R : Fin 16384) (C : Fin 10240)
    (hR : R.val = 512 * (16 * (grid0.coords t 1).val + ((grid0.coords t 2).val - 1)) + a.val) (hC : C.val = 2048 + 512 * (grid0.coords t 0).val + d.val) :
    (iblk m c 3 t : FVec Ideal S512x512 .f32) (ix2 a d) = (V m c main_arg0 : FVec Ideal S16384x10240 .f32) (ix2 R C) := by
  blk_ext! [iblk, index3 t]

/-- The current block of values, read from `z`. -/
theorem value2_apply (c : Dev nD) (t : Fin cfg0.N) (a d : Fin 512) (R : Fin 16384) (C : Fin 10240)
    (hR : R.val = 512 * (16 * (grid0.coords t 1).val + (grid0.coords t 2).val) + a.val) (hC : C.val = 2048 + 512 * (grid0.coords t 0).val + d.val) :
    (iblk m c 4 t : FVec Ideal S512x512 .f32) (ix2 a d) = (V m c main_arg0 : FVec Ideal S16384x10240 .f32) (ix2 R C) := by
  blk_ext! [iblk, index4 t]

/-- A grid point's bias table, read from the table of all heads. -/
theorem bias_apply (c : Dev nD) (t : Fin cfg0.N) (h : Fin 4) (a : Fin 128) (w : Fin 640) (H : Fin 8)
    (hH : H.val = 4 * (grid0.coords t 0).val + h.val) :
    (iblk m c 5 t : FVec Ideal S4x128x640 .f32) (ix3 h a w) = (V m c main_v29 : FVec Ideal S8x128x640 .f32) (ix3 H a w) := by
  blk_ext! [iblk, index5 t]

/-- The stacked tiles' rows are `z`'s: by the columns at which the tiles stand. -/
theorem stacked_apply (x y : FVec Ideal S512x512 .f32) (z : FVec Ideal S16384x10240 .f32) (w : ℕ) (j : Fin 512) (R : Fin 16384) (C : Fin 10240)
    (hw : w < 1024) (hx : w < 512 → x (ix2 (Fin.ofNat 512 w) j) = z (ix2 R C))
    (hy : ¬ w < 512 → y (ix2 (Fin.ofNat 512 (w - 512)) j) = z (ix2 R C)) : stacked x y w j = z (ix2 R C) := by
  unfold stacked
  split
  · exact hx ‹_›
  · exact hy ‹_›

/-- The first tile's flag. -/
theorem first_iff (t : Fin cfg0.N) : Scalar.cmpi .eq (BitVec.ofNat 32 (grid0.coords t 2).val) 0#32 = 1#1 ↔ (grid0.coords t 2).val = 0 :=
  (by decide +kernel : ∀ t : Fin grid0.N, Scalar.cmpi .eq (BitVec.ofNat 32 (grid0.coords t 2).val) 0#32 = 1#1 ↔ (grid0.coords t 2).val = 0) t

/-- Rows of the earlier tile. -/
theorem keyRow_old (R : Fin 16384) (w : Fin 640) (b i a : ℕ) (hR : R.val = 512 * (16 * b + i) + a) (hb : b < 2) (hi : i < 16) (ha : a < 512)
    (hw : w.val < 640) (h : 128 * (a / 128) + w.val < 512) :
    (keyRow R w).val = 512 * (16 * b + (i - 1)) + (128 * (a / 128) + w.val) % 512 := by
  have hs : start R.val = 512 * i + 128 * (a / 128) := by unfold start; omega
  show 8192 * (R.val / 8192) + (if start R.val + w.val < 512 then start R.val + w.val else start R.val + w.val - 512) = _
  rw [hs]
  split <;> omega

/-- Rows of the current tile. -/
theorem keyRow_new (R : Fin 16384) (w : Fin 640) (b i a : ℕ) (hR : R.val = 512 * (16 * b + i) + a) (hb : b < 2) (hi : i < 16) (ha : a < 512)
    (hw : w.val < 640) (h : ¬ 128 * (a / 128) + w.val < 512) :
    (keyRow R w).val = 512 * (16 * b + i) + (128 * (a / 128) + w.val - 512) % 512 := by
  have hs : start R.val = 512 * i + 128 * (a / 128) := by unfold start; omega
  show 8192 * (R.val / 8192) + (if start R.val + w.val < 512 then start R.val + w.val else start R.val + w.val - 512) = _
  rw [hs]
  split <;> omega

/-- A grid point's entry is the result's at the entry's place. -/
theorem entry_apply (c : Dev nD) (t : Fin cfg0.N) (a d : Fin 512) (R : Fin 16384) (C : Fin 1024)
    (hR : R.val = 512 * (16 * (grid0.coords t 1).val + (grid0.coords t 2).val) + a.val) (hC : C.val = 512 * (grid0.coords t 0).val + d.val) :
    entry (Scalar.cmpi .eq (BitVec.ofNat 32 (grid0.coords t 2).val) 0#32)
      (iblk m c 0 t) (iblk m c 1 t) (iblk m c 2 t) (iblk m c 3 t) (iblk m c 4 t) (iblk m c 5 t) (ix2 a d)
    = result (V m c main_arg0) (V m c main_v29) R C := by
  have h0 : (grid0.coords t 0).val < 2 := (grid0.coords t 0).isLt
  have h1 : (grid0.coords t 1).val < 2 := (grid0.coords t 1).isLt
  have h2 : (grid0.coords t 2).val < 16 := (grid0.coords t 2).isLt
  have ha := a.isLt
  have hd := d.isLt
  have hs : start R.val = 512 * (grid0.coords t 2).val + 128 * (a.val / 128) := by unfold start; omega
  have hq : ∀ e : Fin 128, (iblk m c 0 t : FVec Ideal S512x512 .f32) (ix2 a (Fin.ofNat 512 (128 * (d.val / 128) + e.val)))
      = (V m c main_arg0 : FVec Ideal S16384x10240 .f32) (ix2 R (Fin.ofNat 10240 (128 * (C.val / 128) + e.val))) := fun e => by
    have he := e.isLt
    refine query_apply m c t _ _ _ _ hR ?_
    show (128 * (C.val / 128) + e.val) % 10240 = 512 * (grid0.coords t 0).val + (128 * (d.val / 128) + e.val) % 512
    omega
  have hk : ∀ (w : Fin 640) (e : Fin 128), stacked (iblk m c 1 t) (iblk m c 2 t) (128 * (a.val / 128) + w.val) (Fin.ofNat 512 (128 * (d.val / 128) + e.val))
      = (V m c main_arg0 : FVec Ideal S16384x10240 .f32) (ix2 (keyRow R w) (Fin.ofNat 10240 (1024 + 128 * (C.val / 128) + e.val))) := fun w e => by
    have he := e.isLt
    have hw := w.isLt
    have hc : (1024 + 128 * (C.val / 128) + e.val) % 10240 = 1024 + 512 * (grid0.coords t 0).val + (128 * (d.val / 128) + e.val) % 512 := by omega
    refine stacked_apply _ _ _ _ _ _ _ (by omega) (fun h => key1_apply m c t _ _ _ _ ?_ hc) fun h => key2_apply m c t _ _ _ _ ?_ hc
    · exact keyRow_old R w _ _ _ hR h1 h2 ha hw h
    · exact keyRow_new R w _ _ _ hR h1 h2 ha hw h
  have hv : ∀ w : Fin 640, stacked (iblk m c 3 t) (iblk m c 4 t) (128 * (a.val / 128) + w.val) d
      = (V m c main_arg0 : FVec Ideal S16384x10240 .f32) (ix2 (keyRow R w) (Fin.ofNat 10240 (2048 + C.val))) := fun w => by
    have hw := w.isLt
    have hc : (2048 + C.val) % 10240 = 2048 + 512 * (grid0.coords t 0).val + d.val := by omega
    refine stacked_apply _ _ _ _ _ _ _ (by omega) (fun h => value1_apply m c t _ _ _ _ ?_ hc) fun h => value2_apply m c t _ _ _ _ ?_ hc
    · exact keyRow_old R w _ _ _ hR h1 h2 ha hw h
    · exact keyRow_new R w _ _ _ hR h1 h2 ha hw h
  have hb : ∀ w : Fin 640, (iblk m c 5 t : FVec Ideal S4x128x640 .f32) (ix3 (Fin.ofNat 4 (d.val / 128)) (Fin.ofNat 128 a.val) w)
      = (V m c main_v29 : FVec Ideal S8x128x640 .f32) (ix3 (Fin.ofNat 8 (C.val / 128)) (Fin.ofNat 128 R.val) w) := fun w => by
    have e : (Fin.ofNat 128 a.val : Fin 128) = Fin.ofNat 128 R.val := Fin.ext (by show a.val % 128 = R.val % 128; omega)
    rw [e]
    refine bias_apply m c t _ _ _ _ ?_
    show (C.val / 128) % 8 = 4 * (grid0.coords t 0).val + (d.val / 128) % 4
    omega
  have hf : ∀ w : Fin 640, absent (Scalar.cmpi .eq (BitVec.ofNat 32 (grid0.coords t 2).val) 0#32) (128 * (a.val / 128) + w.val)
      = if start R.val + w.val < 512 then ⊥ else 0 := fun w => by
    unfold absent
    refine if_congr ?_ rfl rfl
    rw [first_iff, hs]
    omega
  unfold entry result
  exact congrArg₂ lateAverage
    (funext fun w => congrArg₂ (· + ·) (congrArg₂ (· + ·) (Finset.sum_congr rfl fun e _ => congrArg₂ (· * ·) (congrArg (· * scale) (hq e)) (hk w e)) (hb w)) (hf w))
    (funext hv)

/-- The kernel's result array. -/
theorem array_apply (c : Dev nD) : (dats m 0 c).arrAt 6 cfg0.N
    = fun i : S16384x1024.Idx => result (V m c main_arg0) (V m c main_v29) (i 0) (i 1) := by
  refine (dats m 0 c).arrAt_eq_of_covers 6 _ (by decide +kernel) fun t hf y => ?_
  blk_simp
  rw [after0_6]
  rw [outs_apply]
  obtain ⟨a, d, rfl⟩ : ∃ a d : Fin 512, y = ix2 a d := ⟨y 0, y 1, (ix2_eta y).symm⟩
  refine entry_apply m c t a d _ _ ?_ ?_
  · blk_simp [index6 t]; omega
  · blk_simp [index6 t]; omega

end Cert.KernelIdeal.Array

end
-- ==== Proof.Words.lean ====
/-
  The integer words of the band: the chunk of a position, comparisons and the clipped distance, as natural numbers.
-/
module

public import Idealize.ShloMosaic.PureOps
public import Idealize.ShloMosaic.PureOps.Ideal.Laws
public import Idealize.ShloMosaic.Lib.Affine

@[expose] public section

set_option maxRecDepth 16384

namespace Cert.Band

open Idealize.ShloMosaic

/-- The floor of a word over 64, spelt with the truncating quotient and the signs. -/
def floorWord (x : BitVec 32) : BitVec 32 :=
  Scalar.select
    (IntOp.andi
      (IntOp.cmpi CmpIPredicate.ne (if x = 0 then (0 : BitVec 32) else if x.msb = true then -1 else 1)
        (if 64#32 = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

/-- A position's chunk. -/
theorem floorWord_eq (n : ℕ) (hn : n < 8192) : floorWord (BitVec.ofNat 32 n) = BitVec.ofNat 32 (n / 64) := by
  have hx : (BitVec.ofNat 32 n).toNat = n := by rw [BitVec.toNat_ofNat]; omega
  have hm : (BitVec.ofNat 32 n).msb = false := by rw [BitVec.msb_eq_false_iff_two_mul_lt, hx]; omega
  have hd : IntOp.divsi ArithUnit.host (BitVec.ofNat 32 n) 64#32 = BitVec.ofNat 32 (n / 64) := by
    unfold IntOp.divsi
    rw [if_neg (by simp [IntOp.SDivCorner]), BitVec.sdiv_eq, hm, show (64#32).msb = false by decide]
    refine BitVec.eq_of_toNat_eq ?_
    show (BitVec.ofNat 32 n / 64#32).toNat = _
    rw [BitVec.toNat_udiv, hx, BitVec.toNat_ofNat, BitVec.toNat_ofNat, Nat.mod_eq_of_lt (show 64 < 2 ^ 32 by norm_num), Nat.mod_eq_of_lt (by omega)]
  have h64 : (if 64#32 = 0 then (0 : BitVec 32) else if BitVec.msb 64#32 = true then -1 else 1) = 1 := by decide
  unfold floorWord
  rw [hd, h64]
  by_cases h0 : n = 0
  · subst h0; decide
  · have hne : BitVec.ofNat 32 n ≠ 0 := fun h => h0 (by rw [← hx, h]; rfl)
    rw [if_neg hne, hm, if_neg (by decide)]
    simp [IntOp.cmpi, IntOp.andi, Scalar.select]

/-- A small number's word read as a signed integer. -/
theorem toInt_small (n : ℕ) (h : n < 2 ^ 31) : (BitVec.ofNat 32 n).toInt = n := by
  rw [BitVec.toInt_ofNat']
  simp [Int.bmod_def]
  omega

/-- Comparing two small words compares the numbers. -/
theorem sle_small (n k : ℕ) (hn : n < 2 ^ 31) (hk : k < 2 ^ 31) :
    IntOp.cmpi .sle (BitVec.ofNat 32 n) (BitVec.ofNat 32 k) = BitVec.ofBool (decide (n ≤ k)) := by
  simp only [IntOp.cmpi]
  rw [BitVec.sle_eq_decide, toInt_small n hn, toInt_small k hk]
  simp

/-- The same comparison the other way round. -/
theorem sge_small (n k : ℕ) (hn : n < 2 ^ 31) (hk : k < 2 ^ 31) :
    IntOp.cmpi .sge (BitVec.ofNat 32 n) (BitVec.ofNat 32 k) = BitVec.ofBool (decide (k ≤ n)) := by
  simp only [IntOp.cmpi]
  rw [BitVec.sle_eq_decide, toInt_small n hn, toInt_small k hk]
  simp

/-- Choosing by the conjunction of two decisions. -/
theorem select_both {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

end Cert.Band
-- ==== Proof.Bias.lean ====
/-
  The bias table the kernel reads: by head, query row in a group and key column in the group's window, the relative bias of their
  distance clipped to 128, and `-∞` outside the band of chunks.
-/
module

public import proofs.«01_k».proof.Proof.Gen.KernelIdeal.Value
public import proofs.«01_k».proof.Proof.Words
public import Idealize.ShloMosaic.Lib.Pointwise
public import Idealize.ShloMosaic.Lib.StableHlo.ReadAt

@[expose] public section

set_option maxRecDepth 16384

noncomputable section

namespace Cert.KernelIdeal.Bias

open Idealize.ShloMosaic Idealize.ShloMosaic.TcCoe Idealize.ShloMosaic.Tactic Cert.KernelIdeal.Gen Cert.KernelIdeal Cert.Band

variable (m : (ℓ : Loc nD τ sig) → Buf (Elt Ideal) ℓ)

/-- A choice between equal values by equal flags. -/
theorem select_congr {α : Type} {b b' : BitVec 1} {x x' y y' : α} (hb : b = b') (hx : x = x') (hy : y = y') :
    Scalar.select b x y = Scalar.select b' x' y' := by subst hb hx hy; rfl

/-- The relative biases from the second on, and then the last again, at position `639 + a - w`: the bias at the clipped distance. -/
theorem pick (x : FVec Ideal S1x8x257 .f32) (h : Fin 8) (k : Fin 767) (n : ℕ) (hn : n ≤ 256) (n' : ℕ) (hk : k.val = n') (e : n = min (n' + 1) 256) :
    (if hc : k.val < 256 then x (ix3 0 h ⟨1 + k.val, by omega⟩) else x (ix3 0 h 256)) = x (ix3 0 h ⟨n, by omega⟩) := by
  split
  · have : (⟨1 + k.val, by omega⟩ : Fin 257) = ⟨n, by omega⟩ := Fin.ext (by show 1 + k.val = n; omega)
    rw [this]
  · have : (256 : Fin 257) = ⟨n, by omega⟩ := Fin.ext (by show 256 = n; omega)
    rw [this]

/-- The word of `-∞`, as the host spells it. -/
theorem neg_inf : id (constant (F := Ideal) S_ .f32 4286578688#32) ix0 = (⊥ : EReal) := by
  show Ideal.ofBits .f32 4286578688#32 = _
  simp [Ideal.ofBits, Ideal.ieee]

/-- The table's entry: the bias at the clipped distance, `-∞` off the band. -/
theorem table_apply (c : Dev nD) (h : Fin 8) (a : Fin 128) (w : Fin 640) :
    (V m c main_v29 : FVec Ideal S8x128x640 .f32) (ix3 h a w)
      = (if a.val / 64 ≤ w.val / 64 ∧ w.val / 64 ≤ a.val / 64 + 8 then
          (m ((c : Thread nD τ).loc main_arg1) : FVec Ideal S1x8x257 .f32) (ix3 0 h ⟨min (640 + a.val - w.val) 256, by omega⟩)
        else (⊥ : EReal)) := by
  have ha := a.isLt
  have hw := w.isLt
  have e1 : (V m c main_v29 : FVec Ideal S8x128x640 .f32) (ix3 h a w)
      = Scalar.select (IntOp.andi (IntOp.cmpi .sge (floorWord (BitVec.ofNat 32 w.val)) (floorWord (BitVec.ofNat 32 a.val)))
          (IntOp.cmpi .sle (floorWord (BitVec.ofNat 32 w.val)) (IntOp.addi (floorWord (BitVec.ofNat 32 a.val)) 8#32)))
        ((m ((c : Thread nD τ).loc main_arg1) : FVec Ideal S1x8x257 .f32) (ix3 0 h ⟨min (640 + a.val - w.val) 256, by omega⟩))
        (⊥ : EReal) := by
    unfold V
    after_reads_at
    have n1 : (a.val * 767 + (127 + w.val)) % 768 = 127 + w.val - a.val := by omega
    rw [dif_pos (by rw [n1]; omega)]
    after_reads_at
    refine select_congr rfl ?_ ?_
    · have hr : (⟨(a.val * 767 + (127 + w.val)) % 768, by rw [n1]; omega⟩ : Fin 767).rev.val = 639 + a.val - w.val := by
        rw [Fin.val_rev]
        show 767 - ((a.val * 767 + (127 + w.val)) % 768 + 1) = _
        rw [n1]
        omega
      simp only [List.mem_singleton, ↓reduceIte, zero_ne_one]
      exact pick _ h _ _ (by omega) _ hr (by omega)
    · exact neg_inf
  rw [e1, floorWord_eq _ (by omega), floorWord_eq _ (by omega)]
  unfold IntOp.addi
  rw [← BitVec.ofNat_add, sge_small _ _ (by omega) (by omega), sle_small _ _ (by omega) (by omega), select_both]

end Cert.KernelIdeal.Bias

end
-- ==== Proof.Clip.lean ====
/-
  The clipped distance of two positions, and a chunk compared with another less eight, as natural numbers.
-/
module

public import proofs.«01_k».proof.Proof.Words

@[expose] public section

set_option maxRecDepth 16384

namespace Cert.Band

open Idealize.ShloMosaic

/-- The difference of two small words, as an integer. -/
theorem toInt_sub_small (n k : ℕ) (hn : n < 2 ^ 30) (hk : k < 2 ^ 30) :
    (IntOp.subi (BitVec.ofNat 32 n) (BitVec.ofNat 32 k)).toInt = (n : ℤ) - k := by
  unfold IntOp.subi
  rw [BitVec.toInt_sub, toInt_small n (by omega), toInt_small k (by omega), Int.bmod_def]
  simp
  omega

/-- A number at least another less eight, in words. -/
theorem sge_sub (n k : ℕ) (hn : n < 2 ^ 30) (hk : k < 2 ^ 30) :
    IntOp.cmpi .sge (BitVec.ofNat 32 n) (IntOp.subi (BitVec.ofNat 32 k) 8#32) = BitVec.ofBool (decide (k ≤ n + 8)) := by
  have e : (IntOp.subi (BitVec.ofNat 32 k) 8#32).toInt = (k : ℤ) - 8 := toInt_sub_small k 8 hk (by norm_num)
  simp only [IntOp.cmpi]
  rw [BitVec.sle_eq_decide, toInt_small n (by omega), e]
  congr 1
  simp only [decide_eq_decide]
  omega

/-- The word of the clipped distance, moved up by 128. -/
def clipWord (x : BitVec 32) : BitVec 32 :=
  IntOp.addi (IntOp.minsi 128#32 (IntOp.maxsi 4294967168#32 x)) 128#32

/-- The clipped distance between -128 and 128, moved up by 128, is a number from 0 to 256. -/
theorem clipWord_eq (n k : ℕ) (hn : n < 2 ^ 30) (hk : k < 2 ^ 30) :
    clipWord (IntOp.subi (BitVec.ofNat 32 n) (BitVec.ofNat 32 k)) = BitVec.ofNat 32 (min (n + 128 - k) 256) := by
  have e := toInt_sub_small n k hn hk
  generalize IntOp.subi (BitVec.ofNat 32 n) (BitVec.ofNat 32 k) = x at e
  have a : (4294967168#32).toInt = -128 := by decide
  have b : (128#32).toInt = 128 := by decide
  unfold clipWord
  by_cases h1 : (n : ℤ) - k < -128
  · have m : IntOp.maxsi 4294967168#32 x = 4294967168#32 := by
      unfold IntOp.maxsi
      rw [BitVec.slt_eq_decide, a, e, if_pos (decide_eq_true h1)]
    rw [m, show min (n + 128 - k) 256 = 0 by omega]
    rfl
  · have m : IntOp.maxsi 4294967168#32 x = x := by
      unfold IntOp.maxsi
      rw [BitVec.slt_eq_decide, a, e, decide_eq_false h1]
      rfl
    rw [m]
    by_cases h2 : (128 : ℤ) < (n : ℤ) - k
    · have m' : IntOp.minsi 128#32 x = 128#32 := by
        unfold IntOp.minsi
        rw [BitVec.slt_eq_decide, b, e, if_pos (decide_eq_true h2)]
      rw [m', show min (n + 128 - k) 256 = 256 by omega]
      rfl
    · have m' : IntOp.minsi 128#32 x = x := by
        unfold IntOp.minsi
        rw [BitVec.slt_eq_decide, b, e, decide_eq_false h2]
        rfl
      rw [m', show min (n + 128 - k) 256 = n + 128 - k by omega]
      refine BitVec.eq_of_toInt_eq ?_
      unfold IntOp.addi
      rw [BitVec.toInt_add, e, b, toInt_small _ (by omega), Int.bmod_def]
      simp
      omega

/-- Choosing the wrapped word when it is negative changes nothing for a small number. -/
theorem wrap_eq (n : ℕ) (hn : n < 2 ^ 31) :
    Scalar.select (IntOp.cmpi .slt (BitVec.ofNat 32 n) 0#32) (IntOp.addi (BitVec.ofNat 32 n) 257#32) (BitVec.ofNat 32 n) = BitVec.ofNat 32 n := by
  have e : IntOp.cmpi .slt (BitVec.ofNat 32 n) 0#32 = 0#1 := by
    simp only [IntOp.cmpi]
    rw [BitVec.slt_eq_decide, toInt_small n hn, decide_eq_false (by simp)]
    rfl
  rw [e]
  rfl

end Cert.Band
-- ==== Proof.Reading.lean ====
/-
  The reference at a row and a column: the softmax average over every key of the row's sequence, the keys outside the band of chunks
  masked by `-∞`.
-/
module

public import proofs.«01_k».proof.Proof.Gen.ReferenceIdeal.Read
public import proofs.«01_k».proof.Proof.Clip
public import proofs.«01_k».proof.Proof.Softmax
public import Idealize.ShloMosaic.Lib.Pointwise

@[expose] public section

set_option maxRecDepth 16384

noncomputable section

namespace Cert.ReferenceIdeal.Reading

open Idealize.ShloMosaic Idealize.ShloMosaic.TcCoe Idealize.ShloMosaic.Tactic Cert.ReferenceIdeal.Gen Cert.ReferenceIdeal Cert.ReferenceIdeal.Read Cert.Band

/-- The scale, `128 ^ (-1/2)` as its float word reads. -/
def scale : EReal := Ideal.ofBits .f32 0x3DB504F3#32

/-- The chunk of a position. -/
theorem chunk_apply (k : Fin 8192) : val_main_v29 (F := Ideal) (ix1 k) = BitVec.ofNat 32 (k.val / 64) := by
  rw [← floorWord_eq k.val k.isLt]
  unfold val_main_v29 val_main_call1_v11 val_main_call1_v6 val_main_call1_v5 val_main_call1_v4 val_main_call1_v3
    val_main_call1_v10 val_main_call1_v9 val_main_call1_v8 val_main_call1_v7 val_main_call1_v13 val_main_call1_v12 val_main_call1_v2
    val_main_call1_v1 val_main_call1_v0 val_main_c_4 val_main_v6
  rfl

/-- The index of the relative bias of a query and a key. -/
theorem distance_apply (t k : Fin 8192) : val_main_v23 (F := Ideal) (ix2 t k) = BitVec.ofNat 32 (min (t.val + 128 - k.val) 256) := by
  have e : val_main_v17 (F := Ideal) (ix2 t k) = BitVec.ofNat 32 (min (t.val + 128 - k.val) 256) :=
    (show _ = clipWord (IntOp.subi (BitVec.ofNat 32 t.val) (BitVec.ofNat 32 k.val)) from by
      simp only [val_main_v17_apply, val_main_v15_apply, val_main_call0_v4_apply, val_main_call0_v2_apply, val_main_call0_v1_apply,
        val_main_v14_apply, val_main_v12_apply, val_main_v13_apply, val_main_v16_apply, val_main_v10_apply, val_main_v11_apply]
      rfl).trans (clipWord_eq _ _ (by omega) (by omega))
  rw [val_main_v23_apply, val_main_v22_apply, val_main_v20_apply, e, val_main_v19_apply, val_main_v21_apply]
  exact wrap_eq _ (by omega)

/-- Whether a key is in the band of a query. -/
def inBand (t k : Fin 8192) : Prop := k.val / 64 ≤ t.val / 64 ∧ t.val / 64 ≤ k.val / 64 + 8

instance (t k : Fin 8192) : Decidable (inBand t k) := by unfold inBand; infer_instance

/-- The mask: the key's chunk is the query's or one of the eight before it. -/
theorem band_apply (t k : Fin 8192) : val_main_v42 (F := Ideal) (ix2 t k)
    = IntOp.andi (BitVec.ofBool (decide (k.val / 64 ≤ t.val / 64))) (BitVec.ofBool (decide (t.val / 64 ≤ k.val / 64 + 8))) := by
  have ht := t.isLt
  have hk := k.isLt
  rw [val_main_v42_apply, val_main_v34_apply, val_main_v41_apply, val_main_v32_apply, val_main_v33_apply, val_main_v39_apply, val_main_v40_apply,
    val_main_v30_apply, val_main_v31_apply, val_main_v35_apply, val_main_v38_apply, val_main_v36_apply, val_main_v37_apply]
  rw [← sle_small _ _ (by omega) (by omega), ← sge_sub _ _ (by omega) (by omega), ← chunk_apply k, ← chunk_apply t]
  rfl

/-- The relative bias taken from the table of a head at an index. -/
theorem gather_apply (b : FVec Ideal S1x8x257 .f32) (h : Fin 8) (t k : Fin 8192) :
    val_main_v25 (F := Ideal) b (ix3 h t k) = b (ix3 0 h ⟨min (t.val + 128 - k.val) 256, by omega⟩) := by
  unfold val_main_v25
  have e : val_main_v24 (F := Ideal) (ix3 t k 0) = BitVec.ofNat 32 (min (t.val + 128 - k.val) 256) := by
    rw [val_main_v24_apply, ← distance_apply t k]
    rfl
  have hx : ∀ j : Fin 257, val_main_v18 (F := Ideal) b (ix2 h j) = b (ix3 0 h j) := fun j => by
    rw [val_main_v18_apply]
    refine congrArg b (funext fun a => Fin.ext ?_)
    match a with
    | ⟨0, _⟩ => rfl
    | ⟨1, _⟩ => show (h.val * 257 + j.val) / 257 % 8 = h.val; omega
    | ⟨2, _⟩ => show (h.val * 257 + j.val) % 257 = j.val; omega
  rw [← hx]
  generalize val_main_v18 (F := Ideal) b = x
  generalize val_main_v24 (F := Ideal) = w at e
  unfold Host.gather
  refine congrArg x (funext fun a => Fin.ext ?_)
  show gather_S8x257_S8192x8192x1_S8x8192x8192_0_1_n_n_1_2_81.start _ w a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show (0 : Fin 2) ∉ gather_S8x257_S8192x8192x1_S8x8192x8192_0_1_n_n_1_2_81.startIndexMap by decide)]
    rw [dif_pos (show (0 : Fin 2) ∈ gather_S8x257_S8192x8192x1_S8x8192x8192_0_1_n_n_1_2_81.sKept by decide)]
    show 0 + 0 + h.val = h.val
    omega
  · rw [GatherDims.offCoord_eq_zero _ _ _ (fun h => ((GatherDims.mem_sKept _ _).mp h).1 (List.mem_singleton.mpr rfl))]
    unfold GatherDims.start
    rw [dif_pos (show (1 : Fin 2) ∈ gather_S8x257_S8192x8192x1_S8x8192x8192_0_1_n_n_1_2_81.startIndexMap from List.mem_singleton.mpr rfl)]
    rw [show gather_S8x257_S8192x8192x1_S8x8192x8192_0_1_n_n_1_2_81.siIdx (ix3 h t k)
        ⟨List.idxOf (1 : Fin 2) gather_S8x257_S8192x8192x1_S8x8192x8192_0_1_n_n_1_2_81.startIndexMap,
          List.idxOf_lt_length_iff.2 (List.mem_singleton.mpr rfl)⟩ = ix3 t k 0 from funext fun b => Fin.ext (by
        match b with
        | ⟨0, _⟩ => rfl
        | ⟨1, _⟩ => rfl
        | ⟨2, _⟩ => rfl), e, toInt_small _ (by omega)]
    show min (min (t.val + 128 - k.val) 256) 256 + 0 + 0 = min (t.val + 128 - k.val) 256
    omega

/-- The row of position `t` of sequence `s`. -/
def row (s : Fin 2) (t : Fin 8192) : Fin 16384 := ⟨8192 * s.val + t.val, by omega⟩

/-- The column of entry `e` of head `h` in the columns from `o`. -/
def col (o : ℕ) (ho : o ≤ 2048) (h : Fin 8) (e : Fin 128) : Fin 10240 := ⟨o + (128 * h.val + e.val), by omega⟩

/-- The masked score of a query and a key. -/
def score (z : FVec Ideal S16384x10240 .f32) (b : FVec Ideal S1x8x257 .f32) (s : Fin 2) (h : Fin 8) (t k : Fin 8192) : EReal :=
  if inBand t k then
    (∑ e : Fin 128, z (ix2 (row s t) (col 0 (by omega) h e)) * z (ix2 (row s k) (col 1024 (by omega) h e))) * scale
      + b (ix3 0 h ⟨min (t.val + 128 - k.val) 256, by omega⟩)
  else ⊥

/-- The score of a key in the band. -/
theorem score_in (z : FVec Ideal S16384x10240 .f32) (b : FVec Ideal S1x8x257 .f32) (s : Fin 2) (h : Fin 8) (t k : Fin 8192)
    (hk : k.val / 64 ≤ t.val / 64 ∧ t.val / 64 ≤ k.val / 64 + 8) :
    score z b s h t k = (∑ e : Fin 128, z (ix2 (row s t) (col 0 (by omega) h e)) * z (ix2 (row s k) (col 1024 (by omega) h e))) * scale
      + b (ix3 0 h ⟨min (t.val + 128 - k.val) 256, by omega⟩) := by
  unfold score
  exact if_pos hk

/-- The score of a key outside the band. -/
theorem score_out (z : FVec Ideal S16384x10240 .f32) (b : FVec Ideal S1x8x257 .f32) (s : Fin 2) (h : Fin 8) (t k : Fin 8192)
    (hk : ¬ (k.val / 64 ≤ t.val / 64 ∧ t.val / 64 ≤ k.val / 64 + 8)) : score z b s h t k = ⊥ := by
  unfold score
  exact if_neg hk

/-- The queries by sequence, position, head and entry. -/
theorem query_apply (z : FVec Ideal S16384x10240 .f32) (s : Fin 2) (t : Fin 8192) (h : Fin 8) (e : Fin 128) :
    val_main_v1 (F := Ideal) z (ix4 s t h e) = z (ix2 (row s t) (col 0 (by omega) h e)) := by
  rw [val_main_v1_apply, val_main_v0_apply]
  refine congrArg z (funext fun a => Fin.ext ?_)
  match a with
  | ⟨0, _⟩ => show (((s.val * 8192 + t.val) * 8 + h.val) * 128 + e.val) / 1024 = 8192 * s.val + t.val; omega
  | ⟨1, _⟩ => show (((s.val * 8192 + t.val) * 8 + h.val) * 128 + e.val) % 1024 = 0 + (128 * h.val + e.val); omega

/-- The keys. -/
theorem key_apply (z : FVec Ideal S16384x10240 .f32) (s : Fin 2) (t : Fin 8192) (h : Fin 8) (e : Fin 128) :
    val_main_v3 (F := Ideal) z (ix4 s t h e) = z (ix2 (row s t) (col 1024 (by omega) h e)) := by
  rw [val_main_v3_apply, val_main_v2_apply]
  refine congrArg z (funext fun a => Fin.ext ?_)
  match a with
  | ⟨0, _⟩ => show (((s.val * 8192 + t.val) * 8 + h.val) * 128 + e.val) / 1024 = 8192 * s.val + t.val; omega
  | ⟨1, _⟩ => show 1024 + (((s.val * 8192 + t.val) * 8 + h.val) * 128 + e.val) % 1024 = 1024 + (128 * h.val + e.val); omega

/-- The values. -/
theorem value_apply (z : FVec Ideal S16384x10240 .f32) (s : Fin 2) (t : Fin 8192) (h : Fin 8) (e : Fin 128) :
    val_main_v5 (F := Ideal) z (ix4 s t h e) = z (ix2 (row s t) (col 2048 (by omega) h e)) := by
  rw [val_main_v5_apply, val_main_v4_apply]
  refine congrArg z (funext fun a => Fin.ext ?_)
  match a with
  | ⟨0, _⟩ => show (((s.val * 8192 + t.val) * 8 + h.val) * 128 + e.val) / 1024 = 8192 * s.val + t.val; omega
  | ⟨1, _⟩ => show 2048 + (((s.val * 8192 + t.val) * 8 + h.val) * 128 + e.val) % 1024 = 2048 + (128 * h.val + e.val); omega

/-- The word of `-∞`. -/
theorem neg_inf : Ideal.ofBits .f32 0xFF800000#32 = (⊥ : EReal) := by
  simp [Ideal.ofBits, Ideal.ieee]

/-- The masked scores. -/
theorem score_apply (z : FVec Ideal S16384x10240 .f32) (b : FVec Ideal S1x8x257 .f32) (s : Fin 2) (h : Fin 8) (t k : Fin 8192) :
    val_main_v44 (F := Ideal) z b (ix4 s h t k) = score z b s h t k := by
  have e1 : val_main_call2_v1 (F := Ideal) (ix4 s h t k)
      = IntOp.andi (BitVec.ofBool (decide (k.val / 64 ≤ t.val / 64))) (BitVec.ofBool (decide (t.val / 64 ≤ k.val / 64 + 8))) := by
    rw [val_main_call2_v1_apply, val_main_v43_apply, ← band_apply t k]
    rfl
  have e2 : val_main_v27 (F := Ideal) b (ix4 s h t k) = b (ix3 0 h ⟨min (t.val + 128 - k.val) 256, by omega⟩) := by
    rw [val_main_v27_apply, val_main_v26_apply, ← gather_apply b h t k]
    refine congrArg _ (funext fun a => Fin.ext ?_)
    match a with
    | ⟨0, _⟩ => rfl
    | ⟨1, _⟩ => rfl
    | ⟨2, _⟩ => rfl
  have e3 : val_main_v7 (F := Ideal) z (ix4 s h t k)
      = ∑ e : Fin 128, z (ix2 (row s t) (col 0 (by omega) h e)) * z (ix2 (row s k) (col 1024 (by omega) h e)) := by
    rw [val_main_v7_apply]
    refine Finset.sum_congr rfl fun e _ => ?_
    rw [← query_apply z s t h e, ← key_apply z s k h e]
    refine congrArg₂ (fun i j => val_main_v1 (F := Ideal) z i * val_main_v3 (F := Ideal) z j) (funext fun a => Fin.ext ?_) (funext fun a => Fin.ext ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  have e4 : val_main_v8 (F := Ideal) (ix4 s h t k) = scale := by
    rw [val_main_v8_apply]
    rfl
  have e5 : val_main_call2_v2 (F := Ideal) (ix4 s h t k) = ⊥ := by
    rw [val_main_call2_v2_apply, ← neg_inf]
    rfl
  rw [val_main_v44_apply, e1, val_main_v28_apply, val_main_v9_apply, e2, e3, e4, e5, select_both]
  rfl

/-- The greatest score of a query. -/
theorem top_apply (z : FVec Ideal S16384x10240 .f32) (b : FVec Ideal S1x8x257 .f32) (s : Fin 2) (h : Fin 8) (t : Fin 8192) :
    val_main_v47 (F := Ideal) z b (ix3 s h t) = top (score z b s h t) := by
  have e : val_main_v45 (F := Ideal) z b (ix3 s h t) = Finset.univ.fold max (Ideal.ofBits .f32 0xFF800000#32) (score z b s h t) := by
    unfold val_main_v45
    rw [show score z b s h t = fun k => val_main_v44 (F := Ideal) z b (ix4 s h t k) from funext fun k => (score_apply z b s h t k).symm]
    generalize val_main_v44 (F := Ideal) z b = y
    simp only [pointwise]
    rfl
  have e' : val_main_v46 (F := Ideal) (ix3 s h t) = ⊥ := by
    rw [val_main_v46_apply, ← neg_inf]
    rfl
  rw [val_main_v47_apply, e, e', neg_inf]
  exact max_eq_right bot_le

/-- The weights before the division. -/
theorem weight_apply (z : FVec Ideal S16384x10240 .f32) (b : FVec Ideal S1x8x257 .f32) (s : Fin 2) (h : Fin 8) (t k : Fin 8192) :
    val_main_v51 (F := Ideal) z b (ix4 s h t k) = weight (score z b s h t) k := by
  have e : val_main_v49 (F := Ideal) z b (ix4 s h t k) = top (score z b s h t) := by
    rw [val_main_v49_apply, val_main_v48_apply, ← top_apply]
    refine congrArg _ (funext fun a => Fin.ext ?_)
    match a with
    | ⟨0, _⟩ => rfl
    | ⟨1, _⟩ => rfl
    | ⟨2, _⟩ => rfl
  rw [val_main_v51_apply, val_main_v50_apply, e, score_apply]
  rfl

/-- The softmax. -/
theorem softmax_apply (z : FVec Ideal S16384x10240 .f32) (b : FVec Ideal S1x8x257 .f32) (s : Fin 2) (h : Fin 8) (t k : Fin 8192) :
    val_main_v55 (F := Ideal) z b (ix4 s h t k) = Ideal.div (weight (score z b s h t) k) (∑ j, weight (score z b s h t) j) := by
  have e : val_main_v54 (F := Ideal) z b (ix4 s h t k) = ∑ j, weight (score z b s h t) j := by
    rw [val_main_v54_apply, val_main_v53_apply, val_main_v52_apply]
    refine (congrArg₂ (· + ·) (show _ = (0 : EReal) from Ideal.ofBits_zero .f32) (Finset.sum_congr rfl fun j _ => ?_)).trans (zero_add _)
    rw [← weight_apply]
    refine congrArg _ (funext fun a => Fin.ext ?_)
    match a with
    | ⟨0, _⟩ => rfl
    | ⟨1, _⟩ => rfl
    | ⟨2, _⟩ => rfl
    | ⟨3, _⟩ => rfl
  rw [val_main_v55_apply, e, weight_apply]
  rfl

/-- The reference at the row of position `t` of sequence `s` and the column of entry `d` of head `h`. -/
theorem result_apply (z : FVec Ideal S16384x10240 .f32) (b : FVec Ideal S1x8x257 .f32) (s : Fin 2) (h : Fin 8) (t : Fin 8192) (d : Fin 128)
    (i : S16384x1024.Idx) (h0 : (i 0).val = 8192 * s.val + t.val) (h1 : (i 1).val = 128 * h.val + d.val) :
    val_main_v59 (F := Ideal) z b i = average (score z b s h t) (fun k => z (ix2 (row s k) (col 2048 (by omega) h d))) := by
  rw [val_main_v59_apply]
  show val_main_v58 (F := Ideal) z b i = _
  rw [val_main_v58_apply, val_main_v57_apply, val_main_v56_apply]
  unfold average
  refine Finset.sum_congr rfl fun k _ => ?_
  beta_reduce
  rw [mul_comm, ← value_apply z s k h d, ← softmax_apply z b s h t k]
  refine congrArg₂ (fun i j => val_main_v55 (F := Ideal) z b i * val_main_v5 (F := Ideal) z j) (funext fun a => Fin.ext ?_) (funext fun a => Fin.ext ?_)
  · match a with
    | ⟨0, _⟩ => show ((i 0).val * 1024 + (i 1).val) / 8388608 = s.val; omega
    | ⟨1, _⟩ => show ((i 0).val * 1024 + (i 1).val) / 128 % 8 = h.val; omega
    | ⟨2, _⟩ => show ((i 0).val * 1024 + (i 1).val) / 1024 % 8192 = t.val; omega
    | ⟨3, _⟩ => rfl
  · match a with
    | ⟨0, _⟩ => show ((i 0).val * 1024 + (i 1).val) / 8388608 = s.val; omega
    | ⟨1, _⟩ => rfl
    | ⟨2, _⟩ => show ((i 0).val * 1024 + (i 1).val) / 128 % 8 = h.val; omega
    | ⟨3, _⟩ => show ((i 0).val * 1024 + (i 1).val) % 128 = d.val; omega

end Cert.ReferenceIdeal.Reading

end
-- ==== Proof.Equation.lean ====
/-
  The kernel's window average is the reference's softmax average over all keys, for finite inputs.
-/
module

public import proofs.«01_k».proof.Defs
public import proofs.«01_k».proof.Proof.Array
public import proofs.«01_k».proof.Proof.Bias
public import proofs.«01_k».proof.Proof.Reading

@[expose] public section

set_option maxRecDepth 16384

noncomputable section

namespace Cert.Band

open Idealize.ShloMosaic Idealize.ShloMosaic.TcCoe

/-- A value whose absolute value compares below `+∞` is a real number. -/
theorem real_of_below (x : EReal) (h : Ideal.cmp .olt (max x (-x)) (Ideal.ofBits .f32 0x7F800000#32) = 1#1) : ∃ r : ℝ, x = r := by
  have h1 : max x (-x) < Ideal.ofBits .f32 0x7F800000#32 := by
    by_contra hc
    exact absurd h (by simp [Ideal.cmp, hc])
  have h2 : max x (-x) < ⊤ := lt_of_lt_of_le h1 le_top
  have h3 : x ≠ ⊤ := (lt_of_le_of_lt (le_max_left _ _) h2).ne
  have h4 : x ≠ ⊥ := fun e => by subst e; simp at h2
  exact ⟨x.toReal, (EReal.coe_toReal h3 h4).symm⟩

/-- The scale is a real number. -/
theorem scale_real : ∃ r : ℝ, Cert.ReferenceIdeal.Reading.scale = r := by
  unfold Cert.ReferenceIdeal.Reading.scale
  refine ⟨(Ideal.ofBits .f32 0x3DB504F3#32).toReal, (EReal.coe_toReal ?_ ?_).symm⟩ <;> simp [Ideal.ofBits, Ideal.ieee] <;> norm_cast <;> simp

/-- The first argument is finite under the precondition. -/
theorem real_arg0 [Cert.Pre_finite.Facts] (z : FVec Ideal Cert.Pre_finite.S16384x10240 .f32) (b : FVec Ideal Cert.Pre_finite.S1x8x257 .f32)
    (h : (Cert.Pre_finite.fn (F := Ideal) z b).1 = fun _ => 1#1) : ∃ zr : Cert.Pre_finite.S16384x10240.Idx → ℝ, ∀ i, z i = (zr i : EReal) :=
  ⟨fun i => Classical.choose (real_of_below (z i) (congrFun h i)), fun i => Classical.choose_spec (real_of_below (z i) (congrFun h i))⟩

/-- The second argument is finite under the precondition. -/
theorem real_arg1 [Cert.Pre_finite.Facts] (z : FVec Ideal Cert.Pre_finite.S16384x10240 .f32) (b : FVec Ideal Cert.Pre_finite.S1x8x257 .f32)
    (h : (Cert.Pre_finite.fn (F := Ideal) z b).2 = fun _ => 1#1) : ∃ br : Cert.Pre_finite.S1x8x257.Idx → ℝ, ∀ i, b i = (br i : EReal) :=
  ⟨fun i => Classical.choose (real_of_below (b i) (congrFun h i)), fun i => Classical.choose_spec (real_of_below (b i) (congrFun h i))⟩

/-- The scaled product of a query and a key: scaling the query first is scaling the sum. -/
theorem scaled_sum {n : ℕ} (q k : Fin n → EReal) (s : EReal) (qr kr : Fin n → ℝ) (sr : ℝ) (hq : ∀ e, q e = qr e) (hk : ∀ e, k e = kr e) (hs : s = sr) :
    (∑ e, q e * s * k e) = (∑ e, q e * k e) * s ∧ (∑ e, q e * k e) * s = ((∑ e, qr e * kr e) * sr : ℝ) := by
  subst hs
  have c : ∀ f : Fin n → ℝ, (∑ e, (f e : EReal)) = ((∑ e, f e : ℝ) : EReal) := fun f => by
    induction (Finset.univ : Finset (Fin n)) using Finset.induction_on with
    | empty => simp
    | insert a A ha ih => rw [Finset.sum_insert ha, Finset.sum_insert ha, ih, EReal.coe_add]
  have e1 : (∑ e, q e * k e) = ((∑ e, qr e * kr e : ℝ) : EReal) := by
    rw [← c]; exact Finset.sum_congr rfl fun e _ => by rw [hq, hk, EReal.coe_mul]
  have e2 : (∑ e, q e * sr * k e) = ((∑ e, qr e * sr * kr e : ℝ) : EReal) := by
    rw [← c]; exact Finset.sum_congr rfl fun e _ => by rw [hq, hk, EReal.coe_mul, EReal.coe_mul]
  rw [e1, e2]
  refine ⟨?_, (EReal.coe_mul _ _).symm⟩
  rw [← EReal.coe_mul, Finset.sum_mul]
  exact congrArg _ (Finset.sum_congr rfl fun e _ => by ring)

open Cert.KernelIdeal.Array Cert.ReferenceIdeal.Reading in
/-- One entry: the window's average is the average over all keys. -/
theorem entry_eq (z : FVec Ideal Cert.ReferenceIdeal.S16384x10240 .f32) (b : FVec Ideal Cert.ReferenceIdeal.S1x8x257 .f32)
    (B : FVec Ideal Cert.KernelIdeal.S8x128x640 .f32)
    (zr : Cert.ReferenceIdeal.S16384x10240.Idx → ℝ) (hz : ∀ i, z i = (zr i : EReal)) (br : Cert.ReferenceIdeal.S1x8x257.Idx → ℝ) (hb : ∀ i, b i = (br i : EReal))
    (hB : ∀ (h : Fin 8) (a : Fin 128) (w : Fin 640), B (ix3 h a w)
      = (if a.val / 64 ≤ w.val / 64 ∧ w.val / 64 ≤ a.val / 64 + 8 then b (ix3 0 h ⟨min (640 + a.val - w.val) 256, by omega⟩) else (⊥ : EReal)))
    (s : Fin 2) (t : Fin 8192) (h : Fin 8) (d : Fin 128) (R : Fin 16384) (C : Fin 1024)
    (hR : R.val = 8192 * s.val + t.val) (hC : C.val = 128 * h.val + d.val) :
    result z B R C = average (score z b s h t) (fun k => z (ix2 (row s k) (col 2048 (by omega) h d))) := by
  obtain ⟨sr, hs⟩ := scale_real
  obtain rfl : R = row s t := Fin.ext hR
  have hst : start (row s t).val = 128 * (t.val / 128) := by unfold start; omega
  have ha : (Fin.ofNat 128 (row s t).val).val = t.val % 128 := by show (8192 * s.val + t.val) % 128 = _; omega
  have ht := t.isLt
  have hh : Fin.ofNat 8 (C.val / 128) = h := Fin.ext (by show C.val / 128 % 8 = h.val; omega)
  have key : ∀ w : Fin 640, 512 ≤ 128 * (t.val / 128) + w.val → keyRow (row s t) w = row s ⟨128 * (t.val / 128) + w.val - 512, by omega⟩ := fun w hw =>
    Fin.ext (by
      show 8192 * ((row s t).val / 8192) + (if start (row s t).val + w.val < 512 then start (row s t).val + w.val else start (row s t).val + w.val - 512)
        = 8192 * s.val + (128 * (t.val / 128) + w.val - 512)
      rw [hst, if_neg (by omega)]
      omega)
  have c0 : ∀ e : Fin 128, (Fin.ofNat 10240 (128 * (C.val / 128) + e.val) : Fin 10240) = col 0 (by omega) h e := fun e =>
    Fin.ext (by show (128 * (C.val / 128) + e.val) % 10240 = 0 + (128 * h.val + e.val); omega)
  have c1 : ∀ e : Fin 128, (Fin.ofNat 10240 (1024 + 128 * (C.val / 128) + e.val) : Fin 10240) = col 1024 (by omega) h e := fun e =>
    Fin.ext (by show (1024 + 128 * (C.val / 128) + e.val) % 10240 = 1024 + (128 * h.val + e.val); omega)
  have c2 : (Fin.ofNat 10240 (2048 + C.val) : Fin 10240) = col 2048 (by omega) h d :=
    Fin.ext (by show (2048 + C.val) % 10240 = 2048 + (128 * h.val + d.val); omega)
  have sums : ∀ k : Fin 8192, (∑ e : Fin 128, z (ix2 (row s t) (col 0 (by omega) h e)) * scale * z (ix2 (row s k) (col 1024 (by omega) h e)))
        = (∑ e : Fin 128, z (ix2 (row s t) (col 0 (by omega) h e)) * z (ix2 (row s k) (col 1024 (by omega) h e))) * scale
      ∧ (∑ e : Fin 128, z (ix2 (row s t) (col 0 (by omega) h e)) * z (ix2 (row s k) (col 1024 (by omega) h e))) * scale
        = ((∑ e : Fin 128, zr (ix2 (row s t) (col 0 (by omega) h e)) * zr (ix2 (row s k) (col 1024 (by omega) h e))) * sr : ℝ) := fun k =>
    scaled_sum (fun e => z (ix2 (row s t) (col 0 (by omega) h e))) (fun e => z (ix2 (row s k) (col 1024 (by omega) h e))) scale _ _ sr (fun e => hz _) (fun e => hz _) hs
  unfold result
  rw [hst, hh, c2]
  simp only [c0, c1, hB]
  refine average_window _ _ _ _ (fun w => 512 ≤ 128 * (t.val / 128) + w.val) (fun w => ⟨128 * (t.val / 128) + w.val - 512, by omega⟩) ?_ ?_ ?_ ?_ ?_ ?_ t ?_
  · intro w w' hw hw' e
    have := congrArg Fin.val e
    exact Fin.ext (by simp only at this hw hw'; omega)
  · intro w hw
    beta_reduce at hw ⊢
    rw [if_neg (show ¬ 128 * (t.val / 128) + w.val < 512 by omega), add_zero, key w hw]
    have hw' := w.isLt
    by_cases hc : t.val % 128 / 64 ≤ w.val / 64 ∧ w.val / 64 ≤ t.val % 128 / 64 + 8
    · rw [if_pos (by rw [ha]; exact hc), score_in z b s h t _ (by simp only; omega), ← (sums _).1]
      refine congrArg₂ (· + ·) rfl (congrArg b (congrArg (ix3 0 h) (Fin.ext ?_)))
      show min (640 + (Fin.ofNat 128 (row s t).val).val - w.val) 256 = min (t.val + 128 - (128 * (t.val / 128) + w.val - 512)) 256
      rw [ha]
      omega
    · rw [if_neg (by rw [ha]; exact hc), score_out z b s h t _ (by simp only; omega), EReal.add_bot]
  · intro w hw
    beta_reduce at hw ⊢
    rw [key w hw]
  · intro w hw
    beta_reduce at hw ⊢
    rw [if_pos (show 128 * (t.val / 128) + w.val < 512 by omega), EReal.add_bot]
  · intro k hk
    refine score_out z b s h t k fun hc => ?_
    have hk' := k.isLt
    exact hk ⟨k.val + 512 - 128 * (t.val / 128), by omega⟩ (by simp only; omega) (Fin.ext (by simp only; omega))
  · intro k
    by_cases hc : k.val / 64 ≤ t.val / 64 ∧ t.val / 64 ≤ k.val / 64 + 8
    · rw [score_in z b s h t k hc, (sums k).2, hb, ← EReal.coe_add]
      exact EReal.coe_ne_top _
    · rw [score_out z b s h t k hc]
      exact bot_ne_top
  · rw [score_in z b s h t t (by omega), (sums t).2, hb, ← EReal.coe_add]
    exact EReal.coe_ne_bot _

/-- The kernel's result is the reference's, for finite inputs. -/
theorem values_eq [Cert.Pre_finite.Facts] (m : (ℓ : Loc Cert.KernelIdeal.nD Cert.KernelIdeal.τ Cert.KernelIdeal.sig) → Buf (Elt Ideal) ℓ)
    (hm : Cert.Pre_KernelIdeal_finite m) (c : Dev Cert.KernelIdeal.nD) :
    (Cert.KernelIdeal.Gen.dats m 0 c).arrAt 6 Cert.KernelIdeal.cfg0.N
      = Cert.ReferenceIdeal.Read.val_main_v59 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨zr, hz⟩ := real_arg0 _ _ (hm c).1
  obtain ⟨br, hb⟩ := real_arg1 _ _ (hm c).2
  refine (Cert.KernelIdeal.Array.array_apply m c).trans (funext fun i => ?_)
  have hi0 : (i 0).val < 16384 := (i 0).isLt
  have hi1 : (i 1).val < 1024 := (i 1).isLt
  rw [Cert.ReferenceIdeal.Reading.result_apply _ _ ⟨(i 0).val / 8192, by omega⟩ ⟨(i 1).val / 128, by omega⟩ ⟨(i 0).val % 8192, by omega⟩
    ⟨(i 1).val % 128, by omega⟩ i (by simp only; omega) (by simp only; omega)]
  rw [Cert.KernelIdeal.Gen.V_main_arg0]
  exact entry_eq _ _ _ zr hz br hb (fun h a w => Cert.KernelIdeal.Bias.table_apply m c h a w) _ _ _ _ (i 0) (i 1) (by simp only; omega) (by simp only; omega)

end Cert.Band

end
-- ==== Proof.Filled.lean ====
/-
  What a buffer holds after a store that fills it.
-/
module

public import Idealize.ShloMosaic.Lib.Claim
public import Idealize.ShloMosaic.Lib.Pipeline.Value
public import Idealize.ShloMosaic.Lib.Pipeline.ValueKit.Acc

@[expose] public section

noncomputable section

namespace Cert.Filled

open Idealize.ShloMosaic Idealize.ShloMosaic.TcCoe

variable {F : FTy → Type} [FloatOps F] {sig : RefSig}

/-- A buffer whose last store filled it holds what that store stored. -/
theorem read_filled {κ : Kind} {sp : Space} {s : Shape} {e : EltTy} (v : View sig κ sp s e) (f : v.ty.Contents (Elt F)) {off : Fin s.rank → ℕ}
    (inb : ∀ a, off a + s.size a ≤ s.size a) (p : s.Idx → Elt F e) (L : List (View.Piece (Elt F) s e)) (h : ∀ a, off a = 0) :
    v.read (Elt F) (v.writes (Elt F) f ((⟨Rect.unit off (no_index s.size) inb, p⟩ : View.Piece (Elt F) s e) :: L)) = p := by
  obtain rfl : off = fun _ => 0 := funext h
  rw [View.read_writes_eq_canon v f _ fun y => ⟨_, List.mem_cons_self, (Rect.mem_set_unit (inb := inb)).2 fun a => ⟨Nat.zero_le _, by
    rw [Nat.zero_add]; exact (y a).isLt⟩⟩]
  exact View.canon_cons_unit_lit inb p L fun _ => rfl

end Cert.Filled

end
-- ==== Proof.InprojBody.lean ====
/-
  The body of the input projection at one grid point: the first point of a row tile normalizes and modulates the tile, keeps it,
  and multiplies it by the narrow weights; every point multiplies the kept tile by its block of the wide weights.
-/
module

public import proofs.«01_k».proof.Proof.Gen.Kernel2Ideal.Frame
public import proofs.«01_k».proof.Proof.Filled
public import Idealize.ShloMosaic.Lib.Claim
public import Idealize.ShloMosaic.Lib.Pipeline.Value
public import Idealize.ShloMosaic.Lib.Pipeline.ValueKit.Acc

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen Cert.Kernel2Ideal Cert.Kernel2Ideal.Facts Cert.Filled

variable {F : FTy → Type} [FloatOps F]

local notation "𝕄" => MT nD τ sig Unit (Elt F) ℕ (UR sig nD τ) ℕ

/-- The normalized and modulated tile: rows over the root of their mean square, times the gain, times one plus the scale, plus the shift. -/
def tile (x : FVec F S1024x2048 .f32) (sh sc : FVec F S1x1x2048 .f32) (g : FVec F S1x2048 .f32) : FVec F S1024x2048 .bf16 :=
  truncf .bf16 (addf (mulf (mulf (mulf x (broadcastTo S1024x2048 (rsqrt (addf (divf
      (shapeCast S1024x1 (multiReduction .add [1] S1024 (mulf x x) 0x00000000#32 reduces_S1024x2048_S1024 (.inl rfl) rfl) shapeCasts_S1024_S1024x1)
      (broadcast S1024x1 (Scalar.ofBits .f32 0x45000000#32))) (broadcast S1024x1 (Scalar.ofBits .f32 0x358637BD#32)))) broadcasts_S1024x1_S1024x2048))
      (broadcastTo S1024x2048 g broadcasts_S1x2048_S1024x2048))
      (broadcastTo S1024x2048 (addf (broadcast S1x2048 (Scalar.ofBits .f32 0x3F800000#32)) (shapeCast S1x2048 sc shapeCasts_S1x1x2048_S1x2048))
        broadcasts_S1x2048_S1024x2048))
    (broadcastTo S1024x2048 (shapeCast S1x2048 sh shapeCasts_S1x1x2048_S1x2048) broadcasts_S1x2048_S1024x2048)) bitsLt_bf16_f32

/-- A tile times a block of the wide weights. -/
def wide (h : FVec F S1024x2048 .bf16) (w : FVec F S2048x1024 .bf16) : FVec F S1024x1024 .f32 :=
  matmul dot_S1024x2048_S2048x1024_S1024x1024_1_0_0_1_n_n none h w (constant S1024x1024 .f32 0x00000000#32)

/-- A tile times the narrow weights. -/
def narrow (h : FVec F S1024x2048 .bf16) (w : FVec F S2048x128 .bf16) : FVec F S1024x128 .f32 :=
  matmul dot_S1024x2048_S2048x128_S1024x128_1_0_0_1_n_n none h w (constant S1024x128 .f32 0x00000000#32)

set_option maxHeartbeats 4000000 in
/-- The first point of a row tile. -/
theorem first (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S1x2048 .f32) (h5 : a5.IsWhole) (a6 : Memref sig .tc .vmem S2048x1024 .bf16) (h6 : a6.IsWhole)
    (a7 : Memref sig .tc .vmem S2048x128 .bf16) (h7 : a7.IsWhole) (a8 : Memref sig .tc .vmem S1024x1024 .f32) (h8 : a8.IsWhole)
    (a9 : Memref sig .tc .vmem S1024x128 .f32) (h9 : a9.IsWhole) (a10 : Memref sig .tc .vmem S1024x2048 .bf16) (h10 : a10.IsWhole)
    (hc : k0_cond1 i = 1#1)
    (x : Vec F S1024x2048 .f32) (sh sc : Vec F S1x1x2048 .f32) (g : Vec F S1x2048 .f32) (w : Vec F S2048x1024 .bf16) (v : Vec F S2048x128 .bf16)
    (E : Set ℕ) (K : PUnit → sProp 𝕄) :
    iprop(owns (c : Thread nD τ) a2 fullShare x ∗ owns (c : Thread nD τ) a3 fullShare sh ∗ owns (c : Thread nD τ) a4 fullShare sc
        ∗ owns (c : Thread nD τ) a5 fullShare g ∗ owns (c : Thread nD τ) a6 fullShare w ∗ owns (c : Thread nD τ) a7 fullShare v
        ∗ (∃ d, owns (c : Thread nD τ) a8 fullShare d) ∗ (∃ d, owns (c : Thread nD τ) a9 fullShare d) ∗ (∃ d, owns (c : Thread nD τ) a10 fullShare d)
        ∗ (iprop(owns (c : Thread nD τ) a2 fullShare x ∗ owns (c : Thread nD τ) a3 fullShare sh ∗ owns (c : Thread nD τ) a4 fullShare sc
            ∗ owns (c : Thread nD τ) a5 fullShare g ∗ owns (c : Thread nD τ) a6 fullShare w ∗ owns (c : Thread nD τ) a7 fullShare v
            ∗ owns (c : Thread nD τ) a8 fullShare (wide (tile x sh sc g) w) ∗ owns (c : Thread nD τ) a9 fullShare (narrow (tile x sh sc g) v)
            ∗ owns (c : Thread nD τ) a10 fullShare (tile x sh sc g)) -∗ K ⟨⟩))
      ⊢ wp frame (wpE (defs₀ (F := F)) Variants.none c none) E (cc0_inproj i a2 h2 a3 h3 a4 h4 a5 h5 a6 h6 a7 h7 a8 h8 a9 h9 a10 h10) K := by
  unfold cc0_inproj
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (read_filled _ _ _ _ _ (by decide)).trans ?_
    sl_unfold_words
    simp (disch := decide) only [View.readAt_eq_ld, h2.read_unread, h3.read_unread, h4.read_unread, h5.read_unread, h6.read_unread,
      View.ld_unit_lit', View.readCov_unit_lit', shapeCast_self]
    rfl
  isplitl [H9]
  · iexists _; isplitr
    swap; · iexact H9
    ipureintro
    refine (read_filled _ _ _ _ _ (by decide)).trans ?_
    sl_unfold_words
    simp (disch := decide) only [View.readAt_eq_ld, h2.read_unread, h3.read_unread, h4.read_unread, h5.read_unread, h7.read_unread,
      View.ld_unit_lit', shapeCast_self]
    rfl
  iexists _; isplitr
  swap; · iexact H10
  ipureintro
  sl_unfold_words
  refine (read_filled _ _ _ _ _ (by decide)).trans ?_
  simp (disch := decide) only [View.readAt_eq_ld, h2.read_unread, h3.read_unread, h4.read_unread, h5.read_unread,
    View.ld_unit_lit', shapeCast_self]
  rfl

set_option maxHeartbeats 4000000 in
/-- Every other point of a row tile, the kept tile being `h`. -/
theorem later (c : Dev nD) (i : grid0.Coords) (a2 : Memref sig .tc .vmem S1024x2048 .f32) (h2 : a2.IsWhole)
    (a3 : Memref sig .tc .vmem S1x1x2048 .f32) (h3 : a3.IsWhole) (a4 : Memref sig .tc .vmem S1x1x2048 .f32) (h4 : a4.IsWhole)
    (a5 : Memref sig .tc .vmem S1x2048 .f32) (h5 : a5.IsWhole) (a6 : Memref sig .tc .vmem S2048x1024 .bf16) (h6 : a6.IsWhole)
    (a7 : Memref sig .tc .vmem S2048x128 .bf16) (h7 : a7.IsWhole) (a8 : Memref sig .tc .vmem S1024x1024 .f32) (h8 : a8.IsWhole)
    (a9 : Memref sig .tc .vmem S1024x128 .f32) (h9 : a9.IsWhole) (a10 : Memref sig .tc .vmem S1024x2048 .bf16) (h10 : a10.IsWhole)
    (hc : ¬k0_cond1 i = 1#1) (w : Vec F S2048x1024 .bf16) (h : Vec F S1024x2048 .bf16) (E : Set ℕ) (K : PUnit → sProp 𝕄) :
    iprop(owns (c : Thread nD τ) a6 fullShare w ∗ (∃ d, owns (c : Thread nD τ) a8 fullShare d) ∗ owns (c : Thread nD τ) a10 fullShare h
        ∗ (iprop(owns (c : Thread nD τ) a6 fullShare w ∗ owns (c : Thread nD τ) a8 fullShare (wide h w)
            ∗ owns (c : Thread nD τ) a10 fullShare h) -∗ K ⟨⟩))
      ⊢ wp frame (wpE (defs₀ (F := F)) Variants.none c none) E (cc0_inproj i a2 h2 a3 h3 a4 h4 a5 h5 a6 h6 a7 h7 a8 h8 a9 h9 a10 h10) K := by
  unfold cc0_inproj
  unfold owns
  iintro ⟨⟨%f6, %e6, H6⟩, ⟨%d8, %f8, -, H8⟩, ⟨%f10, %e10, H10⟩, Hk⟩
  obtain rfl := h6.eq_unread e6; obtain rfl := h10.eq_unread e10
  sl_exec (disch := first | sl_exact hc)
  sl_step
  iapply Hk
  isplitl [H6]
  · iexists _; isplitr; · ipureintro; exact h6.read_unread _
    iexact H6
  isplitl [H8]
  · iexists _; isplitr
    swap; · iexact H8
    ipureintro
    refine (read_filled _ _ _ _ _ (by decide)).trans ?_
    sl_unfold_words
    simp (disch := decide) only [View.readAt_eq_ld, h6.read_unread, h10.read_unread, View.ld_unit_lit', shapeCast_self]
    rfl
  iexists _; isplitr; · ipureintro; exact h10.read_unread _
  iexact H10

/-! ## The launch -/

variable (m : (ℓ : Loc nD τ sig) → Buf (Elt F) ℓ) (ρ : Dev nD → PrngReg)

/-- The body's branch is taken at the first point of each row tile. -/
theorem cond_iff : ∀ t : Fin cfg0.N, k0_cond1 (grid0.coords t) = 1#1 ↔ t.val % 10 = 0 :=
  (by decide +kernel : ∀ t : Fin grid0.N, k0_cond1 (grid0.coords t) = 1#1 ↔ t.val % 10 = 0)

/-- The buffer that keeps the tile. -/
abbrev kept : Memref sig .tc .vmem S1024x2048 .bf16 := Memref.whole cc0_scratch0

/-- The first point of the row tile of point `n`. -/
def start (n : ℕ) (hn : n < cfg0.N) : Fin cfg0.N := ⟨n / 10 * 10, by omega⟩

/-- The tile kept at point `n`. -/
def tileAt (c : Dev nD) (n : ℕ) (hn : n < cfg0.N) : FVec F S1024x2048 .bf16 :=
  tile (iblk m c 0 (start n hn)) (iblk m c 1 (start n hn)) (iblk m c 2 (start n hn)) (iblk m c 3 (start n hn))

/-- What the kept buffer is known to hold before point `n`: nothing at first, then the last point's tile. -/
def keeps (c : Dev nD) : (n : ℕ) → n ≤ cfg0.N → sProp 𝕄
  | 0, _ => Pipeline.ΦA spec0 c
  | n + 1, hn => iprop(owns (c : Thread nD τ) kept fullShare (tileAt m c n hn) ∗ (∃ r, prngReg c r))

/-- The proof data: the wide product at every point, the narrow product of the row tile, and the kept tile. -/
def data (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => wide (tileAt m c t.val t.isLt) (iblk m c 4 t)
    | ⟨7, _⟩ => narrow (tileAt m c t.val t.isLt) (iblk m c 5 (start t.val t.isLt))
  Φ t := keeps m c t.val (Nat.le_of_lt_succ t.isLt)
  q _ := fullShare
  owed _ := 0

/-- The arrays of the proof data are the arrays' contents at the launch. -/
theorem data_A (c : Dev nD) (w : Fin cfg0.W) : (data m 0 c).A w = V m c (Pipeline.arrRef spec0 w) := by dsimp only [data]

/-- Points of one row tile have the same first point. -/
theorem start_eq {n k : ℕ} (hn : n < cfg0.N) (hk : k < cfg0.N) (h : n / 10 = k / 10) : start n hn = start k hk := by
  unfold start; simp only [h]

/-- Points of one row tile keep the same tile. -/
theorem tileAt_eq (c : Dev nD) {n k : ℕ} (hn : n < cfg0.N) (hk : k < cfg0.N) (h : n / 10 = k / 10) : tileAt m c n hn = tileAt m c k hk := by
  unfold tileAt; rw [start_eq hn hk h]

/-- Within a row tile the narrow product stands in its buffer: nothing is stored there after the first point. -/
theorem before_narrow (c : Dev nD) (d) : ∀ (n : ℕ) (hn : n < cfg0.N), n % 10 ≠ 0 →
    (data m 0 c).before 7 ⟨n, hn⟩ d = narrow (tileAt m c n hn) (iblk m c 5 (start n hn)) := by
  intro n
  induction n with
  | zero => intro _ h; exact absurd rfl h
  | succ n ih =>
    intro hn h
    have hn' : n < cfg0.N := Nat.lt_of_succ_lt hn
    have hf : (cfg0.win 7).flush ⟨n, hn'⟩ = false :=
      Bool.eq_false_iff.2 fun e => by have := (flush0_7 ⟨n, hn'⟩).1 e; simp only at this; omega
    have e : (data m 0 c).before 7 ⟨n + 1, hn⟩ d = (data m 0 c).left 7 ⟨n, hn'⟩ d := by
      rw [(data m 0 c).before_of_pos 7 ⟨n + 1, hn⟩ (Nat.succ_ne_zero n) ((cfg0.win 7).fetch_out rfl _)]
      show (if (cfg0.win 7).flush ⟨n, hn'⟩ = true then d else _) = _
      rw [hf, if_neg Bool.false_ne_true]; rfl
    rw [e]
    rw [tileAt_eq m c hn hn' (by omega), start_eq hn hn' (by omega)]
    unfold Pipeline.Dat.left
    by_cases h0 : n % 10 = 0
    · have hi : cfg0.idle 7 (cfg0.grid.coords ⟨n, hn'⟩) = false := by
        show (!(k0_cond1 (grid0.coords ⟨n, hn'⟩) == 1#1)) = false
        rw [(cond_iff ⟨n, hn'⟩).2 h0]; rfl
      rw [hi]
      show (data m 0 c).kept 7 ⟨n, hn'⟩ d = _
      unfold Pipeline.Dat.kept
      rw [Pipeline.fill_of_clip_none 7 _ (fun _ => rfl) d ((data m 0 c).after 7 _), Pipeline.Window.fill_cut]
      dsimp only [data]
    · have hi : cfg0.idle 7 (cfg0.grid.coords ⟨n, hn'⟩) = true := by
        show (!(k0_cond1 (grid0.coords ⟨n, hn'⟩) == 1#1)) = true
        have := mt (cond_iff ⟨n, hn'⟩).1 h0
        simp [this]
      rw [hi]
      exact ih hn' h0

/-- A row tile's first point is its own. -/
theorem start_self (t : Fin cfg0.N) (h : t.val % 10 = 0) : start t.val t.isLt = t := Fin.ext (by unfold start; simp only; omega)

/-- The launch's scoped storage besides the staging buffers: the kept buffer at some contents, and the generator's register. -/
theorem scratch_owned (c : Dev nD) : (Pipeline.ΦA spec0 c : sProp 𝕄)
    = iprop((∃ d, owns (c : Thread nD τ) kept fullShare d) ∗ (∃ r, prngReg c r)) := by
  unfold Pipeline.ΦA; rw [scopedRest0_eq]; simp only [kept, owns_whole]; rfl

/-- Before the first point nothing is known of the kept buffer. -/
theorem keeps_zero (c : Dev nD) (n : ℕ) (h : n ≤ cfg0.N) (hz : n = 0) : keeps m c n h = Pipeline.ΦA spec0 c := by
  subst hz; rfl

/-- Before every later point the kept buffer holds the tile of the point before. -/
theorem keeps_pos (c : Dev nD) (n : ℕ) (h : n ≤ cfg0.N) (hz : n ≠ 0) :
    keeps m c n h = iprop(owns (c : Thread nD τ) kept fullShare (tileAt m c (n - 1) (by omega)) ∗ (∃ r, prngReg c r)) := by
  cases n with
  | zero => exact absurd rfl hz
  | succ n => rfl

/-- Whatever is known of the kept buffer, it holds something. -/
theorem keeps_some (c : Dev nD) (n : ℕ) (h : n ≤ cfg0.N) :
    keeps m c n h ⊢ iprop((∃ d, owns (c : Thread nD τ) kept fullShare d) ∗ (∃ r, prngReg c r)) := by
  by_cases hz : n = 0
  · rw [keeps_zero m c n h hz, scratch_owned]
  · rw [keeps_pos m c n h hz]
    iintro ⟨H, Hg⟩
    isplitl [H]
    · iexists _; iexact H
    iexact Hg

/-- The block of the rows that a point finds staged. -/
theorem found0 (c : Dev nD) (t : Fin cfg0.N) (d) : (data m 0 c).before 0 t d = iblk m c 0 t :=
  before0_0_of m (data m 0 c) (data_A m c 0) (fun _ => by dsimp only [data]) t d
/-- The block of the shift that a point finds staged. -/
theorem found1 (c : Dev nD) (t : Fin cfg0.N) (d) : (data m 0 c).before 1 t d = iblk m c 1 t :=
  before0_1_of m (data m 0 c) (data_A m c 1) (fun _ => by dsimp only [data]) t d
/-- The block of the scale that a point finds staged. -/
theorem found2 (c : Dev nD) (t : Fin cfg0.N) (d) : (data m 0 c).before 2 t d = iblk m c 2 t :=
  before0_2_of m (data m 0 c) (data_A m c 2) (fun _ => by dsimp only [data]) t d
/-- The block of the gain that a point finds staged. -/
theorem found3 (c : Dev nD) (t : Fin cfg0.N) (d) : (data m 0 c).before 3 t d = iblk m c 3 t :=
  before0_3_of m (data m 0 c) (data_A m c 3) (fun _ => by dsimp only [data]) t d
/-- The block of the wide weights that a point finds staged. -/
theorem found4 (c : Dev nD) (t : Fin cfg0.N) (d) : (data m 0 c).before 4 t d = iblk m c 4 t :=
  before0_4_of m (data m 0 c) (data_A m c 4) (fun _ => by dsimp only [data]) t d
/-- The block of the narrow weights that a point finds staged. -/
theorem found5 (c : Dev nD) (t : Fin cfg0.N) (d) : (data m 0 c).before 5 t d = iblk m c 5 t :=
  before0_5_of m (data m 0 c) (data_A m c 5) (fun _ => by dsimp only [data]) t d

/-- What the body leaves of the narrow product's buffer at a point: as found where nothing is stored or written back. -/
def leaves (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((data m 0 c).before 7 t d))
    | true => owns (c : Thread nD τ) (st0_7 t) fullShare ((data m 0 c).after 7 t)
  | false => owns (c : Thread nD τ) (st0_7 t) fullShare ((data m 0 c).after 7 t)

/-- At a row tile's first point the body leaves the narrow product. -/
theorem leaves_first (c : Dev nD) (t : Fin cfg0.N) (h : t.val % 10 = 0) :
    leaves m c t = owns (c : Thread nD τ) (st0_7 t) fullShare (narrow (tileAt m c t.val t.isLt) (iblk m c 5 (start t.val t.isLt))) := by
  have hi : cfg0.idle 7 (cfg0.grid.coords t) = false := by
    show (!(k0_cond1 (grid0.coords t) == 1#1)) = false
    rw [(cond_iff t).2 h]; rfl
  unfold leaves; rw [hi]; dsimp only [data]

/-- At the others what was found suffices. -/
theorem leaves_later (c : Dev nD) (t : Fin cfg0.N) (h : ¬t.val % 10 = 0) :
    iprop(∃ d, owns (c : Thread nD τ) (st0_7 t) fullShare ((data m 0 c).before 7 t d)) ⊢ leaves m c t := by
  have hi : cfg0.idle 7 (cfg0.grid.coords t) = true := by
    show (!(k0_cond1 (grid0.coords t) == 1#1)) = true
    have := mt (cond_iff t).1 h
    simp [this]
  unfold leaves; rw [hi]
  cases hf : (cfg0.win 7).flush t
  · exact .rfl
  · simp only
    iintro ⟨%d, H⟩
    rw [before_narrow m c d t.val t.isLt h]
    iexact H

set_option maxHeartbeats 4000000 in
/-- The body at any point, from the windows' blocks and the kept tile to the products and the tile. -/
theorem body (c : Dev nD) (t : Fin cfg0.N) :
    iprop((data m 0 c).Φ t.castSucc ∗ (data m 0 c).owesAt () t.castSucc
      ∗ (∃ d, owns (c : Thread nD τ) (st0_0 t) fullShare ((data m 0 c).before 0 t d))
      ∗ (∃ d, owns (c : Thread nD τ) (st0_1 t) fullShare ((data m 0 c).before 1 t d))
      ∗ (∃ d, owns (c : Thread nD τ) (st0_2 t) fullShare ((data m 0 c).before 2 t d))
      ∗ (∃ d, owns (c : Thread nD τ) (st0_3 t) fullShare ((data m 0 c).before 3 t d))
      ∗ (∃ d, owns (c : Thread nD τ) (st0_4 t) fullShare ((data m 0 c).before 4 t d))
      ∗ (∃ d, owns (c : Thread nD τ) (st0_5 t) fullShare ((data m 0 c).before 5 t d))
      ∗ (∃ d, owns (c : Thread nD τ) (st0_6 t) fullShare ((data m 0 c).before 6 t d))
      ∗ (∃ d, owns (c : Thread nD τ) (st0_7 t) fullShare ((data m 0 c).before 7 t d)))
    ⊢ wp frame (wpE (defs₀ (F := F)) Variants.none c none) Set.univ (bodyAt0 t) (fun _ =>
      iprop((data m 0 c).Φ t.succ ∗ (data m 0 c).owesAt () t.succ
        ∗ owns (c : Thread nD τ) (st0_0 t) fullShare ((data m 0 c).after 0 t)
        ∗ owns (c : Thread nD τ) (st0_1 t) fullShare ((data m 0 c).after 1 t)
        ∗ owns (c : Thread nD τ) (st0_2 t) fullShare ((data m 0 c).after 2 t)
        ∗ owns (c : Thread nD τ) (st0_3 t) fullShare ((data m 0 c).after 3 t)
        ∗ owns (c : Thread nD τ) (st0_4 t) fullShare ((data m 0 c).after 4 t)
        ∗ owns (c : Thread nD τ) (st0_5 t) fullShare ((data m 0 c).after 5 t)
        ∗ owns (c : Thread nD τ) (st0_6 t) fullShare ((data m 0 c).after 6 t)
        ∗ leaves m c t)) := by
  unfold bodyAt0
  simp only [found0, found1, found2, found3, found4, found5]
  rw [show (data m 0 c).owesAt () t.succ = (data m 0 c).owesAt () t.castSucc from rfl,
    show (data m 0 c).Φ t.castSucc = keeps m c t.val (Nat.le_of_lt t.isLt) from rfl,
    show (data m 0 c).Φ t.succ = iprop(owns (c : Thread nD τ) kept fullShare (tileAt m c t.val t.isLt) ∗ (∃ r, prngReg c r)) from rfl,
    show (data m 0 c).after 0 t = iblk m c 0 t from rfl, show (data m 0 c).after 1 t = iblk m c 1 t from rfl,
    show (data m 0 c).after 2 t = iblk m c 2 t from rfl, show (data m 0 c).after 3 t = iblk m c 3 t from rfl,
    show (data m 0 c).after 4 t = iblk m c 4 t from rfl, show (data m 0 c).after 5 t = iblk m c 5 t from rfl,
    show (data m 0 c).after 6 t = wide (tileAt m c t.val t.isLt) (iblk m c 4 t) from rfl]
  by_cases h : t.val % 10 = 0
  · rw [leaves_first m c t h]
    have e : tileAt m c t.val t.isLt = tile (iblk m c 0 t) (iblk m c 1 t) (iblk m c 2 t) (iblk m c 3 t) := by
      unfold tileAt; rw [start_self t h]
    rw [e, start_self t h]
    refine (sep_mono (keeps_some m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ ((cond_iff t).2 h)
      (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h (by rw [e])
    rw [keeps_pos m c t.val (Nat.le_of_lt t.isLt) hz,
      tileAt_eq m c (n := t.val - 1) (k := t.val) (by have := t.isLt; omega) t.isLt (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7⟩
    iapply (later c (grid0.coords t) _ _ _ _ _ _ _ _ _ _ _ _ _ _ _ _ _ _ (mt (cond_iff t).1 h)
      (iblk m c 4 t) (tileAt m c t.val t.isLt) Set.univ _)
    isplitl [H4]; · iexact H4
    isplitl [H6]; · iexists _; iexact H6
    isplitl [HS]; · iexact HS
    iintro ⟨H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_later m c t h)
    iexact H7

/-- The body that the launch runs at a point. -/
theorem row (t : Fin cfg0.N) : defs₀ (F := F) .tc cfg0.body (cfg0.bodyArgs t (cfg0.slots t)) = bodyAt0 t := by
  unfold defs₀; rw [Defs.onTc_tc]

/-- The body's triple, as the launch asks for it. -/
theorem obligation (c : Dev nD) : Pipeline.BodyObligation (data (F := F) m 0 c) (defs₀ (F := F)) Variants.none () Set.univ := fun t => by
  rw [bigSep_W0, bigSep_W0, row]
  exact triple_restated (body m c t) rfl .rfl fun _ => .rfl

/-- What the launch is given suffices to start. -/
theorem enters (c : Dev nD) : Pipeline.ΦA spec0 c ⊢ (data m 0 c).Φ 0 := by
  rw [show (data m 0 c).Φ 0 = keeps m c 0 (Nat.zero_le _) from rfl, keeps_zero m c 0 _ rfl]

/-- After the last point the kept buffer is given back. -/
theorem leavesAll (c : Dev nD) : (data m 0 c).Φ (Fin.last cfg0.N) ⊢ Pipeline.ΦA spec0 c := by
  rw [scratch_owned]; exact keeps_some m c cfg0.N le_rfl

set_option backward.isDefEq.respectTransparency.types false in
/-- The launch: every array of the pipeline ends at what the proof data say, every counter at zero. -/
theorem run : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enters m) (hout := leavesAll m)

/-- The arguments end as they began, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) ((θ_run defs _ _).mono (fun _ h => h.1) (run m ρ)))
    ((θ_run defs _ _).mono (fun _ h => h.2) (run m ρ))

end Cert.Kernel2Ideal.Inproj

end
-- ==== Proof.InprojFrame.lean ====
/-
  The input projection as printed: its program of float words is, term for term, the program whose launch `InprojBody.lean` proves at
  every kind of float, so that its arguments end as they began.
-/
module

public import proofs.«01_k».proof.Proof.InprojBody
public import proofs.«01_k».proof.Proof.Gen.Kernel2.Frame

@[expose] public section

set_option maxRecDepth 65536

noncomputable section

namespace Cert.Kernel2.Inproj

open Idealize.ShloMosaic Idealize.ShloMosaic.TcCoe Idealize.SL.Sem
open Cert.Kernel2.Gen Cert.Kernel2

variable {F : FTy → Type} [FloatOps F]

/-- The two programs have the same bodies. -/
theorem bodies_eq : Cert.Kernel2.defs₀ (F := F) = Cert.Kernel2Ideal.defs₀ (F := F) := by
  unfold Cert.Kernel2.defs₀ Cert.Kernel2Ideal.defs₀
  congr 1
  funext l a
  match l, a with
  | ⟨0, _⟩, (t, s) => rfl

/-- The two programs have the same launch. -/
theorem defs_eq : Cert.Kernel2.defs (F := F) = Cert.Kernel2Ideal.defs (F := F) := by
  unfold Cert.Kernel2.defs Cert.Kernel2Ideal.defs
  rw [bodies_eq]
  rfl

/-- The arguments end as they began, and every counter at zero. -/
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel2Ideal.Inproj.unchanged m ρ

end Cert.Kernel2.Inproj

end
-- ==== Proof.Modulate.lean ====
/-
  A row normalized by its root mean square and modulated: what the input projection and the merge share.
-/
module

public import Idealize.ShloMosaic.Lib.Pointwise

@[expose] public section

noncomputable section

namespace Cert.Modulate

open Idealize.ShloMosaic

/-- A row over the root of its mean square, times the gain, times one plus the scale, plus the shift. -/
def modulated (x g sc sh : Fin 2048 → EReal) (k : Fin 2048) : EReal :=
  x k * Ideal.rsqrt (Ideal.div (∑ j : Fin 2048, x j * x j) (Ideal.ofBits .f32 0x45000000#32) + Ideal.ofBits .f32 0x358637BD#32) * g k * (1 + sc k) + sh k

/-- The sequence of a row. -/
def seqOf (R : Fin 16384) : Fin 2 := ⟨R.val / 8192, by omega⟩

/-- The position of a row in its sequence. -/
def posOf (R : Fin 16384) : Fin 8192 := ⟨R.val % 8192, by omega⟩

/-- The sample of a row. -/
def sampleOf (R : Fin 512) : Fin 32 := ⟨R.val / 16, by omega⟩

/-- The step of a row in its sample. -/
def stepOf (R : Fin 512) : Fin 16 := ⟨R.val % 16, by omega⟩

/-- Column `k` of the modulation's first part. -/
def firstPart (k : Fin 2048) : Fin 12288 := ⟨k.val, by omega⟩

/-- Column `k` of the modulation's part `n`, counted from zero. -/
def part (n : ℕ) (hn : n < 6) (k : Fin 2048) : Fin 12288 := ⟨2048 * n + k.val, by omega⟩

/-- The weights' column of a wide column: the sixteen narrow columns from 6144 are left out. -/
def wideCol (C : Fin 10240) : Fin 10256 := ⟨if C.val < 6144 then C.val else C.val + 16, by split <;> omega⟩

/-- The weights' column of a narrow column. -/
def narrowCol (C : Fin 128) (h : C.val < 16) : Fin 10256 := ⟨6144 + C.val, by omega⟩

/-- The integer zero is the number zero. -/
theorem zero_word : (FloatOps.sitofp .f32 0#32 : Ideal .f32) = (0 : EReal) := by
  simp [FloatOps.sitofp]

end Cert.Modulate

end
-- ==== Proof.InprojArray.lean ====
/-
  The input projection's two results, entry by entry, in terms of the arguments it is launched on.
-/
module

public import proofs.«01_k».proof.Proof.InprojBody
public import proofs.«01_k».proof.Proof.Modulate
public import Idealize.ShloMosaic.Lib.Pointwise
public import Idealize.ShloMosaic.Lib.Pipeline.ValueKit.Point
public import Idealize.ShloMosaic.Lib.StableHlo.ReadAt

@[expose] public section

set_option maxRecDepth 16384

noncomputable section

namespace Cert.Kernel2Ideal.Inproj

open Idealize.ShloMosaic Idealize.ShloMosaic.TcCoe Idealize.ShloMosaic.Tactic Cert.Kernel2Ideal.Gen Cert.Kernel2Ideal Cert.Kernel2Ideal.Facts
open Cert.Modulate Idealize.SL.Sem

/-- An entry of a tile. -/
theorem tile_apply (x : FVec Ideal S1024x2048 .f32) (sh sc : FVec Ideal S1x1x2048 .f32) (g : FVec Ideal S1x2048 .f32) (a : Fin 1024) (k : Fin 2048) :
    tile x sh sc g (ix2 a k) = modulated (fun k => x (ix2 a k)) (fun k => g (ix2 0 k)) (fun k => sc (ix3 0 0 k)) (fun k => sh (ix3 0 0 k)) k := by
  unfold modulated tile
  pointwise

/-- An entry of the wide product. -/
theorem wide_apply (h : FVec Ideal S1024x2048 .bf16) (w : FVec Ideal S2048x1024 .bf16) (a d : Fin 1024) :
    wide h w (ix2 a d) = ∑ k : Fin 2048, h (ix2 a k) * w (ix2 k d) := by
  unfold wide
  pointwise

/-- An entry of the narrow product. -/
theorem narrow_apply (h : FVec Ideal S1024x2048 .bf16) (w : FVec Ideal S2048x128 .bf16) (a : Fin 1024) (d : Fin 128) :
    narrow h w (ix2 a d) = ∑ k : Fin 2048, h (ix2 a k) * w (ix2 k d) := by
  unfold narrow
  pointwise

variable (m : (ℓ : Loc nD τ sig) → Buf (Elt Ideal) ℓ)

/-- The rows to project. -/
abbrev rowsArg (c : Dev nD) : FVec Ideal S2x8192x2048 .f32 := m ((c : Thread nD τ).loc main_arg0)
/-- The modulation. -/
abbrev modArg (c : Dev nD) : FVec Ideal S2x12288 .f32 := m ((c : Thread nD τ).loc main_arg1)
/-- The gain. -/
abbrev gainArg (c : Dev nD) : FVec Ideal S1x2048 .f32 := m ((c : Thread nD τ).loc main_arg2)
/-- The weights. -/
abbrev weightsArg (c : Dev nD) : FVec Ideal S1x2048x10256 .f32 := m ((c : Thread nD τ).loc main_arg3)

/-- The wide weights are the weights without the narrow columns. -/
theorem V_wide (c : Dev nD) (k : Fin 2048) (C : Fin 10240) :
    (V m c main_v9 : FVec Ideal S2048x10240 .bf16) (ix2 k C) = weightsArg m c (ix3 0 k (wideCol C)) := by
  unfold V
  after_reads_at
  unfold wideCol
  split
  · exact congrArg (weightsArg m c) (congrArg (ix3 0 k) (Fin.ext (by simp only)))
  · exact congrArg (weightsArg m c) (congrArg (ix3 0 k) (Fin.ext (by simp only; omega)))

/-- The narrow weights, with zeros to their right. -/
def narrowWeight (c : Dev nD) (k : Fin 2048) (C : Fin 128) : EReal :=
  if h : C.val < 16 then weightsArg m c (ix3 0 k (narrowCol C h)) else 0

/-- The padded weights. -/
theorem V_narrow (c : Dev nD) (k : Fin 2048) (C : Fin 128) :
    (V m c main_v12 : FVec Ideal S2048x128 .bf16) (ix2 k C) = narrowWeight m c k C := by
  unfold narrowWeight V
  after_reads_at
  split
  · rfl
  · exact zero_word

/-- The rows of both sequences on top of one another. -/
theorem V_rows (c : Dev nD) (R : Fin 16384) (k : Fin 2048) :
    (V m c main_v13 : FVec Ideal S16384x2048 .f32) (ix2 R k) = rowsArg m c (ix3 (seqOf R) (posOf R) k) := by
  unfold V
  after_reads_at
  rfl

/-- The shift is the modulation's first part. -/
theorem V_shift (c : Dev nD) (s : Fin 2) (k : Fin 2048) :
    (V m c main_v1 : FVec Ideal S2x1x2048 .f32) (ix3 s 0 k) = modArg m c (ix2 s (firstPart k)) := by
  unfold V
  after_reads_at
  rfl

/-- The scale is the modulation's second part. -/
theorem V_scale (c : Dev nD) (s : Fin 2) (k : Fin 2048) :
    (V m c main_v3 : FVec Ideal S2x1x2048 .f32) (ix3 s 0 k) = modArg m c (ix2 s (part 1 (by decide) k)) := by
  unfold V
  after_reads_at
  rfl

/-- The gain as a row. -/
theorem V_gain (c : Dev nD) (k : Fin 2048) :
    (V m c main_v15 : FVec Ideal S1x2048 .f32) (ix2 0 k) = gainArg m c (ix2 0 k) := by
  unfold V
  after_reads_at

/-- The block of rows that a grid point reads. -/
theorem index0 : ∀ t : Fin cfg0.N, win0_0.index t = ![t.val / 10, 0] := (by decide +kernel : ∀ t : Fin grid0.N, _)
/-- The block of the shift. -/
theorem index1 : ∀ t : Fin cfg0.N, win0_1.index t = ![t.val / 80, 0, 0] := (by decide +kernel : ∀ t : Fin grid0.N, _)
/-- The block of the scale. -/
theorem index2 : ∀ t : Fin cfg0.N, win0_2.index t = ![t.val / 80, 0, 0] := (by decide +kernel : ∀ t : Fin grid0.N, _)
/-- The block of the gain. -/
theorem index3 : ∀ t : Fin cfg0.N, win0_3.index t = ![0, 0] := (by decide +kernel : ∀ t : Fin grid0.N, _)
/-- The block of the wide weights. -/
theorem index4 : ∀ t : Fin cfg0.N, win0_4.index t = ![0, t.val % 10] := (by decide +kernel : ∀ t : Fin grid0.N, _)
/-- The block of the narrow weights. -/
theorem index5 : ∀ t : Fin cfg0.N, win0_5.index t = ![0, 0] := (by decide +kernel : ∀ t : Fin grid0.N, _)
/-- The block of the wide result. -/
theorem index6 : ∀ t : Fin cfg0.N, win0_6.index t = ![t.val / 10, t.val % 10] := (by decide +kernel : ∀ t : Fin grid0.N, _)
/-- The block of the narrow result. -/
theorem index7 : ∀ t : Fin cfg0.N, win0_7.index t = ![t.val / 10, 0] := (by decide +kernel : ∀ t : Fin grid0.N, _)

/-- A read of a block of rows. -/
theorem rows_apply (c : Dev nD) (t : Fin cfg0.N) (a : Fin 1024) (k : Fin 2048) (R : Fin 16384) (hR : R.val = 1024 * (t.val / 10) + a.val) :
    (iblk m c 0 t : FVec Ideal S1024x2048 .f32) (ix2 a k) = (V m c main_v13 : FVec Ideal S16384x2048 .f32) (ix2 R k) := by
  blk_ext! [iblk, index0 t]

/-- A read of the shift's block. -/
theorem shift_apply (c : Dev nD) (t : Fin cfg0.N) (k : Fin 2048) (s : Fin 2) (hs : s.val = t.val / 80) :
    (iblk m c 1 t : FVec Ideal S1x1x2048 .f32) (ix3 0 0 k) = (V m c main_v1 : FVec Ideal S2x1x2048 .f32) (ix3 s 0 k) := by
  blk_ext! [iblk, index1 t]

/-- A read of the scale's block. -/
theorem scale_apply (c : Dev nD) (t : Fin cfg0.N) (k : Fin 2048) (s : Fin 2) (hs : s.val = t.val / 80) :
    (iblk m c 2 t : FVec Ideal S1x1x2048 .f32) (ix3 0 0 k) = (V m c main_v3 : FVec Ideal S2x1x2048 .f32) (ix3 s 0 k) := by
  blk_ext! [iblk, index2 t]

/-- A read of the gain's block. -/
theorem gain_apply (c : Dev nD) (t : Fin cfg0.N) (k : Fin 2048) :
    (iblk m c 3 t : FVec Ideal S1x2048 .f32) (ix2 0 k) = (V m c main_v15 : FVec Ideal S1x2048 .f32) (ix2 0 k) := by
  blk_ext! [iblk, index3 t]

/-- A read of a block of the wide weights. -/
theorem wideBlock_apply (c : Dev nD) (t : Fin cfg0.N) (k : Fin 2048) (d : Fin 1024) (C : Fin 10240) (hC : C.val = 1024 * (t.val % 10) + d.val) :
    (iblk m c 4 t : FVec Ideal S2048x1024 .bf16) (ix2 k d) = (V m c main_v9 : FVec Ideal S2048x10240 .bf16) (ix2 k C) := by
  blk_ext! [iblk, index4 t]

/-- A read of the narrow weights. -/
theorem narrowBlock_apply (c : Dev nD) (t : Fin cfg0.N) (k : Fin 2048) (C : Fin 128) :
    (iblk m c 5 t : FVec Ideal S2048x128 .bf16) (ix2 k C) = (V m c main_v12 : FVec Ideal S2048x128 .bf16) (ix2 k C) := by
  blk_ext! [iblk, index5 t]

/-- A row of the launch, normalized and modulated. -/
def rowAt (c : Dev nD) (R : Fin 16384) : Fin 2048 → EReal :=
  modulated (fun k => rowsArg m c (ix3 (seqOf R) (posOf R) k)) (fun k => gainArg m c (ix2 0 k))
    (fun k => modArg m c (ix2 (seqOf R) (part 1 (by decide) k))) (fun k => modArg m c (ix2 (seqOf R) (firstPart k)))

/-- The tile kept at a point holds the launch's rows. -/
theorem tileAt_apply (c : Dev nD) (n : ℕ) (hn : n < cfg0.N) (a : Fin 1024) (k : Fin 2048) (R : Fin 16384) (hR : R.val = 1024 * (n / 10) + a.val) :
    tileAt m c n hn (ix2 a k) = rowAt m c R k := by
  have ha := a.isLt
  have hs : (seqOf R).val = (start n hn).val / 80 := by show R.val / 8192 = n / 10 * 10 / 80; omega
  have e0 : (fun k => (iblk m c 0 (start n hn) : FVec Ideal S1024x2048 .f32) (ix2 a k)) = fun k => rowsArg m c (ix3 (seqOf R) (posOf R) k) :=
    funext fun k => (rows_apply m c _ a k R (by show R.val = 1024 * (n / 10 * 10 / 10) + a.val; omega)).trans (V_rows m c R k)
  have e1 : (fun k => (iblk m c 1 (start n hn) : FVec Ideal S1x1x2048 .f32) (ix3 0 0 k)) = fun k => modArg m c (ix2 (seqOf R) (firstPart k)) :=
    funext fun k => (shift_apply m c _ k _ hs).trans (V_shift m c _ k)
  have e2 : (fun k => (iblk m c 2 (start n hn) : FVec Ideal S1x1x2048 .f32) (ix3 0 0 k)) = fun k => modArg m c (ix2 (seqOf R) (part 1 (by decide) k)) :=
    funext fun k => (scale_apply m c _ k _ hs).trans (V_scale m c _ k)
  have e3 : (fun k => (iblk m c 3 (start n hn) : FVec Ideal S1x2048 .f32) (ix2 0 k)) = fun k => gainArg m c (ix2 0 k) :=
    funext fun k => (gain_apply m c _ k).trans (V_gain m c k)
  unfold tileAt rowAt
  rw [tile_apply, e0, e1, e2, e3]

/-- A point's entry of the wide product is the result's at the entry's place. -/
theorem wide_entry (c : Dev nD) (t : Fin cfg0.N) (a d : Fin 1024) (R : Fin 16384) (C : Fin 10240)
    (hR : R.val = 1024 * (t.val / 10) + a.val) (hC : C.val = 1024 * (t.val % 10) + d.val) :
    wide (tileAt m c t.val t.isLt) (iblk m c 4 t) (ix2 a d) = ∑ k : Fin 2048, rowAt m c R k * weightsArg m c (ix3 0 k (wideCol C)) := by
  refine (wide_apply _ _ _ _).trans (Finset.sum_congr rfl fun k _ => ?_)
  rw [tileAt_apply m c t.val t.isLt a k R hR, wideBlock_apply m c t k d C hC, V_wide]

/-- A point's entry of the narrow product is the result's at the entry's place. -/
theorem narrow_entry (c : Dev nD) (t : Fin cfg0.N) (a : Fin 1024) (d : Fin 128) (R : Fin 16384) (C : Fin 128)
    (hR : R.val = 1024 * (t.val / 10) + a.val) (hC : C.val = d.val) :
    narrow (tileAt m c t.val t.isLt) (iblk m c 5 (start t.val t.isLt)) (ix2 a d)
      = ∑ k : Fin 2048, rowAt m c R k * narrowWeight m c k C := by
  obtain rfl : C = d := Fin.ext hC
  refine (narrow_apply _ _ _ _).trans (Finset.sum_congr rfl fun k _ => ?_)
  rw [tileAt_apply m c t.val t.isLt a k R hR, narrowBlock_apply m c _ k C, V_narrow]

/-- The wide result. -/
theorem array_wide (c : Dev nD) : (data m 0 c).arrAt 6 cfg0.N
    = fun i : S16384x10240.Idx => ∑ k : Fin 2048, rowAt m c (i 0) k * weightsArg m c (ix3 0 k (wideCol (i 1))) := by
  refine (data m 0 c).arrAt_eq_of_covers 6 _ (by decide +kernel) fun t hf y => ?_
  blk_simp
  obtain ⟨a, d, rfl⟩ : ∃ a d : Fin 1024, y = ix2 a d := ⟨y 0, y 1, (ix2_eta y).symm⟩
  have e : (data m 0 c).after 6 t = wide (tileAt m c t.val t.isLt) (iblk m c 4 t) := by dsimp only [data]
  rw [e]
  refine wide_entry m c t a d _ _ ?_ ?_
  · blk_simp [index6 t]; omega
  · blk_simp [index6 t]; omega

/-- The narrow result. -/
theorem array_narrow (c : Dev nD) : (data m 0 c).arrAt 7 cfg0.N
    = fun i : S16384x128.Idx => ∑ k : Fin 2048, rowAt m c (i 0) k * narrowWeight m c k (i 1) := by
  refine (data m 0 c).arrAt_eq_of_covers 7 _ (by decide +kernel) fun t hf y => ?_
  blk_simp
  obtain ⟨a, d, rfl⟩ : ∃ (a : Fin 1024) (d : Fin 128), y = ix2 a d := ⟨y 0, y 1, (ix2_eta y).symm⟩
  have e : (data m 0 c).after 7 t = narrow (tileAt m c t.val t.isLt) (iblk m c 5 (start t.val t.isLt)) := by dsimp only [data]
  rw [e]
  refine narrow_entry m c t a d _ _ ?_ ?_
  · blk_simp [index7 t]; omega
  · blk_simp [index7 t]; try omega

/-- The launch, its two results named and its arguments unchanged. -/
theorem results (ρ : Dev nD → PrngReg) : θ_run defs (onTc (τ := τ) (main (F := Ideal))) ⟨m, fun _ => 0, ρ⟩ (fun r => ∀ c : Dev nD,
      r.2.mem ((c.tc : Thread nD τ).loc main_v16_0) = (data m 0 c).arrAt 6 cfg0.N
      ∧ r.2.mem ((c.tc : Thread nD τ).loc main_v16_1) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 6, (h.1.1 c).1 7, h.2.1 c⟩) (θ_run_and (run m ρ) (unchanged m ρ))

end Cert.Kernel2Ideal.Inproj

end
-- ==== Proof.InprojReading.lean ====
/-
  The reference of the input projection, entry by entry.
-/
module

public import proofs.«01_k».proof.Proof.Gen.Reference2Ideal.Read
public import proofs.«01_k».proof.Proof.Modulate

@[expose] public section

set_option maxRecDepth 16384

noncomputable section

namespace Cert.Reference2Ideal.Reading

open Idealize.ShloMosaic Idealize.ShloMosaic.TcCoe Idealize.ShloMosaic.Tactic Cert.Reference2Ideal.Gen Cert.Reference2Ideal Cert.Reference2Ideal.Read
open Cert.Modulate

variable (x : FVec Ideal S2x8192x2048 .f32) (mod : FVec Ideal S2x12288 .f32) (g : FVec Ideal S1x2048 .f32) (w : FVec Ideal S1x2048x10256 .f32)

/-- The normalized and modulated rows. -/
theorem modulated_apply (s : Fin 2) (t : Fin 8192) (k : Fin 2048) :
    val_main_v23 (F := Ideal) x mod g (ix3 s t k)
      = modulated (fun k => x (ix3 s t k)) (fun k => g (ix2 0 k)) (fun k => mod (ix2 s (part 1 (by decide) k))) (fun k => mod (ix2 s (firstPart k))) k := by
  unfold modulated
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- The projection of a row by every column of the weights. -/
def projected (R : Fin 16384) (C : Fin 10256) : EReal :=
  ∑ k : Fin 2048, modulated (fun k => x (ix3 (seqOf R) (posOf R) k)) (fun k => g (ix2 0 k)) (fun k => mod (ix2 (seqOf R) (part 1 (by decide) k)))
    (fun k => mod (ix2 (seqOf R) (firstPart k))) k * w (ix3 0 k C)

/-- The product before its columns are taken apart. -/
theorem product_apply (R : Fin 16384) (C : Fin 10256) : val_main_v26 (F := Ideal) x mod g w (ix2 R C) = projected x mod g w R C := by
  unfold projected
  simp only [← modulated_apply]
  unfold val_main_v26 val_main_v25 val_main_v24
  generalize val_main_v23 (F := Ideal) x mod g = h
  pointwise
  rfl

/-- The wide columns. -/
theorem wide_apply (R : Fin 16384) (C : Fin 10240) : val_main_v30 (F := Ideal) x mod g w (ix2 R C) = projected x mod g w R (wideCol C) := by
  rw [← product_apply]
  unfold val_main_v30 val_main_v29 val_main_v28
  generalize val_main_v26 (F := Ideal) x mod g w = h
  pointwise
  unfold wideCol
  split
  · exact congrArg h (congrArg (ix2 R) (Fin.ext (by simp only)))
  · exact congrArg h (congrArg (ix2 R) (Fin.ext (by simp only; omega)))

/-- The narrow columns, with zeros to their right. -/
theorem narrow_apply (R : Fin 16384) (C : Fin 128) : val_main_v31 (F := Ideal) x mod g w (ix2 R C)
    = if h : C.val < 16 then projected x mod g w R (narrowCol C h) else (0 : EReal) := by
  simp only [← product_apply]
  unfold val_main_v31 val_main_v27 val_main_call0_v0 val_main_c
  generalize val_main_v26 (F := Ideal) x mod g w = h
  pointwise
  split
  · rfl
  · exact zero_word

end Cert.Reference2Ideal.Reading

end
-- ==== Proof.InprojEquation.lean ====
/-
  The input projection's results are its reference's.
-/
module

public import proofs.«01_k».proof.Proof.InprojArray
public import proofs.«01_k».proof.Proof.InprojReading

@[expose] public section

set_option maxRecDepth 16384

noncomputable section

namespace Cert.Kernel2Ideal.Inproj

open Idealize.ShloMosaic Idealize.ShloMosaic.TcCoe Cert.Kernel2Ideal Cert.Modulate

variable (m : (ℓ : Loc nD τ sig) → Buf (Elt Ideal) ℓ)

/-- The wide result. -/
theorem wide_eq (c : Dev nD) : (data m 0 c).arrAt 6 cfg0.N
    = Cert.Reference2Ideal.Read.val_main_v30 (F := Ideal) (rowsArg m c) (modArg m c) (gainArg m c) (weightsArg m c) := by
  refine (array_wide m c).trans (funext fun i => ?_)
  obtain ⟨R, C, rfl⟩ : ∃ (R : Fin 16384) (C : Fin 10240), i = ix2 R C := ⟨i 0, i 1, (ix2_eta i).symm⟩
  exact (Cert.Reference2Ideal.Reading.wide_apply (rowsArg m c) (modArg m c) (gainArg m c) (weightsArg m c) R C).symm

/-- The narrow result: a column of zero weights gives zero. -/
theorem narrow_eq (c : Dev nD) : (data m 0 c).arrAt 7 cfg0.N
    = Cert.Reference2Ideal.Read.val_main_v31 (F := Ideal) (rowsArg m c) (modArg m c) (gainArg m c) (weightsArg m c) := by
  refine (array_narrow m c).trans (funext fun i => ?_)
  obtain ⟨R, C, rfl⟩ : ∃ (R : Fin 16384) (C : Fin 128), i = ix2 R C := ⟨i 0, i 1, (ix2_eta i).symm⟩
  refine Eq.trans ?_ (Cert.Reference2Ideal.Reading.narrow_apply (rowsArg m c) (modArg m c) (gainArg m c) (weightsArg m c) R C).symm
  show (∑ k : Fin 2048, rowAt m c R k * narrowWeight m c k C) = _
  unfold narrowWeight
  by_cases h : C.val < 16
  · simp only [dif_pos h]
    rfl
  · simp only [dif_neg h, mul_zero]
    exact Finset.sum_const_zero

end Cert.Kernel2Ideal.Inproj

end
-- ==== Proof.MergeReading.lean ====
/-
  The reference of the merge, entry by entry.
-/
module

public import proofs.«01_k».proof.Proof.Gen.Reference3Ideal.Read
public import proofs.«01_k».proof.Proof.Modulate

@[expose] public section

set_option maxRecDepth 16384

noncomputable section

namespace Cert.Reference3Ideal.Reading

open Idealize.ShloMosaic Idealize.ShloMosaic.TcCoe Idealize.ShloMosaic.Tactic Cert.Reference3Ideal.Gen Cert.Reference3Ideal Cert.Reference3Ideal.Read
open Cert.Modulate

/-- Two branches, each through its logistic gate. -/
def blend (u v p q : EReal) : EReal := Ideal.div 1 (1 + Ideal.exp (-u)) * p + Ideal.div 1 (1 + Ideal.exp (-v)) * q

/-- The gate of the attention branch. -/
def gateA (k : Fin 2048) : Fin 10240 := ⟨6144 + k.val, by omega⟩

/-- The gate of the linear branch. -/
def gateB (k : Fin 2048) : Fin 10240 := ⟨8192 + k.val, by omega⟩

/-- The row of a sequence's position. -/
def rowOf (s : Fin 2) (t : Fin 8192) : Fin 16384 := ⟨s.val * 8192 + t.val, by omega⟩

/-- A row is the one of its sequence and position. -/
theorem rowOf_split (R : Fin 16384) : rowOf (seqOf R) (posOf R) = R := by
  refine Fin.ext ?_
  show R.val / 8192 * 8192 + R.val % 8192 = R.val
  omega

variable (att gla : FVec Ideal S16384x1024 .bf16) (z : FVec Ideal S16384x10240 .f32) (x : FVec Ideal S2x8192x2048 .f32) (mod : FVec Ideal S2x12288 .f32)
  (g : FVec Ideal S1x2048 .f32) (wo wg : FVec Ideal S1x1024x2048 .f32) (wm : FVec Ideal S1x2048x2048 .f32)

/-- The gated sum of the projected branches. -/
def merged (R : Fin 16384) (k : Fin 2048) : EReal :=
  blend (z (ix2 R (gateA k))) (z (ix2 R (gateB k))) (∑ j : Fin 1024, att (ix2 R j) * wo (ix3 0 j k)) (∑ j : Fin 1024, gla (ix2 R j) * wg (ix3 0 j k))

/-- A row with the gated output projection added. -/
def added (R : Fin 16384) (k : Fin 2048) : EReal :=
  x (ix3 (seqOf R) (posOf R) k) + mod (ix2 (seqOf R) (part 2 (by decide) k)) * ∑ j : Fin 2048, merged att gla z wo wg R j * wm (ix3 0 j k)

/-- That row, normalized and modulated. -/
def normed (R : Fin 16384) : Fin 2048 → EReal :=
  modulated (added att gla z x mod wo wg wm R) (fun k => g (ix2 0 k))
    (fun k => mod (ix2 (seqOf R) (part 4 (by decide) k))) (fun k => mod (ix2 (seqOf R) (part 3 (by decide) k)))

/-- The reference's gated sum. -/
theorem merged_apply (s : Fin 2) (t : Fin 8192) (k : Fin 2048) :
    val_main_v26 (F := Ideal) att gla z wo wg (ix3 s t k) = merged att gla z wo wg (rowOf s t) k := by
  have e : ∀ h : 6144 + (2048 + k.val) < 10240, (⟨6144 + (2048 + k.val), h⟩ : Fin 10240) = gateB k := fun h => Fin.ext (by show 6144 + (2048 + k.val) = 8192 + k.val; omega)
  unfold merged blend
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_cst, val_main_cst_0]
  rw [e]
  rfl

/-- The reference's sum. -/
theorem added_apply (R : Fin 16384) (k : Fin 2048) :
    val_main_v31 (F := Ideal) att gla z x mod wo wg wm (ix3 (seqOf R) (posOf R) k) = added att gla z x mod wo wg wm R k := by
  have e : ∀ j : Fin 2048, merged att gla z wo wg R j = val_main_v26 (F := Ideal) att gla z wo wg (ix3 (seqOf R) (posOf R) j) :=
    fun j => by rw [merged_apply, rowOf_split]
  unfold added
  simp only [e]
  unfold val_main_v31 val_main_v30 val_main_v29 val_main_v28 val_main_v27 val_main_v1 val_main_v0
  generalize val_main_v26 (F := Ideal) att gla z wo wg = h
  pointwise
  rfl

/-- The first result. -/
theorem rows_apply (R : Fin 16384) (k : Fin 2048) :
    val_main_v52 (F := Ideal) att gla z x mod wo wg wm (ix2 R k) = added att gla z x mod wo wg wm R k := by
  rw [← added_apply]
  unfold val_main_v52
  generalize val_main_v31 (F := Ideal) att gla z x mod wo wg wm = h
  pointwise
  rfl

/-- The second result, a row to a column. -/
theorem normed_apply (R : Fin 16384) (k : Fin 2048) :
    val_main_v55 (F := Ideal) att gla z x mod g wo wg wm (ix2 k R) = normed att gla z x mod g wo wg wm R k := by
  have e : added att gla z x mod wo wg wm R = fun k => val_main_v31 (F := Ideal) att gla z x mod wo wg wm (ix3 (seqOf R) (posOf R) k) :=
    funext fun k => (added_apply att gla z x mod wo wg wm R k).symm
  unfold normed
  rw [e]
  unfold modulated val_main_v55 val_main_v54 val_main_v53 val_main_v51 val_main_v50 val_main_v49 val_main_v48 val_main_v47 val_main_v46 val_main_v45
    val_main_v44 val_main_v43 val_main_v42 val_main_v41 val_main_v40 val_main_v39 val_main_v38 val_main_v37 val_main_v36 val_main_v35 val_main_v34
    val_main_v33 val_main_v32 val_main_v5 val_main_v4 val_main_v3 val_main_v2 val_main_cst_1 val_main_cst_2 val_main_cst_3 val_main_cst_4
  generalize val_main_v31 (F := Ideal) att gla z x mod wo wg wm = h
  pointwise
  rfl

end Cert.Reference3Ideal.Reading

end
-- ==== Proof.MergeBlock.lean ====
/-
  What one grid point of the merge leaves in its two output blocks.
-/
module

public import proofs.«01_k».proof.Proof.Gen.Kernel3Ideal.Value
public import proofs.«01_k».proof.Proof.MergeReading
public import Idealize.ShloMosaic.Lib.Pipeline.ValueKit.Acc

@[expose] public section

set_option maxRecDepth 16384

noncomputable section

namespace Cert.Kernel3Ideal.Merge

open Idealize.ShloMosaic Idealize.ShloMosaic.TcCoe Idealize.ShloMosaic.Tactic Cert.Kernel3Ideal.Gen Cert.Kernel3Ideal Cert.Kernel3Ideal.Facts
open Cert.Modulate Cert.Reference3Ideal.Reading

/-- The block of gated sums. -/
theorem gated_apply (p : FVec Ideal S256x1024 .bf16) (w : FVec Ideal S1024x2048 .bf16) (q : FVec Ideal S256x1024 .bf16) (w' : FVec Ideal S1024x2048 .bf16)
    (u v : FVec Ideal S256x2048 .f32) (a : Fin 256) (k : Fin 2048) :
    k0_pay5 (F := Ideal) p w q w' u v (ix2 a k)
      = blend (u (ix2 a k)) (v (ix2 a k)) (∑ j : Fin 1024, p (ix2 a j) * w (ix2 j k)) (∑ j : Fin 1024, q (ix2 a j) * w' (ix2 j k)) := by
  unfold blend k0_pay5
  pointwise
  simp only [zero_sub]

/-- The block of sums. -/
theorem sums_apply (x : FVec Ideal S256x2048 .f32) (t : FVec Ideal S1x2048 .f32) (h : FVec Ideal S256x2048 .bf16) (w : FVec Ideal S2048x2048 .bf16)
    (a : Fin 256) (k : Fin 2048) :
    k0_pay1 (F := Ideal) x t h w (ix2 a k) = x (ix2 a k) + t (ix2 0 k) * ∑ j : Fin 2048, h (ix2 a j) * w (ix2 j k) := by
  unfold k0_pay1
  pointwise

/-- The block of normalized columns. -/
theorem columns_apply (x : FVec Ideal S256x2048 .f32) (t : FVec Ideal S1x2048 .f32) (h : FVec Ideal S256x2048 .bf16) (w : FVec Ideal S2048x2048 .bf16)
    (g : FVec Ideal S1x2048 .f32) (sc sh : FVec Ideal S1x1x2048 .f32) (a : Fin 256) (k : Fin 2048) :
    k0_pay2 (F := Ideal) x t h w g sc sh (ix2 k a)
      = modulated (fun k => k0_pay1 (F := Ideal) x t h w (ix2 a k)) (fun k => g (ix2 0 k)) (fun k => sc (ix3 0 0 k)) (fun k => sh (ix3 0 0 k)) k := by
  unfold modulated k0_pay2
  generalize k0_pay1 (F := Ideal) x t h w = r
  pointwise

variable (x0 x1 : Vec Ideal S256x1024 .bf16) (x2 x3 x4 : Vec Ideal S256x2048 .f32) (x5 x6 x7 : Vec Ideal S1x1x2048 .f32) (x8 : Vec Ideal S1x2048 .f32)
  (x9 x10 : Vec Ideal S1024x2048 .bf16) (x11 : Vec Ideal S2048x2048 .bf16)

/-- An entry of the gated sum from the point's blocks. -/
def blended (a : Fin 256) (k : Fin 2048) : EReal :=
  blend (x2 (ix2 a k)) (x3 (ix2 a k)) (∑ j : Fin 1024, x0 (ix2 a j) * x9 (ix2 j k)) (∑ j : Fin 1024, x1 (ix2 a j) * x10 (ix2 j k))

/-- An entry of the sum from the point's blocks. -/
def summed (a : Fin 256) (k : Fin 2048) : EReal :=
  x4 (ix2 a k) + x5 (ix3 0 0 k) * ∑ j : Fin 2048, blended x0 x1 x2 x3 x9 x10 a j * x11 (ix2 j k)

/-- The sums of a point from its blocks. -/
theorem sums_of_blocks (a : Fin 256) (k : Fin 2048) :
    k0_pay1 (F := Ideal) (k0_pay3 x4) (k0_pay4 x5) (k0_pay5 x0 x9 x1 x10 x2 x3) x11 (ix2 a k) = summed x0 x1 x2 x3 x4 x5 x9 x10 x11 a k := by
  rw [sums_apply]
  simp only [gated_apply]
  unfold k0_pay3 k0_pay4
  pointwise
  rfl

/-- The first output block. -/
theorem out_sums (a : Fin 256) (k : Fin 2048) :
    out0_12 (F := Ideal) x0 x1 x2 x3 x4 x5 x6 x7 x8 x9 x10 x11 (ix2 a k) = summed x0 x1 x2 x3 x4 x5 x9 x10 x11 a k := by
  rw [← sums_of_blocks]
  unfold_out out0_12
  rw [View.canon_cons_unit_lit' _ _ _ (by decide)]
  simp (disch := decide) only [View.ld_unit_lit']

/-- The second output block. -/
theorem out_columns (a : Fin 256) (k : Fin 2048) :
    out0_13 (F := Ideal) x0 x1 x2 x3 x4 x5 x6 x7 x8 x9 x10 x11 (ix2 k a)
      = modulated (summed x0 x1 x2 x3 x4 x5 x9 x10 x11 a) (fun k => x8 (ix2 0 k)) (fun k => x6 (ix3 0 0 k)) (fun k => x7 (ix3 0 0 k)) k := by
  rw [← funext (sums_of_blocks x0 x1 x2 x3 x4 x5 x9 x10 x11 a), ← columns_apply]
  unfold_out out0_13
  rw [View.canon_cons_unit_lit' _ _ _ (by decide)]
  simp (disch := decide) only [View.ld_unit_lit']

end Cert.Kernel3Ideal.Merge

end
-- ==== Proof.MergeEquation.lean ====
/-
  The merge's results are its reference's.
-/
module

public import proofs.«01_k».proof.Proof.MergeBlock
public import Idealize.ShloMosaic.Lib.Pipeline.ValueKit.Point
public import Idealize.ShloMosaic.Lib.StableHlo.ReadAt

@[expose] public section

set_option maxRecDepth 16384

noncomputable section

namespace Cert.Kernel3Ideal.Merge

open Idealize.ShloMosaic Idealize.ShloMosaic.TcCoe Idealize.ShloMosaic.Tactic Cert.Kernel3Ideal.Gen Cert.Kernel3Ideal Cert.Kernel3Ideal.Facts
open Cert.Modulate Cert.Reference3Ideal.Reading

variable (m : (ℓ : Loc nD τ sig) → Buf (Elt Ideal) ℓ)

/-- The attention branch. -/
abbrev attArg (c : Dev nD) : FVec Ideal S16384x1024 .bf16 := m ((c : Thread nD τ).loc main_arg0)
/-- The linear branch. -/
abbrev glaArg (c : Dev nD) : FVec Ideal S16384x1024 .bf16 := m ((c : Thread nD τ).loc main_arg1)
/-- The input projection. -/
abbrev zArg (c : Dev nD) : FVec Ideal S16384x10240 .f32 := m ((c : Thread nD τ).loc main_arg2)
/-- The rows to add to. -/
abbrev rowsArg (c : Dev nD) : FVec Ideal S2x8192x2048 .f32 := m ((c : Thread nD τ).loc main_arg3)
/-- The modulation. -/
abbrev modArg (c : Dev nD) : FVec Ideal S2x12288 .f32 := m ((c : Thread nD τ).loc main_arg4)
/-- The gain. -/
abbrev gainArg (c : Dev nD) : FVec Ideal S1x2048 .f32 := m ((c : Thread nD τ).loc main_arg5)
/-- The attention branch's projection. -/
abbrev woArg (c : Dev nD) : FVec Ideal S1x1024x2048 .f32 := m ((c : Thread nD τ).loc main_arg6)
/-- The linear branch's projection. -/
abbrev wgArg (c : Dev nD) : FVec Ideal S1x1024x2048 .f32 := m ((c : Thread nD τ).loc main_arg7)
/-- The output projection. -/
abbrev wmArg (c : Dev nD) : FVec Ideal S1x2048x2048 .f32 := m ((c : Thread nD τ).loc main_arg8)

/-- The gate of the output is the modulation's third part. -/
theorem V_gate (c : Dev nD) (s : Fin 2) (k : Fin 2048) :
    (V m c main_v1 : FVec Ideal S2x1x2048 .f32) (ix3 s 0 k) = modArg m c (ix2 s (part 2 (by decide) k)) := by
  unfold V
  after_reads_at
  rfl

/-- The shift is the modulation's fourth part. -/
theorem V_shift (c : Dev nD) (s : Fin 2) (k : Fin 2048) :
    (V m c main_v3 : FVec Ideal S2x1x2048 .f32) (ix3 s 0 k) = modArg m c (ix2 s (part 3 (by decide) k)) := by
  unfold V
  after_reads_at
  rfl

/-- The scale is the modulation's fifth part. -/
theorem V_scale (c : Dev nD) (s : Fin 2) (k : Fin 2048) :
    (V m c main_v5 : FVec Ideal S2x1x2048 .f32) (ix3 s 0 k) = modArg m c (ix2 s (part 4 (by decide) k)) := by
  unfold V
  after_reads_at
  rfl

/-- The rows of both sequences on top of one another. -/
theorem V_rows (c : Dev nD) (R : Fin 16384) (k : Fin 2048) :
    (V m c main_v6 : FVec Ideal S16384x2048 .f32) (ix2 R k) = rowsArg m c (ix3 (seqOf R) (posOf R) k) := by
  unfold V
  after_reads_at
  rfl

/-- The gain as a row. -/
theorem V_gain (c : Dev nD) (k : Fin 2048) :
    (V m c main_v8 : FVec Ideal S1x2048 .f32) (ix2 0 k) = gainArg m c (ix2 0 k) := by
  unfold V
  after_reads_at

/-- The attention branch's projection as a matrix. -/
theorem V_wo (c : Dev nD) (j : Fin 1024) (k : Fin 2048) :
    (V m c main_v10 : FVec Ideal S1024x2048 .bf16) (ix2 j k) = woArg m c (ix3 0 j k) := by
  unfold V
  after_reads_at

/-- The linear branch's projection as a matrix. -/
theorem V_wg (c : Dev nD) (j : Fin 1024) (k : Fin 2048) :
    (V m c main_v12 : FVec Ideal S1024x2048 .bf16) (ix2 j k) = wgArg m c (ix3 0 j k) := by
  unfold V
  after_reads_at

/-- The output projection as a matrix. -/
theorem V_wm (c : Dev nD) (j k : Fin 2048) :
    (V m c main_v14 : FVec Ideal S2048x2048 .bf16) (ix2 j k) = wmArg m c (ix3 0 j k) := by
  unfold V
  after_reads_at

/-- The block of the attention branch that a grid point reads. -/
theorem index0 : ∀ t : Fin cfg0.N, win0_0.index t = ![t.val, 0] := (by decide +kernel : ∀ t : Fin grid0.N, _)
/-- The block of the linear branch. -/
theorem index1 : ∀ t : Fin cfg0.N, win0_1.index t = ![t.val, 0] := (by decide +kernel : ∀ t : Fin grid0.N, _)
/-- The block of the attention branch's gate. -/
theorem index2 : ∀ t : Fin cfg0.N, win0_2.index t = ![t.val, 3] := (by decide +kernel : ∀ t : Fin grid0.N, _)
/-- The block of the linear branch's gate. -/
theorem index3 : ∀ t : Fin cfg0.N, win0_3.index t = ![t.val, 4] := (by decide +kernel : ∀ t : Fin grid0.N, _)
/-- The block of rows. -/
theorem index4 : ∀ t : Fin cfg0.N, win0_4.index t = ![t.val, 0] := (by decide +kernel : ∀ t : Fin grid0.N, _)
/-- The block of the output's gate. -/
theorem index5 : ∀ t : Fin cfg0.N, win0_5.index t = ![t.val / 32, 0, 0] := (by decide +kernel : ∀ t : Fin grid0.N, _)
/-- The block of the scale. -/
theorem index6 : ∀ t : Fin cfg0.N, win0_6.index t = ![t.val / 32, 0, 0] := (by decide +kernel : ∀ t : Fin grid0.N, _)
/-- The block of the shift. -/
theorem index7 : ∀ t : Fin cfg0.N, win0_7.index t = ![t.val / 32, 0, 0] := (by decide +kernel : ∀ t : Fin grid0.N, _)
/-- The block of the gain. -/
theorem index8 : ∀ t : Fin cfg0.N, win0_8.index t = ![0, 0] := (by decide +kernel : ∀ t : Fin grid0.N, _)
/-- The block of the attention branch's projection. -/
theorem index9 : ∀ t : Fin cfg0.N, win0_9.index t = ![0, 0] := (by decide +kernel : ∀ t : Fin grid0.N, _)
/-- The block of the linear branch's projection. -/
theorem index10 : ∀ t : Fin cfg0.N, win0_10.index t = ![0, 0] := (by decide +kernel : ∀ t : Fin grid0.N, _)
/-- The block of the output projection. -/
theorem index11 : ∀ t : Fin cfg0.N, win0_11.index t = ![0, 0] := (by decide +kernel : ∀ t : Fin grid0.N, _)
/-- The block of the first result. -/
theorem index12 : ∀ t : Fin cfg0.N, win0_12.index t = ![t.val, 0] := (by decide +kernel : ∀ t : Fin grid0.N, _)
/-- The block of the second result. -/
theorem index13 : ∀ t : Fin cfg0.N, win0_13.index t = ![0, t.val] := (by decide +kernel : ∀ t : Fin grid0.N, _)

section blocks

variable (c : Dev nD) (t : Fin cfg0.N) (a : Fin 256) (R : Fin 16384) (hR : R.val = 256 * t.val + a.val)
include hR

/-- A read of the attention branch's block. -/
theorem att_apply (j : Fin 1024) : (iblk m c 0 t : FVec Ideal S256x1024 .bf16) (ix2 a j) = attArg m c (ix2 R j) := by
  rw [← show (V m c main_arg0 : FVec Ideal S16384x1024 .bf16) = attArg m c from V_main_arg0 m c]
  blk_ext! [iblk, index0 t]

/-- A read of the linear branch's block. -/
theorem gla_apply (j : Fin 1024) : (iblk m c 1 t : FVec Ideal S256x1024 .bf16) (ix2 a j) = glaArg m c (ix2 R j) := by
  rw [← show (V m c main_arg1 : FVec Ideal S16384x1024 .bf16) = glaArg m c from V_main_arg1 m c]
  blk_ext! [iblk, index1 t]

/-- A read of the attention branch's gate. -/
theorem gateA_apply (k : Fin 2048) : (iblk m c 2 t : FVec Ideal S256x2048 .f32) (ix2 a k) = zArg m c (ix2 R (gateA k)) := by
  rw [← show (V m c main_arg2 : FVec Ideal S16384x10240 .f32) = zArg m c from V_main_arg2 m c]
  unfold gateA
  blk_ext! [iblk, index2 t]

/-- A read of the linear branch's gate. -/
theorem gateB_apply (k : Fin 2048) : (iblk m c 3 t : FVec Ideal S256x2048 .f32) (ix2 a k) = zArg m c (ix2 R (gateB k)) := by
  rw [← show (V m c main_arg2 : FVec Ideal S16384x10240 .f32) = zArg m c from V_main_arg2 m c]
  unfold gateB
  blk_ext! [iblk, index3 t]

/-- A read of the rows' block. -/
theorem row_apply (k : Fin 2048) : (iblk m c 4 t : FVec Ideal S256x2048 .f32) (ix2 a k) = rowsArg m c (ix3 (seqOf R) (posOf R) k) := by
  rw [← V_rows]
  blk_ext! [iblk, index4 t]

/-- A read of the output gate's block. -/
theorem gate_apply (k : Fin 2048) : (iblk m c 5 t : FVec Ideal S1x1x2048 .f32) (ix3 0 0 k) = modArg m c (ix2 (seqOf R) (part 2 (by decide) k)) := by
  have hs : (seqOf R).val = t.val / 32 := by show R.val / 8192 = _; omega
  rw [← V_gate]
  generalize seqOf R = s at hs
  blk_ext! [iblk, index5 t]

/-- A read of the scale's block. -/
theorem scale_apply (k : Fin 2048) : (iblk m c 6 t : FVec Ideal S1x1x2048 .f32) (ix3 0 0 k) = modArg m c (ix2 (seqOf R) (part 4 (by decide) k)) := by
  have hs : (seqOf R).val = t.val / 32 := by show R.val / 8192 = _; omega
  rw [← V_scale]
  generalize seqOf R = s at hs
  blk_ext! [iblk, index6 t]

/-- A read of the shift's block. -/
theorem shift_apply (k : Fin 2048) : (iblk m c 7 t : FVec Ideal S1x1x2048 .f32) (ix3 0 0 k) = modArg m c (ix2 (seqOf R) (part 3 (by decide) k)) := by
  have hs : (seqOf R).val = t.val / 32 := by show R.val / 8192 = _; omega
  rw [← V_shift]
  generalize seqOf R = s at hs
  blk_ext! [iblk, index7 t]

omit hR

/-- A read of the gain's block. -/
theorem gain_apply (k : Fin 2048) : (iblk m c 8 t : FVec Ideal S1x2048 .f32) (ix2 0 k) = gainArg m c (ix2 0 k) := by
  rw [← V_gain]
  blk_ext! [iblk, index8 t]

/-- A read of the attention branch's projection. -/
theorem wo_apply (j : Fin 1024) (k : Fin 2048) : (iblk m c 9 t : FVec Ideal S1024x2048 .bf16) (ix2 j k) = woArg m c (ix3 0 j k) := by
  rw [← V_wo]
  blk_ext! [iblk, index9 t]

/-- A read of the linear branch's projection. -/
theorem wg_apply (j : Fin 1024) (k : Fin 2048) : (iblk m c 10 t : FVec Ideal S1024x2048 .bf16) (ix2 j k) = wgArg m c (ix3 0 j k) := by
  rw [← V_wg]
  blk_ext! [iblk, index10 t]

/-- A read of the output projection. -/
theorem wm_apply (j k : Fin 2048) : (iblk m c 11 t : FVec Ideal S2048x2048 .bf16) (ix2 j k) = wmArg m c (ix3 0 j k) := by
  rw [← V_wm]
  blk_ext! [iblk, index11 t]

include hR

/-- A point's sum is the launch's at the row. -/
theorem summed_eq (k : Fin 2048) :
    summed (iblk m c 0 t) (iblk m c 1 t) (iblk m c 2 t) (iblk m c 3 t) (iblk m c 4 t) (iblk m c 5 t) (iblk m c 9 t) (iblk m c 10 t) (iblk m c 11 t) a k
      = added (attArg m c) (glaArg m c) (zArg m c) (rowsArg m c) (modArg m c) (woArg m c) (wgArg m c) (wmArg m c) R k := by
  unfold summed added blended merged
  simp only [att_apply m c t a R hR, gla_apply m c t a R hR, gateA_apply m c t a R hR, gateB_apply m c t a R hR, row_apply m c t a R hR,
    gate_apply m c t a R hR, wo_apply, wg_apply, wm_apply]

/-- A point's entry of the first result. -/
theorem sum_entry (k k' : Fin 2048) (hk : k'.val = k.val) :
    out0_12 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 a k)
      = added (attArg m c) (glaArg m c) (zArg m c) (rowsArg m c) (modArg m c) (woArg m c) (wgArg m c) (wmArg m c) R k' := by
  obtain rfl : k' = k := Fin.ext hk
  rw [out_sums, summed_eq m c t a R hR]

/-- A point's entry of the second result. -/
theorem column_entry (k k' : Fin 2048) (hk : k'.val = k.val) :
    out0_13 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 k a)
      = normed (attArg m c) (glaArg m c) (zArg m c) (rowsArg m c) (modArg m c) (gainArg m c) (woArg m c) (wgArg m c) (wmArg m c) R k' := by
  obtain rfl : k' = k := Fin.ext hk
  unfold normed
  rw [out_columns, funext (summed_eq m c t a R hR)]
  simp only [gain_apply, scale_apply m c t a R hR, shift_apply m c t a R hR]

end blocks

/-- The first result of the launch. -/
theorem array_sums (c : Dev nD) : (dats m 0 c).arrAt 12 cfg0.N
    = fun i : S16384x2048.Idx => added (attArg m c) (glaArg m c) (zArg m c) (rowsArg m c) (modArg m c) (woArg m c) (wgArg m c) (wmArg m c) (i 0) (i 1) := by
  refine (dats m 0 c).arrAt_eq_of_covers 12 _ (by decide +kernel) fun t hf y => ?_
  blk_simp
  obtain ⟨a, k, rfl⟩ : ∃ (a : Fin 256) (k : Fin 2048), y = ix2 a k := ⟨y 0, y 1, (ix2_eta y).symm⟩
  rw [after0_12]
  refine sum_entry m c t a _ ?_ k _ ?_
  · blk_simp [index12 t]; omega
  · blk_simp [index12 t]; try omega

/-- The second result of the launch. -/
theorem array_columns (c : Dev nD) : (dats m 0 c).arrAt 13 cfg0.N
    = fun i : S2048x16384.Idx => normed (attArg m c) (glaArg m c) (zArg m c) (rowsArg m c) (modArg m c) (gainArg m c) (woArg m c) (wgArg m c) (wmArg m c) (i 1) (i 0) := by
  refine (dats m 0 c).arrAt_eq_of_covers 13 _ (by decide +kernel) fun t hf y => ?_
  blk_simp
  obtain ⟨k, a, rfl⟩ : ∃ (k : Fin 2048) (a : Fin 256), y = ix2 k a := ⟨y 0, y 1, (ix2_eta y).symm⟩
  rw [after0_13]
  refine column_entry m c t a _ ?_ k _ ?_
  · blk_simp [index13 t]; omega
  · blk_simp [index13 t]; try omega

/-- The first result is the reference's. -/
theorem sums_eq (c : Dev nD) : (dats m 0 c).arrAt 12 cfg0.N
    = Cert.Reference3Ideal.Read.val_main_v52 (F := Ideal) (attArg m c) (glaArg m c) (zArg m c) (rowsArg m c) (modArg m c) (woArg m c) (wgArg m c) (wmArg m c) := by
  refine (array_sums m c).trans (funext fun i => ?_)
  obtain ⟨R, k, rfl⟩ : ∃ (R : Fin 16384) (k : Fin 2048), i = ix2 R k := ⟨i 0, i 1, (ix2_eta i).symm⟩
  exact (Cert.Reference3Ideal.Reading.rows_apply _ _ _ _ _ _ _ _ R k).symm

/-- The second result is the reference's. -/
theorem columns_eq (c : Dev nD) : (dats m 0 c).arrAt 13 cfg0.N
    = Cert.Reference3Ideal.Read.val_main_v55 (F := Ideal) (attArg m c) (glaArg m c) (zArg m c) (rowsArg m c) (modArg m c) (gainArg m c) (woArg m c) (wgArg m c) (wmArg m c) := by
  refine (array_columns m c).trans (funext fun i => ?_)
  obtain ⟨k, R, rfl⟩ : ∃ (k : Fin 2048) (R : Fin 16384), i = ix2 k R := ⟨i 0, i 1, (ix2_eta i).symm⟩
  exact (Cert.Reference3Ideal.Reading.normed_apply _ _ _ _ _ _ _ _ _ R k).symm

end Cert.Kernel3Ideal.Merge

end
-- ==== Proof.SampleMergeReading.lean ====
/-
  The reference of the sample's merge, entry by entry.
-/
module

public import proofs.«01_k».proof.Proof.Gen.Reference9Ideal.Read
public import proofs.«01_k».proof.Proof.MergeReading

@[expose] public section

set_option maxRecDepth 16384

noncomputable section

namespace Cert.Reference9Ideal.Reading

open Idealize.ShloMosaic Idealize.ShloMosaic.TcCoe Idealize.ShloMosaic.Tactic Cert.Reference9Ideal.Gen Cert.Reference9Ideal Cert.Reference9Ideal.Read
open Cert.Modulate Cert.Reference3Ideal.Reading

/-- A row `x` plus its gate times the projection of the two branches `p` and `q`, which are blended by their own gates `u` and `v`. -/
def sumRow (p q : Fin 1024 → EReal) (u v x gate : Fin 2048 → EReal) (wo wg : Fin 1024 → Fin 2048 → EReal) (wm : Fin 2048 → Fin 2048 → EReal)
    (k : Fin 2048) : EReal :=
  x k + gate k * ∑ j : Fin 2048, blend (u j) (v j) (∑ i : Fin 1024, p i * wo i j) (∑ i : Fin 1024, q i * wg i j) * wm j k

/-- The row of a sample's step. -/
def rowAt (s : Fin 32) (t : Fin 16) : Fin 512 := ⟨s.val * 16 + t.val, by omega⟩

/-- A row is the one of its sample and step. -/
theorem rowAt_split (R : Fin 512) : rowAt (sampleOf R) (stepOf R) = R := by
  refine Fin.ext ?_
  show R.val / 16 * 16 + R.val % 16 = R.val
  omega

variable (att gla : FVec Ideal S512x1024 .bf16) (z : FVec Ideal S512x10240 .f32) (x : FVec Ideal S32x16x2048 .f32) (mod : FVec Ideal S32x12288 .f32)
  (g : FVec Ideal S1x2048 .f32) (wo wg : FVec Ideal S1x1024x2048 .f32) (wm : FVec Ideal S1x2048x2048 .f32)

/-- A row with the gated output projection added. -/
def total (R : Fin 512) : Fin 2048 → EReal :=
  sumRow (fun j => att (ix2 R j)) (fun j => gla (ix2 R j)) (fun k => z (ix2 R (gateA k))) (fun k => z (ix2 R (gateB k)))
    (fun k => x (ix3 (sampleOf R) (stepOf R) k)) (fun k => mod (ix2 (sampleOf R) (part 2 (by decide) k)))
    (fun j k => wo (ix3 0 j k)) (fun j k => wg (ix3 0 j k)) (fun j k => wm (ix3 0 j k))

/-- That row, normalized and modulated. -/
def scaled (R : Fin 512) : Fin 2048 → EReal :=
  modulated (total att gla z x mod wo wg wm R) (fun k => g (ix2 0 k))
    (fun k => mod (ix2 (sampleOf R) (part 4 (by decide) k))) (fun k => mod (ix2 (sampleOf R) (part 3 (by decide) k)))

/-- The reference's gated sum. -/
theorem blend_apply (s : Fin 32) (t : Fin 16) (k : Fin 2048) :
    val_main_v26 (F := Ideal) att gla z wo wg (ix3 s t k)
      = blend (z (ix2 (rowAt s t) (gateA k))) (z (ix2 (rowAt s t) (gateB k))) (∑ j : Fin 1024, att (ix2 (rowAt s t) j) * wo (ix3 0 j k))
          (∑ j : Fin 1024, gla (ix2 (rowAt s t) j) * wg (ix3 0 j k)) := by
  have e : ∀ h : 6144 + (2048 + k.val) < 10240, (⟨6144 + (2048 + k.val), h⟩ : Fin 10240) = gateB k := fun h => Fin.ext (by show 6144 + (2048 + k.val) = 8192 + k.val; omega)
  unfold blend
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_cst, val_main_cst_0]
  rw [e]
  rfl

/-- The reference's sum. -/
theorem total_apply (R : Fin 512) (k : Fin 2048) :
    val_main_v31 (F := Ideal) att gla z x mod wo wg wm (ix3 (sampleOf R) (stepOf R) k) = total att gla z x mod wo wg wm R k := by
  have e := fun j : Fin 2048 => blend_apply att gla z wo wg (sampleOf R) (stepOf R) j
  simp only [rowAt_split] at e
  unfold total sumRow
  simp only [← e]
  unfold val_main_v31 val_main_v30 val_main_v29 val_main_v28 val_main_v27 val_main_v1 val_main_v0
  generalize val_main_v26 (F := Ideal) att gla z wo wg = h
  pointwise
  rfl

/-- The first result. -/
theorem rows_apply (R : Fin 512) (k : Fin 2048) :
    val_main_v52 (F := Ideal) att gla z x mod wo wg wm (ix2 R k) = total att gla z x mod wo wg wm R k := by
  rw [← total_apply]
  unfold val_main_v52
  generalize val_main_v31 (F := Ideal) att gla z x mod wo wg wm = h
  pointwise
  rfl

/-- The second result, a row to a column. -/
theorem scaled_apply (R : Fin 512) (k : Fin 2048) :
    val_main_v55 (F := Ideal) att gla z x mod g wo wg wm (ix2 k R) = scaled att gla z x mod g wo wg wm R k := by
  have e : total att gla z x mod wo wg wm R = fun k => val_main_v31 (F := Ideal) att gla z x mod wo wg wm (ix3 (sampleOf R) (stepOf R) k) :=
    funext fun k => (total_apply att gla z x mod wo wg wm R k).symm
  unfold scaled
  rw [e]
  unfold modulated val_main_v55 val_main_v54 val_main_v53 val_main_v51 val_main_v50 val_main_v49 val_main_v48 val_main_v47 val_main_v46 val_main_v45
    val_main_v44 val_main_v43 val_main_v42 val_main_v41 val_main_v40 val_main_v39 val_main_v38 val_main_v37 val_main_v36 val_main_v35 val_main_v34
    val_main_v33 val_main_v32 val_main_v5 val_main_v4 val_main_v3 val_main_v2 val_main_cst_1 val_main_cst_2 val_main_cst_3 val_main_cst_4
  generalize val_main_v31 (F := Ideal) att gla z x mod wo wg wm = h
  pointwise
  rfl

end Cert.Reference9Ideal.Reading

end
-- ==== Proof.SampleMergeBlock.lean ====
/-
  What one grid point of the sample's merge leaves in its two output blocks.
-/
module

public import proofs.«01_k».proof.Proof.Gen.Kernel9Ideal.Value
public import proofs.«01_k».proof.Proof.MergeBlock
public import proofs.«01_k».proof.Proof.SampleMergeReading

@[expose] public section

set_option maxRecDepth 16384

noncomputable section

namespace Cert.Kernel9Ideal.Merge

open Idealize.ShloMosaic Idealize.ShloMosaic.TcCoe Idealize.ShloMosaic.Tactic Cert.Kernel9Ideal.Gen Cert.Kernel9Ideal Cert.Kernel9Ideal.Facts
open Cert.Modulate Cert.Reference3Ideal.Reading Cert.Reference9Ideal.Reading

/-- The block of gated sums, which is computed as it is for the prompt. -/
theorem gated_apply (p : FVec Ideal S256x1024 .bf16) (w : FVec Ideal S1024x2048 .bf16) (q : FVec Ideal S256x1024 .bf16) (w' : FVec Ideal S1024x2048 .bf16)
    (u v : FVec Ideal S256x2048 .f32) (a : Fin 256) (k : Fin 2048) :
    k0_pay5 (F := Ideal) p w q w' u v (ix2 a k)
      = blend (u (ix2 a k)) (v (ix2 a k)) (∑ j : Fin 1024, p (ix2 a j) * w (ix2 j k)) (∑ j : Fin 1024, q (ix2 a j) * w' (ix2 j k)) :=
  Cert.Kernel3Ideal.Merge.gated_apply p w q w' u v a k

/-- The block of sums. -/
theorem sums_apply (x t : FVec Ideal S256x2048 .f32) (h : FVec Ideal S256x2048 .bf16) (w : FVec Ideal S2048x2048 .bf16) (a : Fin 256) (k : Fin 2048) :
    k0_pay1 (F := Ideal) x t h w (ix2 a k) = x (ix2 a k) + t (ix2 a k) * ∑ j : Fin 2048, h (ix2 a j) * w (ix2 j k) := by
  unfold k0_pay1
  pointwise

/-- The block of normalized columns. -/
theorem columns_apply (x t : FVec Ideal S256x2048 .f32) (h : FVec Ideal S256x2048 .bf16) (w : FVec Ideal S2048x2048 .bf16)
    (g : FVec Ideal S1x2048 .f32) (sc sh : FVec Ideal S256x2048 .f32) (a : Fin 256) (k : Fin 2048) :
    k0_pay2 (F := Ideal) x t h w g sc sh (ix2 k a)
      = modulated (fun k => k0_pay1 (F := Ideal) x t h w (ix2 a k)) (fun k => g (ix2 0 k)) (fun k => sc (ix2 a k)) (fun k => sh (ix2 a k)) k := by
  unfold modulated k0_pay2
  generalize k0_pay1 (F := Ideal) x t h w = r
  pointwise

variable (x0 x1 : Vec Ideal S256x1024 .bf16) (x2 x3 x4 x5 x6 x7 : Vec Ideal S256x2048 .f32) (x8 : Vec Ideal S1x2048 .f32)
  (x9 x10 : Vec Ideal S1024x2048 .bf16) (x11 : Vec Ideal S2048x2048 .bf16)

/-- A row of the sum from the point's blocks. -/
def blockRow (a : Fin 256) : Fin 2048 → EReal :=
  sumRow (fun j => x0 (ix2 a j)) (fun j => x1 (ix2 a j)) (fun k => x2 (ix2 a k)) (fun k => x3 (ix2 a k)) (fun k => x4 (ix2 a k)) (fun k => x5 (ix2 a k))
    (fun j k => x9 (ix2 j k)) (fun j k => x10 (ix2 j k)) (fun j k => x11 (ix2 j k))

/-- The sums of a point from its blocks. -/
theorem sums_of_blocks (a : Fin 256) (k : Fin 2048) :
    k0_pay1 (F := Ideal) (k0_pay3 x4) (k0_pay4 x5) (k0_pay5 x0 x9 x1 x10 x2 x3) x11 (ix2 a k) = blockRow x0 x1 x2 x3 x4 x5 x9 x10 x11 a k := by
  rw [sums_apply]
  simp only [gated_apply]
  unfold k0_pay3 k0_pay4
  pointwise
  rfl

/-- The first output block. -/
theorem out_sums (a : Fin 256) (k : Fin 2048) :
    out0_12 (F := Ideal) x0 x1 x2 x3 x4 x5 x6 x7 x8 x9 x10 x11 (ix2 a k) = blockRow x0 x1 x2 x3 x4 x5 x9 x10 x11 a k := by
  rw [← sums_of_blocks]
  unfold_out out0_12
  rw [View.canon_cons_unit_lit' _ _ _ (by decide)]
  simp (disch := decide) only [View.ld_unit_lit']

/-- The second output block. -/
theorem out_columns (a : Fin 256) (k : Fin 2048) :
    out0_13 (F := Ideal) x0 x1 x2 x3 x4 x5 x6 x7 x8 x9 x10 x11 (ix2 k a)
      = modulated (blockRow x0 x1 x2 x3 x4 x5 x9 x10 x11 a) (fun k => x8 (ix2 0 k)) (fun k => x6 (ix2 a k)) (fun k => x7 (ix2 a k)) k := by
  rw [← funext (sums_of_blocks x0 x1 x2 x3 x4 x5 x9 x10 x11 a), ← columns_apply]
  unfold_out out0_13
  rw [View.canon_cons_unit_lit' _ _ _ (by decide)]
  simp (disch := decide) only [View.ld_unit_lit']

end Cert.Kernel9Ideal.Merge

end
-- ==== Proof.SampleMergeEquation.lean ====
/-
  The results of the sample's merge are its reference's.
-/
module

public import proofs.«01_k».proof.Proof.SampleMergeBlock
public import Idealize.ShloMosaic.Lib.Pipeline.ValueKit.Point
public import Idealize.ShloMosaic.Lib.StableHlo.ReadAt

@[expose] public section

set_option maxRecDepth 16384

noncomputable section

namespace Cert.Kernel9Ideal.Merge

open Idealize.ShloMosaic Idealize.ShloMosaic.TcCoe Idealize.ShloMosaic.Tactic Cert.Kernel9Ideal.Gen Cert.Kernel9Ideal Cert.Kernel9Ideal.Facts
open Cert.Modulate Cert.Reference3Ideal.Reading Cert.Reference9Ideal.Reading

variable (m : (ℓ : Loc nD τ sig) → Buf (Elt Ideal) ℓ)

/-- The attention branch. -/
abbrev attArg (c : Dev nD) : FVec Ideal S512x1024 .bf16 := m ((c : Thread nD τ).loc main_arg0)
/-- The linear branch. -/
abbrev glaArg (c : Dev nD) : FVec Ideal S512x1024 .bf16 := m ((c : Thread nD τ).loc main_arg1)
/-- The input projection. -/
abbrev zArg (c : Dev nD) : FVec Ideal S512x10240 .f32 := m ((c : Thread nD τ).loc main_arg2)
/-- The rows to add to. -/
abbrev rowsArg (c : Dev nD) : FVec Ideal S32x16x2048 .f32 := m ((c : Thread nD τ).loc main_arg3)
/-- The modulation. -/
abbrev modArg (c : Dev nD) : FVec Ideal S32x12288 .f32 := m ((c : Thread nD τ).loc main_arg4)
/-- The gain. -/
abbrev gainArg (c : Dev nD) : FVec Ideal S1x2048 .f32 := m ((c : Thread nD τ).loc main_arg5)
/-- The attention branch's projection. -/
abbrev woArg (c : Dev nD) : FVec Ideal S1x1024x2048 .f32 := m ((c : Thread nD τ).loc main_arg6)
/-- The linear branch's projection. -/
abbrev wgArg (c : Dev nD) : FVec Ideal S1x1024x2048 .f32 := m ((c : Thread nD τ).loc main_arg7)
/-- The output projection. -/
abbrev wmArg (c : Dev nD) : FVec Ideal S1x2048x2048 .f32 := m ((c : Thread nD τ).loc main_arg8)

/-- The gate of the output is the modulation's third part, repeated for each step. -/
theorem V_gate (c : Dev nD) (R : Fin 512) (k : Fin 2048) :
    (V m c main_v2 : FVec Ideal S512x2048 .f32) (ix2 R k) = modArg m c (ix2 (sampleOf R) (part 2 (by decide) k)) := by
  unfold V
  after_reads_at
  rfl

/-- The shift is the modulation's fourth part, repeated for each step. -/
theorem V_shift (c : Dev nD) (R : Fin 512) (k : Fin 2048) :
    (V m c main_v5 : FVec Ideal S512x2048 .f32) (ix2 R k) = modArg m c (ix2 (sampleOf R) (part 3 (by decide) k)) := by
  unfold V
  after_reads_at
  rfl

/-- The scale is the modulation's fifth part, repeated for each step. -/
theorem V_scale (c : Dev nD) (R : Fin 512) (k : Fin 2048) :
    (V m c main_v8 : FVec Ideal S512x2048 .f32) (ix2 R k) = modArg m c (ix2 (sampleOf R) (part 4 (by decide) k)) := by
  unfold V
  after_reads_at
  rfl

/-- The rows of all samples on top of one another. -/
theorem V_rows (c : Dev nD) (R : Fin 512) (k : Fin 2048) :
    (V m c main_v9 : FVec Ideal S512x2048 .f32) (ix2 R k) = rowsArg m c (ix3 (sampleOf R) (stepOf R) k) := by
  unfold V
  after_reads_at
  rfl

/-- The gain as a row. -/
theorem V_gain (c : Dev nD) (k : Fin 2048) :
    (V m c main_v11 : FVec Ideal S1x2048 .f32) (ix2 0 k) = gainArg m c (ix2 0 k) := by
  unfold V
  after_reads_at

/-- The attention branch's projection as a matrix. -/
theorem V_wo (c : Dev nD) (j : Fin 1024) (k : Fin 2048) :
    (V m c main_v13 : FVec Ideal S1024x2048 .bf16) (ix2 j k) = woArg m c (ix3 0 j k) := by
  unfold V
  after_reads_at

/-- The linear branch's projection as a matrix. -/
theorem V_wg (c : Dev nD) (j : Fin 1024) (k : Fin 2048) :
    (V m c main_v15 : FVec Ideal S1024x2048 .bf16) (ix2 j k) = wgArg m c (ix3 0 j k) := by
  unfold V
  after_reads_at

/-- The output projection as a matrix. -/
theorem V_wm (c : Dev nD) (j k : Fin 2048) :
    (V m c main_v17 : FVec Ideal S2048x2048 .bf16) (ix2 j k) = wmArg m c (ix3 0 j k) := by
  unfold V
  after_reads_at

/-- The blocks of the launch that go by rows: a grid point has the rows' block of its own number. -/
theorem indexRows : ∀ t : Fin cfg0.N, win0_0.index t = ![t.val, 0] ∧ win0_1.index t = ![t.val, 0] ∧ win0_2.index t = ![t.val, 3]
    ∧ win0_3.index t = ![t.val, 4] ∧ win0_4.index t = ![t.val, 0] ∧ win0_5.index t = ![t.val, 0] ∧ win0_6.index t = ![t.val, 0]
    ∧ win0_7.index t = ![t.val, 0] ∧ win0_12.index t = ![t.val, 0] ∧ win0_13.index t = ![0, t.val] :=
  (by decide +kernel : ∀ t : Fin grid0.N, _)

/-- The blocks of the launch that every grid point has whole. -/
theorem indexWhole : ∀ t : Fin cfg0.N, win0_8.index t = ![0, 0] ∧ win0_9.index t = ![0, 0] ∧ win0_10.index t = ![0, 0] ∧ win0_11.index t = ![0, 0] :=
  (by decide +kernel : ∀ t : Fin grid0.N, _)

section blocks

variable (c : Dev nD) (t : Fin cfg0.N) (a : Fin 256) (R : Fin 512) (hR : R.val = 256 * t.val + a.val)
include hR

/-- A read of the attention branch's block. -/
theorem att_apply (j : Fin 1024) : (iblk m c 0 t : FVec Ideal S256x1024 .bf16) (ix2 a j) = attArg m c (ix2 R j) := by
  rw [← show (V m c main_arg0 : FVec Ideal S512x1024 .bf16) = attArg m c from V_main_arg0 m c]
  blk_ext! [iblk, (indexRows t).1]

/-- A read of the linear branch's block. -/
theorem gla_apply (j : Fin 1024) : (iblk m c 1 t : FVec Ideal S256x1024 .bf16) (ix2 a j) = glaArg m c (ix2 R j) := by
  rw [← show (V m c main_arg1 : FVec Ideal S512x1024 .bf16) = glaArg m c from V_main_arg1 m c]
  blk_ext! [iblk, (indexRows t).2.1]

/-- A read of the attention branch's gate. -/
theorem gateA_apply (k : Fin 2048) : (iblk m c 2 t : FVec Ideal S256x2048 .f32) (ix2 a k) = zArg m c (ix2 R (gateA k)) := by
  rw [← show (V m c main_arg2 : FVec Ideal S512x10240 .f32) = zArg m c from V_main_arg2 m c]
  unfold gateA
  blk_ext! [iblk, (indexRows t).2.2.1]

/-- A read of the linear branch's gate. -/
theorem gateB_apply (k : Fin 2048) : (iblk m c 3 t : FVec Ideal S256x2048 .f32) (ix2 a k) = zArg m c (ix2 R (gateB k)) := by
  rw [← show (V m c main_arg2 : FVec Ideal S512x10240 .f32) = zArg m c from V_main_arg2 m c]
  unfold gateB
  blk_ext! [iblk, (indexRows t).2.2.2.1]

/-- A read of the rows' block. -/
theorem row_apply (k : Fin 2048) : (iblk m c 4 t : FVec Ideal S256x2048 .f32) (ix2 a k) = rowsArg m c (ix3 (sampleOf R) (stepOf R) k) := by
  rw [← V_rows]
  blk_ext! [iblk, (indexRows t).2.2.2.2.1]

/-- A read of the output gate's block. -/
theorem gate_apply (k : Fin 2048) : (iblk m c 5 t : FVec Ideal S256x2048 .f32) (ix2 a k) = modArg m c (ix2 (sampleOf R) (part 2 (by decide) k)) := by
  rw [← V_gate]
  blk_ext! [iblk, (indexRows t).2.2.2.2.2.1]

/-- A read of the scale's block. -/
theorem scale_apply (k : Fin 2048) : (iblk m c 6 t : FVec Ideal S256x2048 .f32) (ix2 a k) = modArg m c (ix2 (sampleOf R) (part 4 (by decide) k)) := by
  rw [← V_scale]
  blk_ext! [iblk, (indexRows t).2.2.2.2.2.2.1]

/-- A read of the shift's block. -/
theorem shift_apply (k : Fin 2048) : (iblk m c 7 t : FVec Ideal S256x2048 .f32) (ix2 a k) = modArg m c (ix2 (sampleOf R) (part 3 (by decide) k)) := by
  rw [← V_shift]
  blk_ext! [iblk, (indexRows t).2.2.2.2.2.2.2.1]

omit hR

/-- A read of the gain's block. -/
theorem gain_apply (k : Fin 2048) : (iblk m c 8 t : FVec Ideal S1x2048 .f32) (ix2 0 k) = gainArg m c (ix2 0 k) := by
  rw [← V_gain]
  blk_ext! [iblk, (indexWhole t).1]

/-- A read of the attention branch's projection. -/
theorem wo_apply (j : Fin 1024) (k : Fin 2048) : (iblk m c 9 t : FVec Ideal S1024x2048 .bf16) (ix2 j k) = woArg m c (ix3 0 j k) := by
  rw [← V_wo]
  blk_ext! [iblk, (indexWhole t).2.1]

/-- A read of the linear branch's projection. -/
theorem wg_apply (j : Fin 1024) (k : Fin 2048) : (iblk m c 10 t : FVec Ideal S1024x2048 .bf16) (ix2 j k) = wgArg m c (ix3 0 j k) := by
  rw [← V_wg]
  blk_ext! [iblk, (indexWhole t).2.2.1]

/-- A read of the output projection. -/
theorem wm_apply (j k : Fin 2048) : (iblk m c 11 t : FVec Ideal S2048x2048 .bf16) (ix2 j k) = wmArg m c (ix3 0 j k) := by
  rw [← V_wm]
  blk_ext! [iblk, (indexWhole t).2.2.2]

include hR

/-- A point's row of the sum is the launch's. -/
theorem blockRow_eq :
    blockRow (iblk m c 0 t) (iblk m c 1 t) (iblk m c 2 t) (iblk m c 3 t) (iblk m c 4 t) (iblk m c 5 t) (iblk m c 9 t) (iblk m c 10 t) (iblk m c 11 t) a
      = total (attArg m c) (glaArg m c) (zArg m c) (rowsArg m c) (modArg m c) (woArg m c) (wgArg m c) (wmArg m c) R := by
  unfold blockRow total
  simp only [att_apply m c t a R hR, gla_apply m c t a R hR, gateA_apply m c t a R hR, gateB_apply m c t a R hR, row_apply m c t a R hR,
    gate_apply m c t a R hR, wo_apply, wg_apply, wm_apply]

/-- A point's entry of the first result. -/
theorem sum_entry (k k' : Fin 2048) (hk : k'.val = k.val) :
    out0_12 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 a k)
      = total (attArg m c) (glaArg m c) (zArg m c) (rowsArg m c) (modArg m c) (woArg m c) (wgArg m c) (wmArg m c) R k' := by
  obtain rfl : k' = k := Fin.ext hk
  rw [out_sums, blockRow_eq m c t a R hR]

/-- A point's entry of the second result. -/
theorem column_entry (k k' : Fin 2048) (hk : k'.val = k.val) :
    out0_13 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (ix2 k a)
      = scaled (attArg m c) (glaArg m c) (zArg m c) (rowsArg m c) (modArg m c) (gainArg m c) (woArg m c) (wgArg m c) (wmArg m c) R k' := by
  obtain rfl : k' = k := Fin.ext hk
  unfold scaled
  rw [out_columns, blockRow_eq m c t a R hR]
  simp only [gain_apply, scale_apply m c t a R hR, shift_apply m c t a R hR]

end blocks

/-- The first result is the reference's. -/
theorem sums_eq (c : Dev nD) : (dats m 0 c).arrAt 12 cfg0.N
    = Cert.Reference9Ideal.Read.val_main_v52 (F := Ideal) (attArg m c) (glaArg m c) (zArg m c) (rowsArg m c) (modArg m c) (woArg m c) (wgArg m c) (wmArg m c) := by
  refine Eq.trans (b := fun i : S512x2048.Idx => total (attArg m c) (glaArg m c) (zArg m c) (rowsArg m c) (modArg m c) (woArg m c) (wgArg m c) (wmArg m c) (i 0) (i 1))
    ((dats m 0 c).arrAt_eq_of_covers 12 _ (by decide +kernel) fun t hf y => ?_) (funext fun i => ?_)
  · blk_simp
    obtain ⟨a, k, rfl⟩ : ∃ (a : Fin 256) (k : Fin 2048), y = ix2 a k := ⟨y 0, y 1, (ix2_eta y).symm⟩
    rw [after0_12]
    refine sum_entry m c t a _ ?_ k _ ?_
    · blk_simp [(indexRows t).2.2.2.2.2.2.2.2.1]; omega
    · blk_simp [(indexRows t).2.2.2.2.2.2.2.2.1]; try omega
  · obtain ⟨R, k, rfl⟩ : ∃ (R : Fin 512) (k : Fin 2048), i = ix2 R k := ⟨i 0, i 1, (ix2_eta i).symm⟩
    exact (Cert.Reference9Ideal.Reading.rows_apply _ _ _ _ _ _ _ _ R k).symm

/-- The second result is the reference's. -/
theorem columns_eq (c : Dev nD) : (dats m 0 c).arrAt 13 cfg0.N
    = Cert.Reference9Ideal.Read.val_main_v55 (F := Ideal) (attArg m c) (glaArg m c) (zArg m c) (rowsArg m c) (modArg m c) (gainArg m c) (woArg m c) (wgArg m c) (wmArg m c) := by
  refine Eq.trans (b := fun i : S2048x512.Idx => scaled (attArg m c) (glaArg m c) (zArg m c) (rowsArg m c) (modArg m c) (gainArg m c) (woArg m c) (wgArg m c) (wmArg m c) (i 1) (i 0))
    ((dats m 0 c).arrAt_eq_of_covers 13 _ (by decide +kernel) fun t hf y => ?_) (funext fun i => ?_)
  · blk_simp
    obtain ⟨k, a, rfl⟩ : ∃ (k : Fin 2048) (a : Fin 256), y = ix2 k a := ⟨y 0, y 1, (ix2_eta y).symm⟩
    rw [after0_13]
    refine column_entry m c t a _ ?_ k _ ?_
    · blk_simp [(indexRows t).2.2.2.2.2.2.2.2.2]; omega
    · blk_simp [(indexRows t).2.2.2.2.2.2.2.2.2]; try omega
  · obtain ⟨k, R, rfl⟩ : ∃ (k : Fin 2048) (R : Fin 512), i = ix2 k R := ⟨i 0, i 1, (ix2_eta i).symm⟩
    exact (Cert.Reference9Ideal.Reading.scaled_apply _ _ _ _ _ _ _ _ _ R k).symm

end Cert.Kernel9Ideal.Merge

end
-- ==== Proof.GlaScan.lean ====
/-
  A running sum over sixteen steps, as a padded window sum.
-/
module

public import proofs.«01_k».proof.Proof.Gen.Reference4Ideal.Read
public import proofs.«01_k».proof.Proof.Modulate

@[expose] public section

set_option maxRecDepth 16384

noncomputable section

namespace Cert.Gla

open Idealize.ShloMosaic Idealize.ShloMosaic.TcCoe Idealize.ShloMosaic.Tactic Cert.Reference4Ideal.Gen Cert.Reference4Ideal Cert.Reference4Ideal.Read

/-- The sum of the steps up to and with a step. -/
def running (f : Fin 16 → EReal) (t : Fin 16) : EReal := ∑ k : Fin 16, if k ≤ t then f k else 0

/-- A sum from a start, added term by term. -/
theorem foldl_add {n : ℕ} (g : Fin n → EReal) (l : List (Fin n)) (r : EReal) : l.foldl (fun r k => r + g k) r = r + (l.map g).sum := by
  induction l generalizing r with
  | nil => simp
  | cons a l ih => simp [ih, add_assoc]

/-- The window that ends at a step, moved to begin at the first step. -/
theorem window_sum (f : Fin 16 → EReal) (t : Fin 16) :
    (∑ n : Fin 16, if h : 15 ≤ t.val + n.val then f ⟨t.val + n.val - 15, by omega⟩ else 0) = running f t := by
  unfold running
  rw [← Equiv.sum_comp (Equiv.addRight (t + 1)) fun k : Fin 16 => if k ≤ t then f k else 0]
  refine Finset.sum_congr rfl fun n _ => ?_
  have e : ((n + (t + 1) : Fin 16)).val = (n.val + t.val + 1) % 16 := by
    rw [Fin.val_add, Fin.val_add]; show (n.val + (t.val + 1) % 16) % 16 = _; omega
  show _ = if n + (t + 1) ≤ t then f (n + (t + 1)) else 0
  have hn := n.isLt
  have ht := t.isLt
  by_cases h : 15 ≤ t.val + n.val
  · rw [dif_pos h, if_pos (by rw [Fin.le_def, e]; omega)]
    refine congrArg f (Fin.ext ?_)
    rw [e]
    show t.val + n.val - 15 = _
    omega
  · rw [dif_neg h, if_neg (by rw [Fin.le_def, e]; omega)]

/-- The place of a window's element along the sequence. -/
theorem window_place : ∀ n : Fin (⟨4, ![1, 16, 1, 1]⟩ : Shape).numel,
    ((⟨4, ![1, 16, 1, 1]⟩ : Shape).rowMajor.symm n 0).val = 0 ∧ ((⟨4, ![1, 16, 1, 1]⟩ : Shape).rowMajor.symm n 1).val = n.val
      ∧ ((⟨4, ![1, 16, 1, 1]⟩ : Shape).rowMajor.symm n 2).val = 0 ∧ ((⟨4, ![1, 16, 1, 1]⟩ : Shape).rowMajor.symm n 3).val = 0 := by
  decide +kernel

variable (x1 : FVec Ideal S512x128 .f32) (x3 : FVec Ideal S1x16x512 .f32) (x4 : FVec Ideal S1x512 .f32)

/-- The cumulative log decay. -/
theorem cumulative_apply (b : Fin 32) (t : Fin 16) (h : Fin 4) (d : Fin 128) :
    val_main_v21 (F := Ideal) x1 x3 x4 (ix4 b t h d) = running (fun k => val_main_v20 (F := Ideal) x1 x3 x4 (ix4 b k h d)) t := by
  unfold val_main_v21
  generalize val_main_v20 (F := Ideal) x1 x3 x4 = x
  rw [← window_sum]
  change Ideal.hostReduceWindowAdd ![1, 16, 1, 1] ![1, 1, 1, 1] ![0, 15, 0, 0] ![0, 0, 0, 0]
    reduceWindows_S32x16x4x128_S32x16x4x128_w1s1p0_0_w16s1p15_0_w1s1p0_0_w1s1p0_0 x (Ideal.ofBits FTy.f32 0#32) (ix4 b t h d) = _
  rw [Ideal.ofBits_zero]
  unfold Ideal.hostReduceWindowAdd Host.reduceWindow
  dsimp only
  rw [foldl_add, zero_add, ← List.sum_ofFn, List.ofFn_eq_map]
  refine congrArg List.sum (List.map_congr_left fun n _ => ?_)
  obtain ⟨p0, p1, p2, p3⟩ := window_place n
  have ht := t.isLt
  have hn : n.val < 16 := n.isLt
  have hb := b.isLt
  have hh := h.isLt
  have hd := d.isLt
  by_cases w : 15 ≤ t.val + n.val
  · refine (dif_pos ?c).trans (Eq.trans ?e (dif_pos w).symm)
    case c =>
      intro a
      match a with
      | ⟨0, _⟩ => exact (by rw [p0]; omega : 0 ≤ b.val * 1 + ((⟨4, ![1, 16, 1, 1]⟩ : Shape).rowMajor.symm n 0).val
          ∧ b.val * 1 + ((⟨4, ![1, 16, 1, 1]⟩ : Shape).rowMajor.symm n 0).val - 0 < 32)
      | ⟨1, _⟩ => exact (by rw [p1]; omega : 15 ≤ t.val * 1 + ((⟨4, ![1, 16, 1, 1]⟩ : Shape).rowMajor.symm n 1).val
          ∧ t.val * 1 + ((⟨4, ![1, 16, 1, 1]⟩ : Shape).rowMajor.symm n 1).val - 15 < 16)
      | ⟨2, _⟩ => exact (by rw [p2]; omega : 0 ≤ h.val * 1 + ((⟨4, ![1, 16, 1, 1]⟩ : Shape).rowMajor.symm n 2).val
          ∧ h.val * 1 + ((⟨4, ![1, 16, 1, 1]⟩ : Shape).rowMajor.symm n 2).val - 0 < 4)
      | ⟨3, _⟩ => exact (by rw [p3]; omega : 0 ≤ d.val * 1 + ((⟨4, ![1, 16, 1, 1]⟩ : Shape).rowMajor.symm n 3).val
          ∧ d.val * 1 + ((⟨4, ![1, 16, 1, 1]⟩ : Shape).rowMajor.symm n 3).val - 0 < 128)
    case e =>
      refine congrArg x (funext fun a => Fin.ext ?_)
      match a with
      | ⟨0, _⟩ => exact (by rw [p0]; omega : b.val * 1 + ((⟨4, ![1, 16, 1, 1]⟩ : Shape).rowMajor.symm n 0).val - 0 = b.val)
      | ⟨1, _⟩ => exact (by rw [p1]; omega : t.val * 1 + ((⟨4, ![1, 16, 1, 1]⟩ : Shape).rowMajor.symm n 1).val - 15 = t.val + n.val - 15)
      | ⟨2, _⟩ => exact (by rw [p2]; omega : h.val * 1 + ((⟨4, ![1, 16, 1, 1]⟩ : Shape).rowMajor.symm n 2).val - 0 = h.val)
      | ⟨3, _⟩ => exact (by rw [p3]; omega : d.val * 1 + ((⟨4, ![1, 16, 1, 1]⟩ : Shape).rowMajor.symm n 3).val - 0 = d.val)
  · rw [dif_neg (show ¬15 ≤ t.val + n.val from w)]
    refine dif_neg fun k => w ?_
    have := (k ⟨1, by decide⟩).1
    change 15 ≤ t.val * 1 + ((⟨4, ![1, 16, 1, 1]⟩ : Shape).rowMajor.symm n 1).val at this
    rw [p1] at this
    omega

end Cert.Gla
end
-- ==== Proof.GlaDecay.lean ====
/-
  The log decay of a gate: two ways of writing it, and that it is never plus infinity.
-/
module

public import Idealize.ShloMosaic.Lib.Pointwise

@[expose] public section

noncomputable section

namespace Cert.Gla

open Idealize.ShloMosaic

/-- The literal sixteen. -/
theorem sixteen : Ideal.ofBits .f32 0x41800000#32 = ((16 : ℝ) : EReal) := by
  simp [Ideal.ofBits, Ideal.ieee]
  norm_cast
  norm_num

/-- The literal sixteenth. -/
theorem sixteenth : Ideal.ofBits .f32 0x3D800000#32 = (((16 : ℝ)⁻¹ : ℝ) : EReal) := by
  simp [Ideal.ofBits, Ideal.ieee]
  norm_cast
  norm_num

/-- A sixteenth of the logarithm of the logistic function. -/
def decay (x : EReal) : EReal := (min x 0 - Ideal.log1p (Ideal.exp (0 - max x (-x)))) * Ideal.ofBits .f32 0x3D800000#32

/-- The correction term is a real number. -/
theorem correction_real (x : EReal) : ∃ r : ℝ, Ideal.log1p (Ideal.exp (0 - max x (-x))) = r := by
  have one : Ideal.log1p (Ideal.exp ⊥) = ((0 : ℝ) : EReal) := by
    show Ideal.log (1 + 0) = _
    rw [add_zero]
    show (if (1 : ℝ) ≤ 0 then ⊥ else (Real.log 1 : EReal)) = _
    rw [if_neg (by norm_num), Real.log_one]
  induction x with
  | bot => exact ⟨0, by simpa using one⟩
  | top => exact ⟨0, by simpa using one⟩
  | coe x =>
    have e : (0 : EReal) - max (x : EReal) (-(x : EReal)) = ((0 - max x (-x) : ℝ) : EReal) := by
      rw [EReal.coe_sub, EReal.coe_strictMono.monotone.map_max, EReal.coe_neg, EReal.coe_zero]
    refine ⟨Real.log (1 + Real.exp (0 - max x (-x))), ?_⟩
    rw [e]
    show Ideal.log (((1 : ℝ) : EReal) + (Real.exp (0 - max x (-x)) : EReal)) = _
    rw [← EReal.coe_add]
    show (if 1 + Real.exp (0 - max x (-x)) ≤ 0 then ⊥ else _) = _
    rw [if_neg (by have := Real.exp_pos (0 - max x (-x)); linarith)]

/-- The log decay is not plus infinity. -/
theorem decay_ne_top (x : EReal) : decay x ≠ ⊤ := by
  unfold decay
  obtain ⟨r, hr⟩ := correction_real x
  rw [hr, sixteenth]
  induction x with
  | bot => simp [EReal.bot_mul_coe_of_pos]
  | top =>
    rw [min_eq_right le_top, ← EReal.coe_zero, ← EReal.coe_sub, ← EReal.coe_mul]
    exact EReal.coe_ne_top _
  | coe x =>
    rw [← EReal.coe_zero, ← EReal.coe_strictMono.monotone.map_min, ← EReal.coe_sub, ← EReal.coe_mul]
    exact EReal.coe_ne_top _

/-- The same by the softplus of the negated gate. -/
theorem decay_softplus (x : EReal) :
    Ideal.div (-if -x ≠ -x then -x else max (-x) 0 + Ideal.log1p (Ideal.exp (-max (-x) (- -x)))) (Ideal.ofBits .f32 0x41800000#32) = decay x := by
  rw [if_neg (by simp), neg_neg, max_comm (-x) x, ← zero_sub]
  unfold decay
  rw [← zero_sub (max x (-x))]
  obtain ⟨r, hr⟩ := correction_real x
  rw [hr, sixteenth, sixteen]
  unfold Ideal.div
  rw [if_neg (by norm_cast), ← EReal.coe_inv, zero_sub, EReal.neg_add (.inr (EReal.coe_ne_top r)) (.inr (EReal.coe_ne_bot r))]
  refine congrArg (fun y => (y - (r : EReal)) * _) ?_
  induction x with
  | bot => simp
  | top => simp
  | coe x =>
    rw [← EReal.coe_neg, ← EReal.coe_zero, ← EReal.coe_strictMono.monotone.map_max, ← EReal.coe_strictMono.monotone.map_min, ← EReal.coe_neg, ← min_neg_neg,
      neg_neg, neg_zero]

/-- A number split into itself and what is left over. -/
theorem split_add (g : EReal) (h : g ≠ ⊤) : g + (g - g) = g := by
  induction g with
  | bot => simp
  | top => exact absurd rfl h
  | coe g => norm_cast; simp

/-- The split is summed part by part, over the steps that a condition picks. -/
theorem split_sum (g : Fin 16 → EReal) (h : ∀ k, g k ≠ ⊤) (p : Fin 16 → Prop) [DecidablePred p] :
    (∑ k : Fin 16, if p k then g k else 0) + (∑ k : Fin 16, if p k then g k - g k else 0) = ∑ k : Fin 16, if p k then g k else 0 := by
  rw [← Finset.sum_add_distrib]
  refine Finset.sum_congr rfl fun k _ => ?_
  by_cases hp : p k
  · simp only [if_pos hp]; exact split_add _ (h k)
  · simp only [if_neg hp, add_zero]

end Cert.Gla
end
-- ==== Proof.GlaReading.lean ====
/-
  Gated linear attention over one block of sixteen steps, and its reference entry by entry.
-/
module

public import proofs.«01_k».proof.Proof.GlaScan
public import proofs.«01_k».proof.Proof.GlaDecay

@[expose] public section

set_option maxRecDepth 16384

noncomputable section

namespace Cert.Gla

open Idealize.ShloMosaic Idealize.ShloMosaic.TcCoe Idealize.ShloMosaic.Tactic Cert.Reference4Ideal.Gen Cert.Reference4Ideal Cert.Reference4Ideal.Read

/-- The scale of queries and keys. -/
def scale : EReal := Ideal.ofBits .f32 0x3DB504F3#32

section head

variable (q k : Fin 16 → Fin 128 → EReal) (v : Fin 16 → Fin 256 → EReal) (c : Fin 16 → Fin 128 → EReal) (S : Fin 128 → Fin 256 → EReal)

/-- The score of two steps, their decays taken from the middle of the block. -/
def score (t s : Fin 16) : EReal := ∑ d : Fin 128, q t d * scale * Ideal.exp (c t d - c 8 d) * (k s d * scale * Ideal.exp (c 8 d - c s d))

/-- A step's output: from the steps up to it, and from the state before the block. -/
def mix (t : Fin 16) (e : Fin 256) : EReal :=
  (∑ s : Fin 16, (if s ≤ t then score q k c t s else 0) * v s e) + ∑ d : Fin 128, q t d * scale * Ideal.exp (c t d) * S d e

/-- The state after the block. -/
def next (d : Fin 128) (e : Fin 256) : EReal :=
  Ideal.exp (c 15 d) * S d e + ∑ t : Fin 16, k t d * scale * Ideal.exp (c 15 d - c t d) * v t e

/-- A row normalized by its root mean square, with gain and gate. -/
def gated (o g : Fin 256 → EReal) (r : EReal) (e : Fin 256) : EReal :=
  o e * Ideal.rsqrt (Ideal.div (∑ j : Fin 256, o j * o j) (Ideal.ofBits .f32 0x43800000#32) + Ideal.ofBits .f32 0x358637BD#32) * g e
    * (r * Ideal.div 1 (1 + Ideal.exp (-r)))

end head

/-- A column of queries or keys: of a head, from an offset. -/
def narrow (o : ℕ) (ho : o + 512 ≤ 10240) (h : Fin 4) (d : Fin 128) : Fin 10240 := ⟨o + (h.val * 128 + d.val), by omega⟩

/-- A column of values or gates: of a head, from an offset. -/
def wide (o : ℕ) (ho : o + 1024 ≤ 10240) (h : Fin 4) (e : Fin 256) : Fin 10240 := ⟨o + (h.val * 256 + e.val), by omega⟩

/-- The row of a sample's step. -/
def row (b : Fin 32) (t : Fin 16) : Fin 512 := ⟨b.val * 16 + t.val, by omega⟩

/-- The decay's column of a head. -/
def decayCol (h : Fin 4) (d : Fin 128) : Fin 512 := ⟨h.val * 128 + d.val, by omega⟩

/-- The result's column of a head. -/
def outCol (h : Fin 4) (e : Fin 256) : Fin 1024 := ⟨h.val * 256 + e.val, by omega⟩

variable (x0 : FVec Ideal S512x10240 .f32) (x1 : FVec Ideal S512x128 .f32) (x2 : FVec Ideal S1x32x4x128x256 .f32) (x3 : FVec Ideal S1x16x512 .f32)
  (x4 : FVec Ideal S1x512 .f32) (x5 : FVec Ideal S1x256 .f32)

/-- The queries of a sample's head. -/
def qOf (b : Fin 32) (h : Fin 4) (t : Fin 16) (d : Fin 128) : EReal := x0 (ix2 (row b t) (narrow 3072 (by decide) h d))
/-- The keys of a sample's head. -/
def kOf (b : Fin 32) (h : Fin 4) (t : Fin 16) (d : Fin 128) : EReal := x0 (ix2 (row b t) (narrow 3584 (by decide) h d))
/-- The values of a sample's head. -/
def vOf (b : Fin 32) (h : Fin 4) (t : Fin 16) (e : Fin 256) : EReal := x0 (ix2 (row b t) (wide 4096 (by decide) h e))
/-- The output gates of a sample's head. -/
def rOf (b : Fin 32) (h : Fin 4) (t : Fin 16) (e : Fin 256) : EReal := x0 (ix2 (row b t) (wide 5120 (by decide) h e))
/-- The state of a sample's head before the block. -/
def sOf (b : Fin 32) (h : Fin 4) (d : Fin 128) (e : Fin 256) : EReal := x2 (ix5 0 b h d e)
/-- A step's decay gate, before the logarithm of the logistic function. -/
def gateOf (b : Fin 32) (h : Fin 4) (t : Fin 16) (d : Fin 128) : EReal :=
  (∑ j : Fin 16, x1 (ix2 (row b t) ⟨j.val, by omega⟩) * x3 (ix3 0 j (decayCol h d))) + x4 (ix2 0 (decayCol h d))
/-- The cumulative log decay of a sample's head. -/
def cOf (b : Fin 32) (h : Fin 4) (t : Fin 16) (d : Fin 128) : EReal := running (fun k => decay (gateOf x1 x3 x4 b h k d)) t

/-- The reference's cumulative log decay. -/
theorem cumulative_reads (b : Fin 32) (t : Fin 16) (h : Fin 4) (d : Fin 128) :
    val_main_v21 (F := Ideal) x1 x3 x4 (ix4 b t h d) = cOf x1 x3 x4 b h t d := by
  have g : ∀ k : Fin 16, gateOf x1 x3 x4 b h k d = val_main_v16 (F := Ideal) x1 x3 x4 (ix2 (row b k) (decayCol h d)) := fun k => by
    unfold gateOf row decayCol
    pointwise [val_main_v16, val_main_v15, val_main_v14, val_main_v13, val_main_v12, val_main_v11, val_main_v10]
  unfold cOf
  rw [cumulative_apply]
  refine congrArg (fun f => running f t) (funext fun k => ?_)
  rw [g, ← decay_softplus]
  unfold val_main_v20 val_main_v19 val_main_v18 val_main_v17 val_main_call0_v1 val_main_call0_call0_v11 val_main_call0_call0_v10 val_main_call0_call0_v9
    val_main_call0_call0_v8 val_main_call0_call0_v7 val_main_call0_call0_v6 val_main_call0_call0_v5 val_main_call0_call0_v4 val_main_call0_call0_v3
    val_main_call0_call0_v2 val_main_call0_call0_v1 val_main_call0_call0_v0 val_main_call0_v0 val_main_call0_call0_cst val_main_cst_1
  generalize val_main_v16 (F := Ideal) x1 x3 x4 = x
  unfold row decayCol
  pointwise
  rfl

/-- The order of two steps, read from their words. -/
theorem causal_word : ∀ t s : Fin 16,
    Scalar.select (IntOp.cmpi CmpIPredicate.sge (IntOp.addi (BitVec.ofNat 32 t.val) 0#32) (BitVec.ofNat 32 s.val)) 1#1 0#1 = if s ≤ t then 1#1 else 0#1 := by
  decide +kernel

/-- The reference's masked scores. -/
theorem score_reads (b : Fin 32) (h : Fin 4) (t s : Fin 16) :
    val_main_v34 (F := Ideal) x0 x1 x3 x4 (ix4 b h t s) = if s ≤ t then score (qOf x0 b h) (kOf x0 b h) (cOf x1 x3 x4 b h) t s else 0 := by
  have e : (fun (t : Fin 16) (d : Fin 128) => val_main_v21 (F := Ideal) x1 x3 x4 (ix4 b t h d)) = cOf x1 x3 x4 b h :=
    funext fun t => funext fun d => cumulative_reads x1 x3 x4 b t h d
  rw [← e]
  unfold val_main_v34 val_main_call3_v2 val_main_call3_v1 val_main_v33 val_main_call2_v5 val_main_call2_c_0 val_main_call2_v4 val_main_call2_v3
    val_main_call2_v2 val_main_call2_v1 val_main_call2_v0 val_main_call2_c val_main_call3_v0 val_main_v32 val_main_c val_main_cst_2 val_main_v31 val_main_v30
    val_main_v29 val_main_v28 val_main_v27 val_main_v26 val_main_v25 val_main_v24 val_main_v23 val_main_v22 val_main_v3 val_main_v7 val_main_v2 val_main_v1
    val_main_v0 val_main_v6 val_main_v5 val_main_v4 val_main_cst val_main_cst_0
  generalize val_main_v21 (F := Ideal) x1 x3 x4 = c
  pointwise
  rw [causal_word]
  unfold score qOf kOf row narrow scale
  by_cases w : s ≤ t
  · rw [if_pos w, if_pos w]; rfl
  · rw [if_neg w, if_neg w]; exact Ideal.ofBits_zero_f32

/-- The reference's outputs before the normalization. -/
theorem mix_reads (b : Fin 32) (h : Fin 4) (t : Fin 16) (e : Fin 256) :
    val_main_v43 (F := Ideal) x0 x1 x2 x3 x4 (ix4 b t h e)
      = mix (qOf x0 b h) (kOf x0 b h) (vOf x0 b h) (cOf x1 x3 x4 b h) (sOf x2 b h) t e := by
  unfold mix
  simp only [← score_reads, ← cumulative_reads]
  unfold val_main_v43 val_main_v42 val_main_v41 val_main_v40 val_main_v39 val_main_v38 val_main_v37 val_main_v36 val_main_v3 val_main_v9 val_main_v8
    val_main_v2 val_main_v1 val_main_v0 val_main_cst
  generalize val_main_v34 (F := Ideal) x0 x1 x3 x4 = a
  generalize val_main_v21 (F := Ideal) x1 x3 x4 = c
  pointwise
  exact congrArg₂ (· + ·) (Finset.sum_congr rfl fun s _ => mul_comm _ _) (Finset.sum_congr rfl fun d _ => mul_comm _ _)

/-- The reference's state after the block. -/
theorem next_reads (b : Fin 32) (h : Fin 4) (d : Fin 128) (e : Fin 256) :
    val_main_v55 (F := Ideal) x0 x1 x2 x3 x4 (ix4 b h d e) = next (kOf x0 b h) (vOf x0 b h) (cOf x1 x3 x4 b h) (sOf x2 b h) d e := by
  unfold next
  simp only [← cumulative_reads]
  unfold val_main_v55 val_main_v54 val_main_v53 val_main_v52 val_main_v51 val_main_v50 val_main_v49 val_main_v48 val_main_v47 val_main_v46 val_main_v45
    val_main_v44 val_main_v35 val_main_v9 val_main_v8 val_main_v7 val_main_v6 val_main_v5 val_main_v4 val_main_cst_0
  generalize val_main_v21 (F := Ideal) x1 x3 x4 = c
  pointwise
  rfl

/-- The reference's first result. -/
theorem gated_reads (b : Fin 32) (h : Fin 4) (t : Fin 16) (e : Fin 256) :
    val_main_v74 (F := Ideal) x0 x1 x2 x3 x4 x5 (ix2 (row b t) (outCol h e))
      = gated (mix (qOf x0 b h) (kOf x0 b h) (vOf x0 b h) (cOf x1 x3 x4 b h) (sOf x2 b h) t) (fun e => x5 (ix2 0 e)) (rOf x0 b h t e) e := by
  have o : mix (qOf x0 b h) (kOf x0 b h) (vOf x0 b h) (cOf x1 x3 x4 b h) (sOf x2 b h) t
      = fun e => val_main_v43 (F := Ideal) x0 x1 x2 x3 x4 (ix4 b t h e) := funext fun e => (mix_reads x0 x1 x2 x3 x4 b h t e).symm
  rw [o]
  unfold val_main_v74 val_main_v73 val_main_v72 val_main_call4_v5 val_main_call4_v4 val_main_call4_v3 val_main_call4_v2 val_main_call4_v1 val_main_call4_v0
    val_main_v71 val_main_v70 val_main_v69 val_main_v68 val_main_v67 val_main_v66 val_main_v65 val_main_v64 val_main_v63 val_main_v62 val_main_v61 val_main_v60
    val_main_v59 val_main_v58 val_main_v57 val_main_v56 val_main_cst_3 val_main_cst_4 val_main_cst_5 val_main_call4_cst val_main_call4_cst_0
  generalize val_main_v43 (F := Ideal) x0 x1 x2 x3 x4 = o
  unfold gated row outCol
  pointwise
  rfl

end Cert.Gla
end
-- ==== Proof.GlaBlock.lean ====
/-
  What one grid point of the gated linear attention leaves in its two output blocks.
-/
module

public import proofs.«01_k».proof.Proof.Gen.Kernel4Ideal.Value
public import proofs.«01_k».proof.Proof.GlaReading
public import Idealize.ShloMosaic.Lib.Pipeline.ValueKit.Acc

@[expose] public section

set_option maxRecDepth 16384

noncomputable section

namespace Cert.Kernel4Ideal.Gla

open Idealize.ShloMosaic Idealize.ShloMosaic.TcCoe Idealize.ShloMosaic.Tactic Cert.Kernel4Ideal.Gen Cert.Kernel4Ideal Cert.Kernel4Ideal.Facts
open Cert.Gla

/-- The order of two steps, read from their words. -/
theorem causal_word (t s : Fin 16) (x : EReal) :
    Scalar.select (IntOp.cmpi CmpIPredicate.sle (BitVec.ofNat 32 s.val) (BitVec.ofNat 32 t.val)) x 0 = if s ≤ t then x else 0 := by
  have e : ∀ t s : Fin 16, IntOp.cmpi CmpIPredicate.sle (BitVec.ofNat 32 s.val) (BitVec.ofNat 32 t.val) = if s ≤ t then 1#1 else 0#1 := by decide +kernel
  rw [e]
  by_cases w : s ≤ t
  · rw [if_pos w, if_pos w]; rfl
  · rw [if_neg w, if_neg w]; rfl

/-- The block of log decays. -/
theorem decays_apply (a : FVec Ideal S16x128 .f32) (w : FVec Ideal S128x512 .bf16) (b : FVec Ideal S1x512 .f32) (t : Fin 16) (j : Fin 512) :
    k0_pay3 (F := Ideal) a w b (ix2 t j) = decay ((∑ i : Fin 128, a (ix2 t i) * w (ix2 i j)) + b (ix2 0 j)) := by
  unfold decay k0_pay3
  pointwise
  rfl

section head

variable (q k g : FVec Ideal S16x128 .f32) (v : FVec Ideal S16x256 .f32) (s : FVec Ideal S1x1x128x256 .f32)

/-- The cumulative log decays of a head. -/
def cum : FVec Ideal S16x128 .f32 := k0_pay18 (k0_pay2 (F := Ideal)) g

/-- The total decay of a head. -/
def total : FVec Ideal S128x256 .f32 := k0_pay60 (k0_pay24 (k0_pay9 (F := Ideal)) (k0_pay10 g) (k0_pay11 g))

/-- A head's outputs. -/
def out : FVec Ideal S16x256 .f32 := k0_pay64 (F := Ideal) k0_pay1 (k0_pay30 q k (cum g)) (k0_pay31 q (cum g)) (k0_pay33 v) s

/-- A head's state. -/
def state : FVec Ideal S1x1x128x256 .f32 := k0_pay72 (F := Ideal) (k0_pay68 (k0_pay32 k (cum g)) (k0_pay33 v) (total g) s)

/-- The products with the triangle of ones are the running sums. -/
theorem cum_apply (hg : ∀ i, g i ≠ ⊤) (t : Fin 16) (d : Fin 128) : cum g (ix2 t d) = running (fun k => g (ix2 k d)) t := by
  unfold running
  rw [← split_sum (fun k => g (ix2 k d)) (fun k => hg _) (fun k => k ≤ t)]
  unfold cum k0_pay18 k0_pay2 k0_pay1 k0_pay10 k0_pay11
  pointwise
  simp only [causal_word]
  rfl

/-- The products with ones are the last running sum. -/
theorem total_apply (hg : ∀ i, g i ≠ ⊤) (d : Fin 128) (e : Fin 256) : total g (ix2 d e) = Ideal.exp (running (fun k => g (ix2 k d)) 15) := by
  have r : running (fun k => g (ix2 k d)) 15 = (∑ k : Fin 16, g (ix2 k d)) + ∑ k : Fin 16, (g (ix2 k d) - g (ix2 k d)) := by
    have h := split_sum (fun k => g (ix2 k d)) (fun k => hg _) (fun k => k ≤ 15)
    have l : ∀ k : Fin 16, k ≤ 15 := by decide
    unfold running
    simp only [l, if_true] at h ⊢
    exact h.symm
  rw [r]
  unfold total k0_pay60 k0_pay24 k0_pay9 k0_pay10 k0_pay11
  pointwise
  exact ite_self _

/-- A head's outputs by entries. -/
theorem out_apply (hg : ∀ i, g i ≠ ⊤) (t : Fin 16) (e : Fin 256) :
    out q k g v s (ix2 t e) = mix (fun t d => q (ix2 t d)) (fun t d => k (ix2 t d)) (fun t e => v (ix2 t e)) (fun t d => running (fun k => g (ix2 k d)) t)
      (fun d e => s (ix4 0 0 d e)) t e := by
  unfold mix score
  simp only [← cum_apply g hg]
  unfold out k0_pay64 k0_pay30 k0_pay31 k0_pay33 k0_pay28 k0_pay29 k0_pay1
  generalize cum g = c
  pointwise
  simp only [causal_word, ite_mul, zero_mul]
  rfl

/-- A head's state by entries. -/
theorem state_apply (hg : ∀ i, g i ≠ ⊤) (d : Fin 128) (e : Fin 256) :
    state k g v s (ix4 0 0 d e) = next (fun t d => k (ix2 t d)) (fun t e => v (ix2 t e)) (fun t d => running (fun k => g (ix2 k d)) t)
      (fun d e => s (ix4 0 0 d e)) d e := by
  unfold next
  rw [← total_apply g hg d e]
  simp only [← cum_apply g hg]
  unfold state k0_pay72 k0_pay68 k0_pay32 k0_pay33 k0_pay29
  generalize cum g = c
  generalize total g = w
  pointwise
  rfl

/-- The normalization of a head's outputs by entries. -/
theorem gated_apply (o : FVec Ideal S16x256 .f32) (n : FVec Ideal S1x256 .f32) (r : FVec Ideal S16x256 .f32) (t : Fin 16) (e : Fin 256) :
    k0_pay73 (F := Ideal) (k0_pay4 n) o r (ix2 t e) = gated (fun e => o (ix2 t e)) (fun e => n (ix2 0 e)) (r (ix2 t e)) e := by
  unfold gated k0_pay73 k0_pay4
  pointwise
  simp only [zero_sub]

end head

/-- A head's columns of queries, keys or decays. -/
def part (x : FVec Ideal S16x512 .f32) (h : Fin 4) : FVec Ideal S16x128 .f32 := fun i => x (ix2 (i 0) (decayCol h (i 1)))

/-- A head's columns of values or gates. -/
def half (x : FVec Ideal S16x1024 .f32) (h : Fin 4) : FVec Ideal S16x256 .f32 := fun i => x (ix2 (i 0) (outCol h (i 1)))

/-- A head's state. -/
def slab (x : FVec Ideal S1x4x128x256 .f32) (h : Fin 4) : FVec Ideal S1x1x128x256 .f32 := fun i => x (ix4 0 h (i 2) (i 3))

/-- A load of a head's narrow columns. -/
theorem ld_part (x : FVec Ideal S16x512 .f32) (h : Fin 4) (o : ℕ) (ho : o = h.val * 128) (inb) :
    View.ld (Val := Elt Ideal) (e' := .f32) x (Rect.unit (s := S16x512) ![0, o] S16x128.size inb) = part x h := by
  subst ho
  refine funext fun i => congrArg x (funext fun a => Fin.ext ?_)
  match a with
  | ⟨0, _⟩ => show 0 + 1 * (i 0).val = (i 0).val; omega
  | ⟨1, _⟩ => show h.val * 128 + 1 * (i 1).val = h.val * 128 + (i 1).val; omega

/-- A load of a head's wide columns. -/
theorem ld_half (x : FVec Ideal S16x1024 .f32) (h : Fin 4) (o : ℕ) (ho : o = h.val * 256) (inb) :
    View.ld (Val := Elt Ideal) (e' := .f32) x (Rect.unit (s := S16x1024) ![0, o] S16x256.size inb) = half x h := by
  subst ho
  refine funext fun i => congrArg x (funext fun a => Fin.ext ?_)
  match a with
  | ⟨0, _⟩ => show 0 + 1 * (i 0).val = (i 0).val; omega
  | ⟨1, _⟩ => show h.val * 256 + 1 * (i 1).val = h.val * 256 + (i 1).val; omega

/-- A load of a head's state. -/
theorem ld_slab (x : FVec Ideal S1x4x128x256 .f32) (h : Fin 4) (o : ℕ) (ho : o = h.val) (inb) :
    View.ld (Val := Elt Ideal) (e' := .f32) x (Rect.unit (s := S1x4x128x256) ![0, o, 0, 0] S1x1x128x256.size inb) = slab x h := by
  subst ho
  refine funext fun i => congrArg x (funext fun a => Fin.ext ?_)
  have h0 : (i 0).val < 1 := (i 0).isLt
  have h1 : (i 1).val < 1 := (i 1).isLt
  match a with
  | ⟨0, _⟩ => show 0 + 1 * (i 0).val = 0; omega
  | ⟨1, _⟩ => show h.val + 1 * (i 1).val = h.val; omega
  | ⟨2, _⟩ => show 0 + 1 * (i 2).val = (i 2).val; omega
  | ⟨3, _⟩ => show 0 + 1 * (i 3).val = (i 3).val; omega

/-- A head's columns cut from the decays. -/
theorem slice_part (x : FVec Ideal S16x512 .f32) (h : Fin 4) (o : ℕ) (ho : o = h.val * 128) (hs : S16x512.Slices ![0, o] S16x128) :
    extractStridedSlice S16x128 ![0, o] x hs = part x h := by
  subst ho
  refine funext fun i => ?_
  exact extractStridedSlice_apply _ x hs i (ix2 (i 0) (decayCol h (i 1))) fun a => match a with
    | ⟨0, _⟩ => by show (i 0).val = 0 + (i 0).val; omega
    | ⟨1, _⟩ => rfl

/-- The last store at a place of its own. -/
theorem canon_at {s : Shape} {e : EltTy} (r : Rect s) (u : r.shape.Idx → Elt Ideal e) (L : List (View.Piece (Elt Ideal) s e)) (y : s.Idx) (x : r.shape.Idx)
    (h : r.emb x = y) : View.canon (⟨r, u⟩ :: L) y = u x := by
  subst h
  exact View.canon_cons_emb r u L x

/-- The columns of one head that four stores leave. -/
theorem columns_at (h : Fin 4) (w : Fin 4 → FVec Ideal S16x256 .bf16) (t : Fin 16) (e : Fin 256) :
    View.canon (Val := Elt Ideal) (e := .bf16) [⟨r0_11, w 3⟩, ⟨r0_9, w 2⟩, ⟨r0_7, w 1⟩, ⟨r0_5, w 0⟩] (ix2 t (outCol h e)) = w h (ix2 t e) := by
  have on : ∀ (o : ℕ) (inb) (u : FVec Ideal S16x256 .bf16) (L : List (View.Piece (Elt Ideal) S16x1024 .bf16)), o = h.val * 256 →
      View.canon (⟨Rect.unit (s := S16x1024) ![0, o] S16x256.size inb, u⟩ :: L) (ix2 t (outCol h e)) = u (ix2 t e) := fun o inb u L ho => by
    subst ho
    refine canon_at (s := S16x1024) (e := .bf16) (Rect.unit (s := S16x1024) ![0, h.val * 256] S16x256.size inb) u L _ (ix2 t e : S16x256.Idx) (funext fun a => Fin.ext ?_)
    match a with
    | ⟨0, _⟩ => show 0 + 1 * t.val = t.val; omega
    | ⟨1, _⟩ => show h.val * 256 + 1 * e.val = h.val * 256 + e.val; omega
  have off : ∀ (o : ℕ) (inb) (u : FVec Ideal S16x256 .bf16) (L : List (View.Piece (Elt Ideal) S16x1024 .bf16)), h.val * 256 + 256 ≤ o →
      View.canon (⟨Rect.unit (s := S16x1024) ![0, o] S16x256.size inb, u⟩ :: L) (ix2 t (outCol h e)) = View.canon L (ix2 t (outCol h e)) :=
    fun o inb u L ho => View.canon_cons_of_not_mem _ L fun hm => by
      obtain ⟨x, hx⟩ := LoadRect.exists_idx_of_mem (Rect.toLoadRect _) hm
      have := congrArg (fun i : S16x1024.Idx => (i 1).val) hx
      change o + 1 * (x 1).val = h.val * 256 + e.val at this
      have := e.isLt
      omega
  match h with
  | 3 => exact on _ _ _ _ rfl
  | 2 => exact (off _ _ _ _ (by decide)).trans (on _ _ _ _ rfl)
  | 1 => exact ((off _ _ _ _ (by decide)).trans (off _ _ _ _ (by decide))).trans (on _ _ _ _ rfl)
  | 0 => exact (((off _ _ _ _ (by decide)).trans (off _ _ _ _ (by decide))).trans (off _ _ _ _ (by decide))).trans (on _ _ _ _ rfl)

/-- The state of one head that four stores leave. -/
theorem states_at (h : Fin 4) (w : Fin 4 → FVec Ideal S1x1x128x256 .f32) (d : Fin 128) (e : Fin 256) :
    View.canon (Val := Elt Ideal) (e := .f32) [⟨r0_15, w 3⟩, ⟨r0_14, w 2⟩, ⟨r0_13, w 1⟩, ⟨r0_12, w 0⟩] (ix4 0 h d e) = w h (ix4 0 0 d e) := by
  have on : ∀ (o : ℕ) (inb) (u : FVec Ideal S1x1x128x256 .f32) (L : List (View.Piece (Elt Ideal) S1x4x128x256 .f32)), o = h.val →
      View.canon (⟨Rect.unit (s := S1x4x128x256) ![0, o, 0, 0] S1x1x128x256.size inb, u⟩ :: L) (ix4 0 h d e) = u (ix4 0 0 d e) := by
    intro o inb u L ho
    subst ho
    refine canon_at (s := S1x4x128x256) (e := .f32) (Rect.unit (s := S1x4x128x256) ![0, h.val, 0, 0] S1x1x128x256.size inb) u L _ (ix4 0 0 d e : S1x1x128x256.Idx) (funext fun a => Fin.ext ?_)
    match a with
    | ⟨0, _⟩ => rfl
    | ⟨1, _⟩ => rfl
    | ⟨2, _⟩ => show 0 + 1 * d.val = d.val; omega
    | ⟨3, _⟩ => show 0 + 1 * e.val = e.val; omega
  have off : ∀ (o : ℕ) (inb) (u : FVec Ideal S1x1x128x256 .f32) (L : List (View.Piece (Elt Ideal) S1x4x128x256 .f32)), h.val < o →
      View.canon (⟨Rect.unit (s := S1x4x128x256) ![0, o, 0, 0] S1x1x128x256.size inb, u⟩ :: L) (ix4 0 h d e) = View.canon L (ix4 0 h d e) :=
    fun o inb u L ho => View.canon_cons_of_not_mem _ L fun hm => by
      obtain ⟨x, hx⟩ := LoadRect.exists_idx_of_mem (Rect.toLoadRect _) hm
      have := congrArg (fun i : S1x4x128x256.Idx => (i 1).val) hx
      change o + 1 * (x 1).val = h.val at this
      omega
  match h with
  | 3 => exact on _ _ _ _ rfl
  | 2 => exact (off _ _ _ _ (by decide)).trans (on _ _ _ _ rfl)
  | 1 => exact ((off _ _ _ _ (by decide)).trans (off _ _ _ _ (by decide))).trans (on _ _ _ _ rfl)
  | 0 => exact (((off _ _ _ _ (by decide)).trans (off _ _ _ _ (by decide))).trans (off _ _ _ _ (by decide))).trans (on _ _ _ _ rfl)

section point

variable (x0 : Vec Ideal S16x512 .f32) (x1 : Vec Ideal S16x512 .f32) (x2 : Vec Ideal S16x1024 .f32) (x3 : Vec Ideal S16x1024 .f32) (x4 : Vec Ideal S16x128 .f32)
  (x5 : Vec Ideal S1x4x128x256 .f32) (x6 : Vec Ideal S128x512 .bf16) (x7 : Vec Ideal S1x512 .f32) (x8 : Vec Ideal S1x256 .f32)

/-- The gate of a point's step. -/
def pointGate (h : Fin 4) (t : Fin 16) (d : Fin 128) : EReal := (∑ i : Fin 128, x4 (ix2 t i) * x6 (ix2 i (decayCol h d))) + x7 (ix2 0 (decayCol h d))

/-- The cumulative log decay of a point's head. -/
def pointCum (h : Fin 4) (t : Fin 16) (d : Fin 128) : EReal := running (fun k => decay (pointGate x4 x6 x7 h k d)) t

/-- A head's block of the first output. -/
def headOut (h : Fin 4) : FVec Ideal S16x256 .bf16 :=
  k0_pay73 (F := Ideal) (k0_pay4 x8) (out (part x0 h) (part x1 h) (part (k0_pay3 (F := Ideal) x4 x6 x7) h) (half x2 h) (slab x5 h)) (half x3 h)

/-- A head's block of the second output. -/
def headState (h : Fin 4) : FVec Ideal S1x1x128x256 .f32 :=
  state (part x1 h) (part (k0_pay3 (F := Ideal) x4 x6 x7) h) (half x2 h) (slab x5 h)

/-- The first output block is four heads side by side. -/
theorem out_heads : out0_9 (F := Ideal) x0 x1 x2 x3 x4 x5 x6 x7 x8
    = View.canon (Val := Elt Ideal) [⟨r0_11, headOut x0 x1 x2 x3 x4 x5 x6 x7 x8 3⟩, ⟨r0_9, headOut x0 x1 x2 x3 x4 x5 x6 x7 x8 2⟩,
      ⟨r0_7, headOut x0 x1 x2 x3 x4 x5 x6 x7 x8 1⟩, ⟨r0_5, headOut x0 x1 x2 x3 x4 x5 x6 x7 x8 0⟩] := by
  unfold headOut
  rw [← slice_part (k0_pay3 (F := Ideal) x4 x6 x7) 0 0 rfl slices_S16x512_o0_0_S16x128, ← slice_part (k0_pay3 (F := Ideal) x4 x6 x7) 1 128 rfl slices_S16x512_o0_128_S16x128,
    ← slice_part (k0_pay3 (F := Ideal) x4 x6 x7) 2 256 rfl slices_S16x512_o0_256_S16x128, ← slice_part (k0_pay3 (F := Ideal) x4 x6 x7) 3 384 rfl slices_S16x512_o0_384_S16x128]
  unfold_out out0_9
  simp (disch := decide) only [View.ld_unit_lit']
  simp only [ld_part x0 0 0 rfl, ld_part x0 1 128 rfl, ld_part x0 2 256 rfl, ld_part x0 3 384 rfl,
    ld_part x1 0 0 rfl, ld_part x1 1 128 rfl, ld_part x1 2 256 rfl, ld_part x1 3 384 rfl,
    ld_half x2 0 0 rfl, ld_half x2 1 256 rfl, ld_half x2 2 512 rfl, ld_half x2 3 768 rfl,
    ld_half x3 0 0 rfl, ld_half x3 1 256 rfl, ld_half x3 2 512 rfl, ld_half x3 3 768 rfl,
    ld_slab x5 0 0 rfl, ld_slab x5 1 1 rfl, ld_slab x5 2 2 rfl, ld_slab x5 3 3 rfl]
  rfl

/-- The second output block is four heads on top of one another. -/
theorem state_heads : out0_10 (F := Ideal) x0 x1 x2 x3 x4 x5 x6 x7 x8
    = View.canon (Val := Elt Ideal) [⟨r0_15, headState x1 x2 x4 x5 x6 x7 3⟩, ⟨r0_14, headState x1 x2 x4 x5 x6 x7 2⟩,
      ⟨r0_13, headState x1 x2 x4 x5 x6 x7 1⟩, ⟨r0_12, headState x1 x2 x4 x5 x6 x7 0⟩] := by
  unfold headState
  rw [← slice_part (k0_pay3 (F := Ideal) x4 x6 x7) 0 0 rfl slices_S16x512_o0_0_S16x128, ← slice_part (k0_pay3 (F := Ideal) x4 x6 x7) 1 128 rfl slices_S16x512_o0_128_S16x128,
    ← slice_part (k0_pay3 (F := Ideal) x4 x6 x7) 2 256 rfl slices_S16x512_o0_256_S16x128, ← slice_part (k0_pay3 (F := Ideal) x4 x6 x7) 3 384 rfl slices_S16x512_o0_384_S16x128]
  unfold_out out0_10
  simp (disch := decide) only [View.ld_unit_lit']
  simp only [ld_part x1 0 0 rfl, ld_part x1 1 128 rfl, ld_part x1 2 256 rfl, ld_part x1 3 384 rfl,
    ld_half x2 0 0 rfl, ld_half x2 1 256 rfl, ld_half x2 2 512 rfl, ld_half x2 3 768 rfl,
    ld_slab x5 0 0 rfl, ld_slab x5 1 1 rfl, ld_slab x5 2 2 rfl, ld_slab x5 3 3 rfl]
  rfl

/-- A head's decays are nowhere plus infinity. -/
theorem part_ne_top (h : Fin 4) (i : S16x128.Idx) : part (k0_pay3 (F := Ideal) x4 x6 x7) h i ≠ ⊤ := by
  have i0 : part (k0_pay3 (F := Ideal) x4 x6 x7) h i = decay (pointGate x4 x6 x7 h (i 0) (i 1)) := decays_apply _ _ _ (i 0) (decayCol h (i 1))
  rw [i0]
  exact decay_ne_top _

/-- The first output block by entries. -/
theorem out_entry (h : Fin 4) (t : Fin 16) (e : Fin 256) :
    out0_9 (F := Ideal) x0 x1 x2 x3 x4 x5 x6 x7 x8 (ix2 t (outCol h e))
      = gated (mix (fun t d => x0 (ix2 t (decayCol h d))) (fun t d => x1 (ix2 t (decayCol h d))) (fun t e => x2 (ix2 t (outCol h e))) (pointCum x4 x6 x7 h)
          (fun d e => x5 (ix4 0 h d e)) t) (fun e => x8 (ix2 0 e)) (x3 (ix2 t (outCol h e))) e := by
  rw [out_heads, columns_at h (headOut x0 x1 x2 x3 x4 x5 x6 x7 x8)]
  unfold headOut
  rw [gated_apply, funext (out_apply _ _ _ _ _ (part_ne_top x4 x6 x7 h) t)]
  unfold pointCum pointGate
  simp only [← decays_apply]
  rfl

/-- The second output block by entries. -/
theorem state_entry (h : Fin 4) (d : Fin 128) (e : Fin 256) :
    out0_10 (F := Ideal) x0 x1 x2 x3 x4 x5 x6 x7 x8 (ix4 0 h d e)
      = next (fun t d => x1 (ix2 t (decayCol h d))) (fun t e => x2 (ix2 t (outCol h e))) (pointCum x4 x6 x7 h) (fun d e => x5 (ix4 0 h d e)) d e := by
  rw [state_heads, states_at h (headState x1 x2 x4 x5 x6 x7)]
  unfold headState
  rw [state_apply _ _ _ _ (part_ne_top x4 x6 x7 h)]
  unfold pointCum pointGate
  simp only [← decays_apply]
  rfl

end point

end Cert.Kernel4Ideal.Gla
end
-- ==== Proof.GlaEquation.lean ====
/-
  The sample's gated linear attention is its reference's.
-/
module

public import proofs.«01_k».proof.Proof.GlaBlock
public import Idealize.ShloMosaic.Lib.Pipeline.ValueKit.Point
public import Idealize.ShloMosaic.Lib.StableHlo.ReadAt

@[expose] public section

set_option maxRecDepth 16384

noncomputable section

namespace Cert.Kernel4Ideal.Gla

open Idealize.ShloMosaic Idealize.ShloMosaic.TcCoe Idealize.ShloMosaic.Tactic Cert.Kernel4Ideal.Gen Cert.Kernel4Ideal Cert.Kernel4Ideal.Facts
open Cert.Gla

variable (m : (ℓ : Loc nD τ sig) → Buf (Elt Ideal) ℓ)

/-- The input projection. -/
abbrev zArg (c : Dev nD) : FVec Ideal S512x10240 .f32 := m ((c : Thread nD τ).loc main_arg0)
/-- The narrow columns of the input projection. -/
abbrev lowArg (c : Dev nD) : FVec Ideal S512x128 .f32 := m ((c : Thread nD τ).loc main_arg1)
/-- The states. -/
abbrev stateArg (c : Dev nD) : FVec Ideal S1x32x4x128x256 .f32 := m ((c : Thread nD τ).loc main_arg2)
/-- The weights of the decay. -/
abbrev upArg (c : Dev nD) : FVec Ideal S1x16x512 .f32 := m ((c : Thread nD τ).loc main_arg3)
/-- The bias of the decay. -/
abbrev biasArg (c : Dev nD) : FVec Ideal S1x512 .f32 := m ((c : Thread nD τ).loc main_arg4)
/-- The gain. -/
abbrev gainArg (c : Dev nD) : FVec Ideal S1x256 .f32 := m ((c : Thread nD τ).loc main_arg5)

/-- The weights of the decay, with zeros below. -/
def upWeight (c : Dev nD) (i : Fin 128) (j : Fin 512) : EReal :=
  if h : i.val < 16 then upArg m c (ix3 0 ⟨i.val, h⟩ j) else 0

/-- The padded weights. -/
theorem V_up (c : Dev nD) (i : Fin 128) (j : Fin 512) : (V m c main_v2 : FVec Ideal S128x512 .bf16) (ix2 i j) = upWeight m c i j := by
  unfold upWeight V
  after_reads_at
  split
  · rfl
  · exact Cert.Modulate.zero_word

/-- The zeros below the weights take nothing from the narrow columns' products. -/
theorem padded_sum (c : Dev nD) (f : Fin 128 → EReal) (j : Fin 512) : ∑ i : Fin 128, f i * upWeight m c i j = ∑ i : Fin 16, f ⟨i.val, by omega⟩ * upArg m c (ix3 0 i j) := by
  show ∑ i : Fin (16 + 112), _ = _
  rw [Fin.sum_univ_add]
  have z : ∑ i : Fin 112, f (Fin.natAdd 16 i) * upWeight m c (Fin.natAdd 16 i) j = 0 := Finset.sum_eq_zero fun i _ => by
    have u : upWeight m c (Fin.natAdd 16 i) j = 0 := dif_neg (by show ¬16 + i.val < 16; omega)
    rw [u, mul_zero]
  refine (congrArg (_ + ·) z).trans ((add_zero _).trans (Finset.sum_congr rfl fun i _ => ?_))
  have u : upWeight m c (Fin.castAdd 112 i) j = upArg m c (ix3 0 i j) := dif_pos i.isLt
  exact congrArg (f _ * ·) u

/-- The states without their leading axis. -/
theorem V_state (c : Dev nD) (b : Fin 32) (h : Fin 4) (d : Fin 128) (e : Fin 256) :
    (V m c main_v3 : FVec Ideal S32x4x128x256 .f32) (ix4 b h d e) = stateArg m c (ix5 0 b h d e) := by
  unfold V
  after_reads_at

/-- The bias as a row. -/
theorem V_bias (c : Dev nD) (j : Fin 512) : (V m c main_v5 : FVec Ideal S1x512 .f32) (ix2 0 j) = biasArg m c (ix2 0 j) := by
  unfold V
  after_reads_at

/-- The gain as a row. -/
theorem V_gain (c : Dev nD) (e : Fin 256) : (V m c main_v7 : FVec Ideal S1x256 .f32) (ix2 0 e) = gainArg m c (ix2 0 e) := by
  unfold V
  after_reads_at

/-- The block of queries that a grid point reads. -/
theorem index0 : ∀ t : Fin cfg0.N, win0_0.index t = ![t.val, 6] := (by decide +kernel : ∀ t : Fin grid0.N, _)
/-- The block of keys. -/
theorem index1 : ∀ t : Fin cfg0.N, win0_1.index t = ![t.val, 7] := (by decide +kernel : ∀ t : Fin grid0.N, _)
/-- The block of values. -/
theorem index2 : ∀ t : Fin cfg0.N, win0_2.index t = ![t.val, 4] := (by decide +kernel : ∀ t : Fin grid0.N, _)
/-- The block of output gates. -/
theorem index3 : ∀ t : Fin cfg0.N, win0_3.index t = ![t.val, 5] := (by decide +kernel : ∀ t : Fin grid0.N, _)
/-- The block of narrow columns. -/
theorem index4 : ∀ t : Fin cfg0.N, win0_4.index t = ![t.val, 0] := (by decide +kernel : ∀ t : Fin grid0.N, _)
/-- The block of states. -/
theorem index5 : ∀ t : Fin cfg0.N, win0_5.index t = ![t.val, 0, 0, 0] := (by decide +kernel : ∀ t : Fin grid0.N, _)
/-- The block of the decay's weights. -/
theorem index6 : ∀ t : Fin cfg0.N, win0_6.index t = ![0, 0] := (by decide +kernel : ∀ t : Fin grid0.N, _)
/-- The block of the decay's bias. -/
theorem index7 : ∀ t : Fin cfg0.N, win0_7.index t = ![0, 0] := (by decide +kernel : ∀ t : Fin grid0.N, _)
/-- The block of the gain. -/
theorem index8 : ∀ t : Fin cfg0.N, win0_8.index t = ![0, 0] := (by decide +kernel : ∀ t : Fin grid0.N, _)
/-- The block of the first result. -/
theorem index9 : ∀ t : Fin cfg0.N, win0_9.index t = ![t.val, 0] := (by decide +kernel : ∀ t : Fin grid0.N, _)
/-- The block of the second result. -/
theorem index10 : ∀ t : Fin cfg0.N, win0_10.index t = ![t.val, 0, 0, 0] := (by decide +kernel : ∀ t : Fin grid0.N, _)

section blocks

variable (c : Dev nD) (t : Fin cfg0.N) (b : Fin 32) (hb : b.val = t.val) (h : Fin 4)
include hb

/-- A read of the queries' block. -/
theorem q_apply (a : Fin 16) (d : Fin 128) : (iblk m c 0 t : FVec Ideal S16x512 .f32) (ix2 a (decayCol h d)) = qOf (zArg m c) b h a d := by
  rw [← show (V m c main_arg0 : FVec Ideal S512x10240 .f32) = zArg m c from V_main_arg0 m c]
  unfold qOf decayCol row narrow
  blk_ext! [iblk, index0 t]

/-- A read of the keys' block. -/
theorem k_apply (a : Fin 16) (d : Fin 128) : (iblk m c 1 t : FVec Ideal S16x512 .f32) (ix2 a (decayCol h d)) = kOf (zArg m c) b h a d := by
  rw [← show (V m c main_arg0 : FVec Ideal S512x10240 .f32) = zArg m c from V_main_arg0 m c]
  unfold kOf decayCol row narrow
  blk_ext! [iblk, index1 t]

/-- A read of the values' block. -/
theorem v_apply (a : Fin 16) (e : Fin 256) : (iblk m c 2 t : FVec Ideal S16x1024 .f32) (ix2 a (outCol h e)) = vOf (zArg m c) b h a e := by
  rw [← show (V m c main_arg0 : FVec Ideal S512x10240 .f32) = zArg m c from V_main_arg0 m c]
  unfold vOf outCol row wide
  blk_ext! [iblk, index2 t]

/-- A read of the output gates' block. -/
theorem r_apply (a : Fin 16) (e : Fin 256) : (iblk m c 3 t : FVec Ideal S16x1024 .f32) (ix2 a (outCol h e)) = rOf (zArg m c) b h a e := by
  rw [← show (V m c main_arg0 : FVec Ideal S512x10240 .f32) = zArg m c from V_main_arg0 m c]
  unfold rOf outCol row wide
  blk_ext! [iblk, index3 t]

omit h in
/-- A read of the narrow columns' block. -/
theorem low_apply (a : Fin 16) (i : Fin 128) : (iblk m c 4 t : FVec Ideal S16x128 .f32) (ix2 a i) = lowArg m c (ix2 (row b a) i) := by
  rw [← show (V m c main_arg1 : FVec Ideal S512x128 .f32) = lowArg m c from V_main_arg1 m c]
  unfold row
  blk_ext! [iblk, index4 t]

/-- A read of the states' block. -/
theorem s_apply (d : Fin 128) (e : Fin 256) : (iblk m c 5 t : FVec Ideal S1x4x128x256 .f32) (ix4 0 h d e) = sOf (stateArg m c) b h d e := by
  unfold sOf
  rw [← V_state]
  blk_ext! [iblk, index5 t]

omit hb

/-- A read of the decay's weights. -/
theorem up_apply (i : Fin 128) (j : Fin 512) : (iblk m c 6 t : FVec Ideal S128x512 .bf16) (ix2 i j) = upWeight m c i j := by
  rw [← V_up]
  blk_ext! [iblk, index6 t]

/-- A read of the decay's bias. -/
theorem bias_apply (j : Fin 512) : (iblk m c 7 t : FVec Ideal S1x512 .f32) (ix2 0 j) = biasArg m c (ix2 0 j) := by
  rw [← V_bias]
  blk_ext! [iblk, index7 t]

/-- A read of the gain. -/
theorem gain_apply (e : Fin 256) : (iblk m c 8 t : FVec Ideal S1x256 .f32) (ix2 0 e) = gainArg m c (ix2 0 e) := by
  rw [← V_gain]
  blk_ext! [iblk, index8 t]

include hb

/-- A point's cumulative log decay is its sample's. -/
theorem cum_eq (h : Fin 4) : pointCum (iblk m c 4 t) (iblk m c 6 t) (iblk m c 7 t) h = cOf (lowArg m c) (upArg m c) (biasArg m c) b h := by
  funext a d
  unfold pointCum cOf
  refine congrArg (fun f => running f a) (funext fun k => congrArg decay ?_)
  unfold pointGate gateOf
  simp only [low_apply m c t b hb k, up_apply m c t, bias_apply m c t]
  rw [padded_sum]

/-- A point's entry of the first result. -/
theorem first_entry (a : Fin 16) (K : Fin 1024) (R : Fin 512) (hR : R.val = t.val * 16 + a.val) (K' : Fin 1024) (hK : K'.val = K.val) :
    out0_9 (iblk m c 0 t) (iblk m c 1 t) (iblk m c 2 t) (iblk m c 3 t) (iblk m c 4 t) (iblk m c 5 t) (iblk m c 6 t) (iblk m c 7 t) (iblk m c 8 t) (ix2 a K)
      = Cert.Reference4Ideal.Read.val_main_v74 (F := Ideal) (zArg m c) (lowArg m c) (stateArg m c) (upArg m c) (biasArg m c) (gainArg m c) (ix2 R K') := by
  obtain rfl : K' = K := Fin.ext hK
  obtain rfl : R = row b a := Fin.ext (by show R.val = b.val * 16 + a.val; omega)
  obtain ⟨h, e, rfl⟩ : ∃ (h : Fin 4) (e : Fin 256), K' = outCol h e :=
    ⟨⟨K'.val / 256, by omega⟩, ⟨K'.val % 256, by omega⟩, Fin.ext (by show K'.val = K'.val / 256 * 256 + K'.val % 256; omega)⟩
  rw [out_entry, gated_reads, cum_eq m c t b hb]
  simp only [q_apply m c t b hb, k_apply m c t b hb, v_apply m c t b hb, r_apply m c t b hb, s_apply m c t b hb, gain_apply]

/-- A point's entry of the second result. -/
theorem second_entry (h h' : Fin 4) (hh : h'.val = h.val) (d d' : Fin 128) (hd : d'.val = d.val) (e e' : Fin 256) (he : e'.val = e.val) :
    out0_10 (iblk m c 0 t) (iblk m c 1 t) (iblk m c 2 t) (iblk m c 3 t) (iblk m c 4 t) (iblk m c 5 t) (iblk m c 6 t) (iblk m c 7 t) (iblk m c 8 t) (ix4 0 h d e)
      = Cert.Reference4Ideal.Read.val_main_v55 (F := Ideal) (zArg m c) (lowArg m c) (stateArg m c) (upArg m c) (biasArg m c) (ix4 b h' d' e') := by
  obtain rfl : h' = h := Fin.ext hh
  obtain rfl : d' = d := Fin.ext hd
  obtain rfl : e' = e := Fin.ext he
  rw [state_entry, next_reads, cum_eq m c t b hb]
  simp only [k_apply m c t b hb, v_apply m c t b hb, s_apply m c t b hb]

end blocks

/-- The first result of the launch. -/
theorem array_first (c : Dev nD) : (dats m 0 c).arrAt 9 cfg0.N = fun i : S512x1024.Idx =>
    Cert.Reference4Ideal.Read.val_main_v74 (F := Ideal) (zArg m c) (lowArg m c) (stateArg m c) (upArg m c) (biasArg m c) (gainArg m c) (ix2 (i 0) (i 1)) := by
  refine (dats m 0 c).arrAt_eq_of_covers 9 _ (by decide +kernel) fun t hf y => ?_
  blk_simp
  obtain ⟨a, k, rfl⟩ : ∃ (a : Fin 16) (k : Fin 1024), y = ix2 a k := ⟨y 0, y 1, (ix2_eta y).symm⟩
  rw [after0_9]
  refine first_entry m c t ⟨t.val, t.isLt⟩ rfl a k _ ?_ _ ?_
  · blk_simp [index9 t]; try omega
  · blk_simp [index9 t]; try omega

/-- The second result of the launch. -/
theorem array_second (c : Dev nD) : (dats m 0 c).arrAt 10 cfg0.N = fun i : S32x4x128x256.Idx =>
    Cert.Reference4Ideal.Read.val_main_v55 (F := Ideal) (zArg m c) (lowArg m c) (stateArg m c) (upArg m c) (biasArg m c) (ix4 (i 0) (i 1) (i 2) (i 3)) := by
  refine (dats m 0 c).arrAt_eq_of_covers 10 _ (by decide +kernel) fun t hf y => ?_
  blk_simp
  obtain ⟨o, h, d, e, rfl⟩ : ∃ (o : Fin 1) (h : Fin 4) (d : Fin 128) (e : Fin 256), y = ix4 o h d e := ⟨y 0, y 1, y 2, y 3, (ix4_eta y).symm⟩
  obtain rfl : o = 0 := Subsingleton.elim _ _
  rw [after0_10]
  refine second_entry m c t _ ?_ h _ ?_ d _ ?_ e _ ?_
  · blk_simp [index10 t]; try omega
  · blk_simp [index10 t]; try omega
  · blk_simp [index10 t]; try omega
  · blk_simp [index10 t]; try omega

/-- The first result is the reference's. -/
theorem first_eq (c : Dev nD) : (dats m 0 c).arrAt 9 cfg0.N
    = Cert.Reference4Ideal.Read.val_main_v74 (F := Ideal) (zArg m c) (lowArg m c) (stateArg m c) (upArg m c) (biasArg m c) (gainArg m c) :=
  (array_first m c).trans (funext fun i => congrArg _ (ix2_eta i))

/-- The second result is the reference's. -/
theorem second_eq (c : Dev nD) : (dats m 0 c).arrAt 10 cfg0.N
    = Cert.Reference4Ideal.Read.val_main_v55 (F := Ideal) (zArg m c) (lowArg m c) (stateArg m c) (upArg m c) (biasArg m c) :=
  (array_second m c).trans (funext fun i => congrArg _ (ix4_eta i))

end Cert.Kernel4Ideal.Gla

end
-- ==== Proof.AdaEquation.lean ====
/-
  The modulation is its reference's.
-/
module

public import proofs.«01_k».proof.Proof.Gen.Kernel5Ideal.Value
public import proofs.«01_k».proof.Proof.Gen.Reference5Ideal.Read
public import proofs.«01_k».proof.Proof.Modulate
public import Idealize.ShloMosaic.Lib.Pipeline.ValueKit.Acc
public import Idealize.ShloMosaic.Lib.Pipeline.ValueKit.Point
public import Idealize.ShloMosaic.Lib.StableHlo.ReadAt

@[expose] public section

set_option maxRecDepth 16384

noncomputable section

namespace Cert.Reference5Ideal.Reading

open Idealize.ShloMosaic Idealize.ShloMosaic.TcCoe Idealize.ShloMosaic.Tactic Cert.Reference5Ideal.Gen Cert.Reference5Ideal Cert.Reference5Ideal.Read

/-- A number times its logistic function. -/
def silu (x : EReal) : EReal := x * Ideal.div 1 (1 + Ideal.exp (-x))

variable (p : FVec Ideal S2x2048 .f32) (s : FVec Ideal S32x2048 .f32) (w : FVec Ideal S1x2048x12288 .f32) (b : FVec Ideal S1x12288 .f32)

/-- The conditions on top of one another: the prompt's, the sample's, and zeros. -/
def conditions (R : Fin 48) (k : Fin 2048) : EReal :=
  if h : R.val < 2 then p (ix2 ⟨R.val, h⟩ k) else if h' : R.val < 34 then s (ix2 ⟨R.val - 2, by omega⟩ k) else 0

/-- An entry of the modulation. -/
def modulation (R : Fin 48) (j : Fin 12288) : EReal := (∑ k : Fin 2048, silu (conditions p s R k) * w (ix3 0 k j)) + b (ix2 0 j)

/-- The reference's padded conditions. -/
theorem conditions_apply (R : Fin 48) (k : Fin 2048) : val_main_v1 (F := Ideal) p s (ix2 R k) = conditions p s R k := by
  unfold conditions
  pointwise [val_main_v1, val_main_v0, val_main_call0_v0, val_main_c]
  have a := R.isLt
  by_cases h : R.val < 2
  · rw [dif_pos h, dif_pos (by omega), dif_pos h]
  · rw [dif_neg h]
    by_cases h' : R.val < 34
    · rw [dif_pos h', dif_pos h', dif_neg h]
    · rw [dif_neg h', dif_neg h']
      exact Cert.Modulate.zero_word

/-- The reference by entries. -/
theorem modulation_apply (R : Fin 48) (j : Fin 12288) : val_main_v8 (F := Ideal) p s w b (ix2 R j) = modulation p s w b R j := by
  unfold modulation silu
  simp only [← conditions_apply]
  unfold val_main_v8 val_main_v7 val_main_v6 val_main_v5 val_main_v4 val_main_v3 val_main_v2 val_main_call1_v5 val_main_call1_v4 val_main_call1_cst_0
    val_main_call1_v3 val_main_call1_v2 val_main_call1_cst val_main_call1_v1 val_main_call1_v0
  generalize val_main_v1 (F := Ideal) p s = x
  pointwise

end Cert.Reference5Ideal.Reading

namespace Cert.Kernel5Ideal.Ada

open Idealize.ShloMosaic Idealize.ShloMosaic.TcCoe Idealize.ShloMosaic.Tactic Cert.Kernel5Ideal.Gen Cert.Kernel5Ideal Cert.Kernel5Ideal.Facts
open Cert.Reference5Ideal.Reading

/-- A grid point's block by entries. -/
theorem out_entry (x : FVec Ideal S48x2048 .f32) (w : FVec Ideal S2048x1024 .f32) (b : FVec Ideal S1x1024 .f32) (R : Fin 48) (d : Fin 1024) :
    out0_3 (F := Ideal) x w b (ix2 R d) = (∑ k : Fin 2048, silu (x (ix2 R k)) * w (ix2 k d)) + b (ix2 0 d) := by
  unfold silu
  unfold out0_3
  simp (disch := decide) only [View.ld_unit_lit', View.canon_cons_unit_lit']
  unfold k0_pay1
  pointwise
  simp only [zero_sub]

variable (m : (ℓ : Loc nD τ sig) → Buf (Elt Ideal) ℓ)

/-- The prompt's conditions. -/
abbrev promptArg (c : Dev nD) : FVec Ideal S2x2048 .f32 := m ((c : Thread nD τ).loc main_arg0)
/-- The sample's conditions. -/
abbrev sampleArg (c : Dev nD) : FVec Ideal S32x2048 .f32 := m ((c : Thread nD τ).loc main_arg1)
/-- The weights. -/
abbrev weightsArg (c : Dev nD) : FVec Ideal S1x2048x12288 .f32 := m ((c : Thread nD τ).loc main_arg2)
/-- The bias. -/
abbrev biasArg (c : Dev nD) : FVec Ideal S1x12288 .f32 := m ((c : Thread nD τ).loc main_arg3)

/-- The conditions on top of one another. -/
theorem V_conditions (c : Dev nD) (R : Fin 48) (k : Fin 2048) :
    (V m c main_v1 : FVec Ideal S48x2048 .f32) (ix2 R k) = conditions (promptArg m c) (sampleArg m c) R k := by
  unfold conditions V
  after_reads_at
  by_cases h : R.val < 2
  · rw [dif_pos h, dif_pos h]
  · rw [dif_neg h, dif_neg h]
    by_cases h' : R.val < 34
    · rw [dif_pos h', dif_pos (by omega)]
    · rw [dif_neg h', dif_neg (by omega)]
      exact Ideal.ofBits_zero .f32

/-- The weights as a matrix. -/
theorem V_weights (c : Dev nD) (k : Fin 2048) (j : Fin 12288) :
    (V m c main_v2 : FVec Ideal S2048x12288 .f32) (ix2 k j) = weightsArg m c (ix3 0 k j) := by
  unfold V
  after_reads_at

/-- The bias as a row. -/
theorem V_bias (c : Dev nD) (j : Fin 12288) : (V m c main_v4 : FVec Ideal S1x12288 .f32) (ix2 0 j) = biasArg m c (ix2 0 j) := by
  unfold V
  after_reads_at

/-- The block of conditions that a grid point reads. -/
theorem index0 : ∀ t : Fin cfg0.N, win0_0.index t = ![0, 0] := (by decide +kernel : ∀ t : Fin grid0.N, _)
/-- The block of weights. -/
theorem index1 : ∀ t : Fin cfg0.N, win0_1.index t = ![0, t.val] := (by decide +kernel : ∀ t : Fin grid0.N, _)
/-- The block of the bias. -/
theorem index2 : ∀ t : Fin cfg0.N, win0_2.index t = ![0, t.val] := (by decide +kernel : ∀ t : Fin grid0.N, _)
/-- The block of the result. -/
theorem index3 : ∀ t : Fin cfg0.N, win0_3.index t = ![0, t.val] := (by decide +kernel : ∀ t : Fin grid0.N, _)

section blocks

variable (c : Dev nD) (t : Fin cfg0.N)

/-- A read of the conditions. -/
theorem conditions_read (R : Fin 48) (k : Fin 2048) :
    (iblk m c 0 t : FVec Ideal S48x2048 .f32) (ix2 R k) = conditions (promptArg m c) (sampleArg m c) R k := by
  rw [← V_conditions]
  blk_ext! [iblk, index0 t]

variable (d : Fin 1024) (j : Fin 12288) (hj : j.val = 1024 * t.val + d.val)
include hj

/-- A read of the weights' block. -/
theorem weights_read (k : Fin 2048) : (iblk m c 1 t : FVec Ideal S2048x1024 .f32) (ix2 k d) = weightsArg m c (ix3 0 k j) := by
  rw [← V_weights]
  blk_ext! [iblk, index1 t]

/-- A read of the bias's block. -/
theorem bias_read : (iblk m c 2 t : FVec Ideal S1x1024 .f32) (ix2 0 d) = biasArg m c (ix2 0 j) := by
  rw [← V_bias]
  blk_ext! [iblk, index2 t]

/-- A point's entry of the result. -/
theorem entry (R R' : Fin 48) (hR : R'.val = R.val) : out0_3 (iblk m c 0 t) (iblk m c 1 t) (iblk m c 2 t) (ix2 R d)
    = modulation (promptArg m c) (sampleArg m c) (weightsArg m c) (biasArg m c) R' j := by
  obtain rfl : R' = R := Fin.ext hR
  unfold modulation
  rw [out_entry]
  simp only [conditions_read, weights_read m c t d j hj, bias_read m c t d j hj]

end blocks

/-- The result of the launch. -/
theorem array (c : Dev nD) : (dats m 0 c).arrAt 3 cfg0.N
    = fun i : S48x12288.Idx => modulation (promptArg m c) (sampleArg m c) (weightsArg m c) (biasArg m c) (i 0) (i 1) := by
  refine (dats m 0 c).arrAt_eq_of_covers 3 _ (by decide +kernel) fun t hf y => ?_
  blk_simp
  obtain ⟨R, d, rfl⟩ : ∃ (R : Fin 48) (d : Fin 1024), y = ix2 R d := ⟨y 0, y 1, (ix2_eta y).symm⟩
  rw [after0_3]
  refine entry m c t d _ ?_ R _ ?_
  · blk_simp [index3 t]; try omega
  · blk_simp [index3 t]; try omega

/-- The result is the reference's. -/
theorem modulation_eq (c : Dev nD) : (dats m 0 c).arrAt 3 cfg0.N
    = Cert.Reference5Ideal.Read.val_main_v8 (F := Ideal) (promptArg m c) (sampleArg m c) (weightsArg m c) (biasArg m c) := by
  refine (array m c).trans (funext fun i => ?_)
  obtain ⟨R, j, rfl⟩ : ∃ (R : Fin 48) (j : Fin 12288), i = ix2 R j := ⟨i 0, i 1, (ix2_eta i).symm⟩
  exact (modulation_apply _ _ _ _ R j).symm

end Cert.Kernel5Ideal.Ada

end
-- ==== Proof.SampleBody.lean ====
/-
  The body of the sample's input projection at one grid point. The 512 rows are one tile: the first point normalizes and modulates
  them, each by its own shift and scale, keeps them, and multiplies them by the narrow weights; every point multiplies the kept tile
  by its block of the wide weights.
-/
module

public import proofs.«01_k».proof.Proof.Gen.Kernel6Ideal.Frame
public import proofs.«01_k».proof.Proof.Filled
public import Idealize.ShloMosaic.Lib.Claim
public import Idealize.ShloMosaic.Lib.Pipeline.Value
public import Idealize.ShloMosaic.Lib.Pipeline.ValueKit.Acc

@[expose] public section

set_option maxRecDepth 16384

noncomputable section

namespace Cert.Kernel6Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal.Gen Cert.Kernel6Ideal Cert.Kernel6Ideal.Facts Cert.Filled

variable {F : FTy → Type} [FloatOps F]

local notation "𝕄" => MT nD τ sig Unit (Elt F) ℕ (UR sig nD τ) ℕ

/-- The normalized and modulated tile: rows over the root of their mean square, times the gain, times one plus the scale, plus the shift. -/
def tile (x sh sc : FVec F S512x2048 .f32) (g : FVec F S1x2048 .f32) : FVec F S512x2048 .bf16 :=
  truncf .bf16 (addf (mulf (mulf (mulf x (broadcastTo S512x2048 (rsqrt (addf (divf
      (shapeCast S512x1 (multiReduction .add [1] S512 (mulf x x) 0x00000000#32 reduces_S512x2048_S512 (.inl rfl) rfl) shapeCasts_S512_S512x1)
      (broadcast S512x1 (Scalar.ofBits .f32 0x45000000#32))) (broadcast S512x1 (Scalar.ofBits .f32 0x358637BD#32)))) broadcasts_S512x1_S512x2048))
      (broadcastTo S512x2048 g broadcasts_S1x2048_S512x2048))
      (addf (broadcast S512x2048 (Scalar.ofBits .f32 0x3F800000#32)) sc)) sh) bitsLt_bf16_f32

/-- A tile times a block of the wide weights. -/
def wide (h : FVec F S512x2048 .bf16) (w : FVec F S2048x1024 .bf16) : FVec F S512x1024 .f32 :=
  matmul dot_S512x2048_S2048x1024_S512x1024_1_0_0_1_n_n none h w (constant S512x1024 .f32 0x00000000#32)

/-- A tile times the narrow weights. -/
def narrow (h : FVec F S512x2048 .bf16) (w : FVec F S2048x128 .bf16) : FVec F S512x128 .f32 :=
  matmul dot_S512x2048_S2048x128_S512x128_1_0_0_1_n_n none h w (constant S512x128 .f32 0x00000000#32)

set_option maxHeartbeats 4000000 in
/-- The first point. -/
theorem first (c : Dev nD) (i : grid0.Coords) (a2 : Memref sig .tc .vmem S512x2048 .f32) (h2 : a2.IsWhole)
    (a3 : Memref sig .tc .vmem S512x2048 .f32) (h3 : a3.IsWhole) (a4 : Memref sig .tc .vmem S512x2048 .f32) (h4 : a4.IsWhole)
    (a5 : Memref sig .tc .vmem S1x2048 .f32) (h5 : a5.IsWhole) (a6 : Memref sig .tc .vmem S2048x1024 .bf16) (h6 : a6.IsWhole)
    (a7 : Memref sig .tc .vmem S2048x128 .bf16) (h7 : a7.IsWhole) (a8 : Memref sig .tc .vmem S512x1024 .f32) (h8 : a8.IsWhole)
    (a9 : Memref sig .tc .vmem S512x128 .f32) (h9 : a9.IsWhole) (a10 : Memref sig .tc .vmem S512x2048 .bf16) (h10 : a10.IsWhole)
    (hc : k0_cond1 i = 1#1)
    (x sh sc : Vec F S512x2048 .f32) (g : Vec F S1x2048 .f32) (w : Vec F S2048x1024 .bf16) (v : Vec F S2048x128 .bf16)
    (E : Set ℕ) (K : PUnit → sProp 𝕄) :
    iprop(owns (c : Thread nD τ) a2 fullShare x ∗ owns (c : Thread nD τ) a3 fullShare sh ∗ owns (c : Thread nD τ) a4 fullShare sc
        ∗ owns (c : Thread nD τ) a5 fullShare g ∗ owns (c : Thread nD τ) a6 fullShare w ∗ owns (c : Thread nD τ) a7 fullShare v
        ∗ (∃ d, owns (c : Thread nD τ) a8 fullShare d) ∗ (∃ d, owns (c : Thread nD τ) a9 fullShare d) ∗ (∃ d, owns (c : Thread nD τ) a10 fullShare d)
        ∗ (iprop(owns (c : Thread nD τ) a2 fullShare x ∗ owns (c : Thread nD τ) a3 fullShare sh ∗ owns (c : Thread nD τ) a4 fullShare sc
            ∗ owns (c : Thread nD τ) a5 fullShare g ∗ owns (c : Thread nD τ) a6 fullShare w ∗ owns (c : Thread nD τ) a7 fullShare v
            ∗ owns (c : Thread nD τ) a8 fullShare (wide (tile x sh sc g) w) ∗ owns (c : Thread nD τ) a9 fullShare (narrow (tile x sh sc g) v)
            ∗ owns (c : Thread nD τ) a10 fullShare (tile x sh sc g)) -∗ K ⟨⟩))
      ⊢ wp frame (wpE (defs₀ (F := F)) Variants.none c none) E (cc0_inproj i a2 h2 a3 h3 a4 h4 a5 h5 a6 h6 a7 h7 a8 h8 a9 h9 a10 h10) K := by
  unfold cc0_inproj
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (read_filled _ _ _ _ _ (by decide)).trans ?_
    sl_unfold_words
    simp (disch := decide) only [View.readAt_eq_ld, h2.read_unread, h3.read_unread, h4.read_unread, h5.read_unread, h6.read_unread,
      View.ld_unit_lit', View.readCov_unit_lit', shapeCast_self]
    rfl
  isplitl [H9]
  · iexists _; isplitr
    swap; · iexact H9
    ipureintro
    refine (read_filled _ _ _ _ _ (by decide)).trans ?_
    sl_unfold_words
    simp (disch := decide) only [View.readAt_eq_ld, h2.read_unread, h3.read_unread, h4.read_unread, h5.read_unread, h7.read_unread,
      View.ld_unit_lit', shapeCast_self]
    rfl
  iexists _; isplitr
  swap; · iexact H10
  ipureintro
  sl_unfold_words
  refine (read_filled _ _ _ _ _ (by decide)).trans ?_
  simp (disch := decide) only [View.readAt_eq_ld, h2.read_unread, h3.read_unread, h4.read_unread, h5.read_unread,
    View.ld_unit_lit', shapeCast_self]
  rfl

set_option maxHeartbeats 4000000 in
/-- Every later point, the kept tile being `h`. -/
theorem later (c : Dev nD) (i : grid0.Coords) (a2 : Memref sig .tc .vmem S512x2048 .f32) (h2 : a2.IsWhole)
    (a3 : Memref sig .tc .vmem S512x2048 .f32) (h3 : a3.IsWhole) (a4 : Memref sig .tc .vmem S512x2048 .f32) (h4 : a4.IsWhole)
    (a5 : Memref sig .tc .vmem S1x2048 .f32) (h5 : a5.IsWhole) (a6 : Memref sig .tc .vmem S2048x1024 .bf16) (h6 : a6.IsWhole)
    (a7 : Memref sig .tc .vmem S2048x128 .bf16) (h7 : a7.IsWhole) (a8 : Memref sig .tc .vmem S512x1024 .f32) (h8 : a8.IsWhole)
    (a9 : Memref sig .tc .vmem S512x128 .f32) (h9 : a9.IsWhole) (a10 : Memref sig .tc .vmem S512x2048 .bf16) (h10 : a10.IsWhole)
    (hc : ¬k0_cond1 i = 1#1) (w : Vec F S2048x1024 .bf16) (h : Vec F S512x2048 .bf16) (E : Set ℕ) (K : PUnit → sProp 𝕄) :
    iprop(owns (c : Thread nD τ) a6 fullShare w ∗ (∃ d, owns (c : Thread nD τ) a8 fullShare d) ∗ owns (c : Thread nD τ) a10 fullShare h
        ∗ (iprop(owns (c : Thread nD τ) a6 fullShare w ∗ owns (c : Thread nD τ) a8 fullShare (wide h w)
            ∗ owns (c : Thread nD τ) a10 fullShare h) -∗ K ⟨⟩))
      ⊢ wp frame (wpE (defs₀ (F := F)) Variants.none c none) E (cc0_inproj i a2 h2 a3 h3 a4 h4 a5 h5 a6 h6 a7 h7 a8 h8 a9 h9 a10 h10) K := by
  unfold cc0_inproj
  unfold owns
  iintro ⟨⟨%f6, %e6, H6⟩, ⟨%d8, %f8, -, H8⟩, ⟨%f10, %e10, H10⟩, Hk⟩
  obtain rfl := h6.eq_unread e6; obtain rfl := h10.eq_unread e10
  sl_exec (disch := first | sl_exact hc)
  sl_step
  iapply Hk
  isplitl [H6]
  · iexists _; isplitr; · ipureintro; exact h6.read_unread _
    iexact H6
  isplitl [H8]
  · iexists _; isplitr
    swap; · iexact H8
    ipureintro
    refine (read_filled _ _ _ _ _ (by decide)).trans ?_
    sl_unfold_words
    simp (disch := decide) only [View.readAt_eq_ld, h6.read_unread, h10.read_unread, View.ld_unit_lit', shapeCast_self]
    rfl
  iexists _; isplitr; · ipureintro; exact h10.read_unread _
  iexact H10

/-! ## The launch -/

variable (m : (ℓ : Loc nD τ sig) → Buf (Elt F) ℓ) (ρ : Dev nD → PrngReg)

/-- The body's branch is taken at the first point. -/
theorem cond_iff : ∀ t : Fin cfg0.N, k0_cond1 (grid0.coords t) = 1#1 ↔ t.val = 0 :=
  (by decide +kernel : ∀ t : Fin grid0.N, k0_cond1 (grid0.coords t) = 1#1 ↔ t.val = 0)

/-- There are ten points. -/
theorem points : cfg0.N = 10 := (by decide +kernel : grid0.N = 10)

/-- The buffer that keeps the tile. -/
abbrev kept : Memref sig .tc .vmem S512x2048 .bf16 := Memref.whole cc0_scratch0

/-- The first point. -/
def start : Fin cfg0.N := ⟨0, by rw [points]; decide⟩

/-- A point that is numbered zero is the first. -/
theorem eq_start (t : Fin cfg0.N) (h : t.val = 0) : t = start := Fin.ext h

/-- The tile that is kept from the first point on. -/
def theTile (c : Dev nD) : FVec F S512x2048 .bf16 := tile (iblk m c 0 start) (iblk m c 1 start) (iblk m c 2 start) (iblk m c 3 start)

/-- Its product with the narrow weights. -/
def theNarrow (c : Dev nD) : FVec F S512x128 .f32 := narrow (theTile m c) (iblk m c 5 start)

/-- What the kept buffer is known to hold before point `n`: nothing at first, then the tile. -/
def keeps (c : Dev nD) : ℕ → sProp 𝕄
  | 0 => Pipeline.ΦA spec0 c
  | _ + 1 => iprop(owns (c : Thread nD τ) kept fullShare (theTile m c) ∗ (∃ r, prngReg c r))

/-- The proof data: the wide product at every point, the narrow product, and the kept tile. -/
def data (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => wide (theTile m c) (iblk m c 4 t)
    | ⟨7, _⟩ => theNarrow m c
  Φ t := keeps m c t.val
  q _ := fullShare
  owed _ := 0

/-- The arrays of the proof data are the arrays' contents at the launch. -/
theorem data_A (c : Dev nD) (w : Fin cfg0.W) : (data m 0 c).A w = V m c (Pipeline.arrRef spec0 w) := by dsimp only [data]

/-- The narrow product's buffer is stored to at the first point. -/
theorem stored (t : Fin cfg0.N) (h : t.val = 0) : cfg0.idle 7 (cfg0.grid.coords t) = false := by
  show (!(k0_cond1 (grid0.coords t) == 1#1)) = false
  rw [(cond_iff t).2 h]; rfl

/-- At the later points it is left alone. -/
theorem untouched (t : Fin cfg0.N) (h : t.val ≠ 0) : cfg0.idle 7 (cfg0.grid.coords t) = true := by
  show (!(k0_cond1 (grid0.coords t) == 1#1)) = true
  have := mt (cond_iff t).1 h
  simp [this]

/-- From the second point on the narrow product stands in its buffer. -/
theorem before_narrow (c : Dev nD) (d) : ∀ (n : ℕ) (hn : n + 1 < cfg0.N), (data m 0 c).before 7 ⟨n + 1, hn⟩ d = theNarrow m c := by
  intro n
  induction n with
  | zero =>
    intro hn
    have hf : (cfg0.win 7).flush ⟨0, Nat.lt_of_succ_lt hn⟩ = false :=
      Bool.eq_false_iff.2 fun e => by have := (flush0_7 _).1 e; simp only at this; omega
    rw [(data m 0 c).before_of_pos 7 ⟨0 + 1, hn⟩ (Nat.succ_ne_zero 0) ((cfg0.win 7).fetch_out rfl _)]
    show (if (cfg0.win 7).flush ⟨0, Nat.lt_of_succ_lt hn⟩ = true then d else (data m 0 c).left 7 ⟨0, Nat.lt_of_succ_lt hn⟩ d) = _
    rw [hf, if_neg Bool.false_ne_true]
    unfold Pipeline.Dat.left
    rw [stored _ rfl]
    show (data m 0 c).kept 7 _ d = _
    unfold Pipeline.Dat.kept
    rw [Pipeline.fill_of_clip_none 7 _ (fun _ => rfl) d ((data m 0 c).after 7 _), Pipeline.Window.fill_cut]
    dsimp only [data]
  | succ n ih =>
    intro hn
    have hn' : n + 1 < cfg0.N := Nat.lt_of_succ_lt hn
    have hf : (cfg0.win 7).flush ⟨n + 1, hn'⟩ = false :=
      Bool.eq_false_iff.2 fun e => by have := (flush0_7 _).1 e; have := points; simp only at *; omega
    rw [(data m 0 c).before_of_pos 7 ⟨n + 1 + 1, hn⟩ (Nat.succ_ne_zero _) ((cfg0.win 7).fetch_out rfl _)]
    show (if (cfg0.win 7).flush ⟨n + 1, hn'⟩ = true then d else (data m 0 c).left 7 ⟨n + 1, hn'⟩ d) = _
    rw [hf, if_neg Bool.false_ne_true]
    unfold Pipeline.Dat.left
    rw [untouched _ (Nat.succ_ne_zero n)]
    exact ih hn'

/-- The launch's scoped storage besides the staging buffers: the kept buffer at some contents, and the generator's register. -/
theorem scratch_owned (c : Dev nD) : (Pipeline.ΦA spec0 c : sProp 𝕄)
    = iprop((∃ d, owns (c : Thread nD τ) kept fullShare d) ∗ (∃ r, prngReg c r)) := by
  unfold Pipeline.ΦA; rw [scopedRest0_eq]; simp only [kept, owns_whole]; rfl

/-- Whatever is known of the kept buffer, it holds something. -/
theorem keeps_some (c : Dev nD) (n : ℕ) :
    keeps m c n ⊢ iprop((∃ d, owns (c : Thread nD τ) kept fullShare d) ∗ (∃ r, prngReg c r)) := by
  cases n with
  | zero => exact (show keeps m c 0 = _ from scratch_owned c) ▸ .rfl
  | succ n =>
    unfold keeps
    iintro ⟨H, Hg⟩
    isplitl [H]
    · iexists _; iexact H
    iexact Hg

/-- The block of the rows that a point finds staged. -/
theorem found0 (c : Dev nD) (t : Fin cfg0.N) (d) : (data m 0 c).before 0 t d = iblk m c 0 t :=
  before0_0_of m (data m 0 c) (data_A m c 0) (fun _ => by dsimp only [data]) t d
/-- The block of the shift that a point finds staged. -/
theorem found1 (c : Dev nD) (t : Fin cfg0.N) (d) : (data m 0 c).before 1 t d = iblk m c 1 t :=
  before0_1_of m (data m 0 c) (data_A m c 1) (fun _ => by dsimp only [data]) t d
/-- The block of the scale that a point finds staged. -/
theorem found2 (c : Dev nD) (t : Fin cfg0.N) (d) : (data m 0 c).before 2 t d = iblk m c 2 t :=
  before0_2_of m (data m 0 c) (data_A m c 2) (fun _ => by dsimp only [data]) t d
/-- The block of the gain that a point finds staged. -/
theorem found3 (c : Dev nD) (t : Fin cfg0.N) (d) : (data m 0 c).before 3 t d = iblk m c 3 t :=
  before0_3_of m (data m 0 c) (data_A m c 3) (fun _ => by dsimp only [data]) t d
/-- The block of the wide weights that a point finds staged. -/
theorem found4 (c : Dev nD) (t : Fin cfg0.N) (d) : (data m 0 c).before 4 t d = iblk m c 4 t :=
  before0_4_of m (data m 0 c) (data_A m c 4) (fun _ => by dsimp only [data]) t d
/-- The block of the narrow weights that a point finds staged. -/
theorem found5 (c : Dev nD) (t : Fin cfg0.N) (d) : (data m 0 c).before 5 t d = iblk m c 5 t :=
  before0_5_of m (data m 0 c) (data_A m c 5) (fun _ => by dsimp only [data]) t d

/-- What the body leaves of the narrow product's buffer at a point: as found where nothing is stored or written back. -/
def leaves (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((data m 0 c).before 7 t d))
    | true => owns (c : Thread nD τ) (st0_7 t) fullShare ((data m 0 c).after 7 t)
  | false => owns (c : Thread nD τ) (st0_7 t) fullShare ((data m 0 c).after 7 t)

/-- At the first point the body leaves the narrow product. -/
theorem leaves_first (c : Dev nD) (t : Fin cfg0.N) (h : t.val = 0) : leaves m c t = owns (c : Thread nD τ) (st0_7 t) fullShare (theNarrow m c) := by
  unfold leaves; rw [stored t h]; dsimp only [data]

/-- At the others what was found suffices. -/
theorem leaves_later (c : Dev nD) (t : Fin cfg0.N) (h : t.val ≠ 0) :
    iprop(∃ d, owns (c : Thread nD τ) (st0_7 t) fullShare ((data m 0 c).before 7 t d)) ⊢ leaves m c t := by
  unfold leaves; rw [untouched t h]
  cases hf : (cfg0.win 7).flush t
  · exact .rfl
  · simp only
    obtain ⟨n, hn⟩ := t
    cases n with
    | zero => exact absurd rfl h
    | succ n =>
    iintro ⟨%d, H⟩
    rw [before_narrow m c d n hn]
    iexact H

set_option maxHeartbeats 4000000 in
/-- The body at any point, from the windows' blocks and the kept tile to the products and the tile. -/
theorem body (c : Dev nD) (t : Fin cfg0.N) :
    iprop((data m 0 c).Φ t.castSucc ∗ (data m 0 c).owesAt () t.castSucc
      ∗ (∃ d, owns (c : Thread nD τ) (st0_0 t) fullShare ((data m 0 c).before 0 t d))
      ∗ (∃ d, owns (c : Thread nD τ) (st0_1 t) fullShare ((data m 0 c).before 1 t d))
      ∗ (∃ d, owns (c : Thread nD τ) (st0_2 t) fullShare ((data m 0 c).before 2 t d))
      ∗ (∃ d, owns (c : Thread nD τ) (st0_3 t) fullShare ((data m 0 c).before 3 t d))
      ∗ (∃ d, owns (c : Thread nD τ) (st0_4 t) fullShare ((data m 0 c).before 4 t d))
      ∗ (∃ d, owns (c : Thread nD τ) (st0_5 t) fullShare ((data m 0 c).before 5 t d))
      ∗ (∃ d, owns (c : Thread nD τ) (st0_6 t) fullShare ((data m 0 c).before 6 t d))
      ∗ (∃ d, owns (c : Thread nD τ) (st0_7 t) fullShare ((data m 0 c).before 7 t d)))
    ⊢ wp frame (wpE (defs₀ (F := F)) Variants.none c none) Set.univ (bodyAt0 t) (fun _ =>
      iprop((data m 0 c).Φ t.succ ∗ (data m 0 c).owesAt () t.succ
        ∗ owns (c : Thread nD τ) (st0_0 t) fullShare ((data m 0 c).after 0 t)
        ∗ owns (c : Thread nD τ) (st0_1 t) fullShare ((data m 0 c).after 1 t)
        ∗ owns (c : Thread nD τ) (st0_2 t) fullShare ((data m 0 c).after 2 t)
        ∗ owns (c : Thread nD τ) (st0_3 t) fullShare ((data m 0 c).after 3 t)
        ∗ owns (c : Thread nD τ) (st0_4 t) fullShare ((data m 0 c).after 4 t)
        ∗ owns (c : Thread nD τ) (st0_5 t) fullShare ((data m 0 c).after 5 t)
        ∗ owns (c : Thread nD τ) (st0_6 t) fullShare ((data m 0 c).after 6 t)
        ∗ leaves m c t)) := by
  unfold bodyAt0
  simp only [found0, found1, found2, found3, found4, found5]
  rw [show (data m 0 c).owesAt () t.succ = (data m 0 c).owesAt () t.castSucc from rfl,
    show (data m 0 c).Φ t.castSucc = keeps m c t.val from rfl,
    show (data m 0 c).Φ t.succ = iprop(owns (c : Thread nD τ) kept fullShare (theTile m c) ∗ (∃ r, prngReg c r)) from rfl,
    show (data m 0 c).after 0 t = iblk m c 0 t from rfl, show (data m 0 c).after 1 t = iblk m c 1 t from rfl,
    show (data m 0 c).after 2 t = iblk m c 2 t from rfl, show (data m 0 c).after 3 t = iblk m c 3 t from rfl,
    show (data m 0 c).after 4 t = iblk m c 4 t from rfl, show (data m 0 c).after 5 t = iblk m c 5 t from rfl,
    show (data m 0 c).after 6 t = wide (theTile m c) (iblk m c 4 t) from rfl]
  by_cases h : t.val = 0
  · rw [leaves_first m c t h]
    unfold theNarrow theTile
    rw [← eq_start t h]
    refine (sep_mono (keeps_some m c _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ ((cond_iff t).2 h)
      (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨n, e⟩ := Nat.exists_eq_succ_of_ne_zero h
    rw [show keeps m c t.val = iprop(owns (c : Thread nD τ) kept fullShare (theTile m c) ∗ (∃ r, prngReg c r)) from by rw [e]; rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, H7⟩
    iapply (later c (grid0.coords t) _ _ _ _ _ _ _ _ _ _ _ _ _ _ _ _ _ _ (mt (cond_iff t).1 h)
      (iblk m c 4 t) (theTile m c) Set.univ _)
    isplitl [H4]; · iexact H4
    isplitl [H6]; · iexists _; iexact H6
    isplitl [HS]; · iexact HS
    iintro ⟨H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_later m c t h)
    iexact H7

/-- The body that the launch runs at a point. -/
theorem row (t : Fin cfg0.N) : defs₀ (F := F) .tc cfg0.body (cfg0.bodyArgs t (cfg0.slots t)) = bodyAt0 t := by
  unfold defs₀; rw [Defs.onTc_tc]

/-- The body's triple, as the launch asks for it. -/
theorem obligation (c : Dev nD) : Pipeline.BodyObligation (data (F := F) m 0 c) (defs₀ (F := F)) Variants.none () Set.univ := fun t => by
  rw [bigSep_W0, bigSep_W0, row]
  exact triple_restated (body m c t) rfl .rfl fun _ => .rfl

/-- What the launch is given suffices to start. -/
theorem enters (c : Dev nD) : Pipeline.ΦA spec0 c ⊢ (data m 0 c).Φ 0 := .rfl

/-- After the last point the kept buffer is given back. -/
theorem leavesAll (c : Dev nD) : (data m 0 c).Φ (Fin.last cfg0.N) ⊢ Pipeline.ΦA spec0 c := by
  rw [scratch_owned]; exact keeps_some m c cfg0.N

set_option backward.isDefEq.respectTransparency.types false in
/-- The launch: every array of the pipeline ends at what the proof data say, every counter at zero. -/
theorem run : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enters m) (hout := leavesAll m)

/-- The arguments end as they began, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) ((θ_run defs _ _).mono (fun _ h => h.1) (run m ρ)))
    ((θ_run defs _ _).mono (fun _ h => h.2) (run m ρ))

end Cert.Kernel6Ideal.Inproj

end
-- ==== Proof.SampleFrame.lean ====
/-
  The sample's input projection as printed: its program of float words is, term for term, the program whose launch `SampleBody.lean` proves at
  every kind of float, so that its arguments end as they began.
-/
module

public import proofs.«01_k».proof.Proof.SampleBody
public import proofs.«01_k».proof.Proof.Gen.Kernel6.Frame

@[expose] public section

set_option maxRecDepth 65536

noncomputable section

namespace Cert.Kernel6.Inproj

open Idealize.ShloMosaic Idealize.ShloMosaic.TcCoe Idealize.SL.Sem
open Cert.Kernel6.Gen Cert.Kernel6

variable {F : FTy → Type} [FloatOps F]

/-- The two programs have the same bodies. -/
theorem bodies_eq : Cert.Kernel6.defs₀ (F := F) = Cert.Kernel6Ideal.defs₀ (F := F) := by
  unfold Cert.Kernel6.defs₀ Cert.Kernel6Ideal.defs₀
  congr 1
  funext l a
  match l, a with
  | ⟨0, _⟩, (t, s) => rfl

/-- The two programs have the same launch. -/
theorem defs_eq : Cert.Kernel6.defs (F := F) = Cert.Kernel6Ideal.defs (F := F) := by
  unfold Cert.Kernel6.defs Cert.Kernel6Ideal.defs
  rw [bodies_eq]
  rfl

/-- The arguments end as they began, and every counter at zero. -/
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel6Ideal.Inproj.unchanged m ρ

end Cert.Kernel6.Inproj

end
-- ==== Proof.SampleArray.lean ====
/-
  The two results of the sample's input projection, entry by entry, in terms of the arguments it is launched on.
-/
module

public import proofs.«01_k».proof.Proof.SampleBody
public import proofs.«01_k».proof.Proof.Modulate
public import Idealize.ShloMosaic.Lib.Pointwise
public import Idealize.ShloMosaic.Lib.Pipeline.ValueKit.Point
public import Idealize.ShloMosaic.Lib.StableHlo.ReadAt

@[expose] public section

set_option maxRecDepth 16384

noncomputable section

namespace Cert.Kernel6Ideal.Inproj

open Idealize.ShloMosaic Idealize.ShloMosaic.TcCoe Idealize.ShloMosaic.Tactic Cert.Kernel6Ideal.Gen Cert.Kernel6Ideal Cert.Kernel6Ideal.Facts
open Cert.Modulate Idealize.SL.Sem

/-- An entry of the tile. -/
theorem tile_apply (x sh sc : FVec Ideal S512x2048 .f32) (g : FVec Ideal S1x2048 .f32) (a : Fin 512) (k : Fin 2048) :
    tile x sh sc g (ix2 a k) = modulated (fun k => x (ix2 a k)) (fun k => g (ix2 0 k)) (fun k => sc (ix2 a k)) (fun k => sh (ix2 a k)) k := by
  unfold modulated tile
  pointwise

/-- An entry of the wide product. -/
theorem wide_apply (h : FVec Ideal S512x2048 .bf16) (w : FVec Ideal S2048x1024 .bf16) (a : Fin 512) (d : Fin 1024) :
    wide h w (ix2 a d) = ∑ k : Fin 2048, h (ix2 a k) * w (ix2 k d) := by
  unfold wide
  pointwise

/-- An entry of the narrow product. -/
theorem narrow_apply (h : FVec Ideal S512x2048 .bf16) (w : FVec Ideal S2048x128 .bf16) (a : Fin 512) (d : Fin 128) :
    narrow h w (ix2 a d) = ∑ k : Fin 2048, h (ix2 a k) * w (ix2 k d) := by
  unfold narrow
  pointwise

variable (m : (ℓ : Loc nD τ sig) → Buf (Elt Ideal) ℓ)

/-- The rows to project. -/
abbrev rowsArg (c : Dev nD) : FVec Ideal S32x16x2048 .f32 := m ((c : Thread nD τ).loc main_arg0)
/-- The modulation. -/
abbrev modArg (c : Dev nD) : FVec Ideal S32x12288 .f32 := m ((c : Thread nD τ).loc main_arg1)
/-- The gain. -/
abbrev gainArg (c : Dev nD) : FVec Ideal S1x2048 .f32 := m ((c : Thread nD τ).loc main_arg2)
/-- The weights. -/
abbrev weightsArg (c : Dev nD) : FVec Ideal S1x2048x10256 .f32 := m ((c : Thread nD τ).loc main_arg3)

/-- The wide weights are the weights without the narrow columns. -/
theorem V_wide (c : Dev nD) (k : Fin 2048) (C : Fin 10240) :
    (V m c main_v11 : FVec Ideal S2048x10240 .bf16) (ix2 k C) = weightsArg m c (ix3 0 k (wideCol C)) := by
  unfold V
  after_reads_at
  unfold wideCol
  split
  · exact congrArg (weightsArg m c) (congrArg (ix3 0 k) (Fin.ext (by simp only)))
  · exact congrArg (weightsArg m c) (congrArg (ix3 0 k) (Fin.ext (by simp only; omega)))

/-- The narrow weights, with zeros to their right. -/
def narrowWeight (c : Dev nD) (k : Fin 2048) (C : Fin 128) : EReal :=
  if h : C.val < 16 then weightsArg m c (ix3 0 k (narrowCol C h)) else 0

/-- The padded weights. -/
theorem V_narrow (c : Dev nD) (k : Fin 2048) (C : Fin 128) :
    (V m c main_v14 : FVec Ideal S2048x128 .bf16) (ix2 k C) = narrowWeight m c k C := by
  unfold narrowWeight V
  after_reads_at
  split
  · rfl
  · exact zero_word

/-- The rows of all samples on top of one another. -/
theorem V_rows (c : Dev nD) (R : Fin 512) (k : Fin 2048) :
    (V m c main_v15 : FVec Ideal S512x2048 .f32) (ix2 R k) = rowsArg m c (ix3 (sampleOf R) (stepOf R) k) := by
  unfold V
  after_reads_at
  rfl

/-- The shift is the modulation's first part, repeated for each step. -/
theorem V_shift (c : Dev nD) (R : Fin 512) (k : Fin 2048) :
    (V m c main_v2 : FVec Ideal S512x2048 .f32) (ix2 R k) = modArg m c (ix2 (sampleOf R) (firstPart k)) := by
  unfold V
  after_reads_at
  rfl

/-- The scale is the modulation's second part, repeated for each step. -/
theorem V_scale (c : Dev nD) (R : Fin 512) (k : Fin 2048) :
    (V m c main_v5 : FVec Ideal S512x2048 .f32) (ix2 R k) = modArg m c (ix2 (sampleOf R) (part 1 (by decide) k)) := by
  unfold V
  after_reads_at
  rfl

/-- The gain as a row. -/
theorem V_gain (c : Dev nD) (k : Fin 2048) :
    (V m c main_v17 : FVec Ideal S1x2048 .f32) (ix2 0 k) = gainArg m c (ix2 0 k) := by
  unfold V
  after_reads_at

/-- The block of the wide weights. -/
theorem index4 : ∀ t : Fin cfg0.N, win0_4.index t = ![0, t.val] := (by decide +kernel : ∀ t : Fin grid0.N, _)
/-- The block of the wide result. -/
theorem index6 : ∀ t : Fin cfg0.N, win0_6.index t = ![0, t.val] := (by decide +kernel : ∀ t : Fin grid0.N, _)
/-- The block of the narrow result. -/
theorem index7 : ∀ t : Fin cfg0.N, win0_7.index t = ![0, 0] := (by decide +kernel : ∀ t : Fin grid0.N, _)
/-- The first point's block of the rows. -/
theorem index0 : win0_0.index start = ![0, 0] := by decide +kernel
/-- The first point's block of the shift. -/
theorem index1 : win0_1.index start = ![0, 0] := by decide +kernel
/-- The first point's block of the scale. -/
theorem index2 : win0_2.index start = ![0, 0] := by decide +kernel
/-- The first point's block of the gain. -/
theorem index3 : win0_3.index start = ![0, 0] := by decide +kernel
/-- The first point's block of the narrow weights. -/
theorem index5 : win0_5.index start = ![0, 0] := by decide +kernel

/-- The first point's block of the rows is all of them. -/
theorem rows_apply (c : Dev nD) (a : Fin 512) (k : Fin 2048) :
    (iblk m c 0 start : FVec Ideal S512x2048 .f32) (ix2 a k) = (V m c main_v15 : FVec Ideal S512x2048 .f32) (ix2 a k) := by
  blk_ext! [iblk, index0]

/-- The first point's block of the shift is all of it. -/
theorem shift_apply (c : Dev nD) (a : Fin 512) (k : Fin 2048) :
    (iblk m c 1 start : FVec Ideal S512x2048 .f32) (ix2 a k) = (V m c main_v2 : FVec Ideal S512x2048 .f32) (ix2 a k) := by
  blk_ext! [iblk, index1]

/-- The first point's block of the scale is all of it. -/
theorem scale_apply (c : Dev nD) (a : Fin 512) (k : Fin 2048) :
    (iblk m c 2 start : FVec Ideal S512x2048 .f32) (ix2 a k) = (V m c main_v5 : FVec Ideal S512x2048 .f32) (ix2 a k) := by
  blk_ext! [iblk, index2]

/-- A read of the gain's block. -/
theorem gain_apply (c : Dev nD) (k : Fin 2048) :
    (iblk m c 3 start : FVec Ideal S1x2048 .f32) (ix2 0 k) = (V m c main_v17 : FVec Ideal S1x2048 .f32) (ix2 0 k) := by
  blk_ext! [iblk, index3]

/-- A read of a block of the wide weights. -/
theorem wideBlock_apply (c : Dev nD) (t : Fin cfg0.N) (k : Fin 2048) (d : Fin 1024) (C : Fin 10240) (hC : C.val = 1024 * t.val + d.val) :
    (iblk m c 4 t : FVec Ideal S2048x1024 .bf16) (ix2 k d) = (V m c main_v11 : FVec Ideal S2048x10240 .bf16) (ix2 k C) := by
  blk_ext! [iblk, index4 t]

/-- A read of the narrow weights. -/
theorem narrowBlock_apply (c : Dev nD) (k : Fin 2048) (C : Fin 128) :
    (iblk m c 5 start : FVec Ideal S2048x128 .bf16) (ix2 k C) = (V m c main_v14 : FVec Ideal S2048x128 .bf16) (ix2 k C) := by
  blk_ext! [iblk, index5]

/-- A row of the launch, normalized and modulated. -/
def rowAt (c : Dev nD) (R : Fin 512) : Fin 2048 → EReal :=
  modulated (fun k => rowsArg m c (ix3 (sampleOf R) (stepOf R) k)) (fun k => gainArg m c (ix2 0 k))
    (fun k => modArg m c (ix2 (sampleOf R) (part 1 (by decide) k))) (fun k => modArg m c (ix2 (sampleOf R) (firstPart k)))

/-- The kept tile holds the launch's rows. -/
theorem theTile_apply (c : Dev nD) (a : Fin 512) (k : Fin 2048) : theTile m c (ix2 a k) = rowAt m c a k := by
  unfold theTile rowAt
  rw [tile_apply]
  congr 1 <;> funext j
  · exact (rows_apply m c a j).trans (V_rows m c a j)
  · exact (gain_apply m c j).trans (V_gain m c j)
  · exact (scale_apply m c a j).trans (V_scale m c a j)
  · exact (shift_apply m c a j).trans (V_shift m c a j)

/-- A point's entry of the wide product is the result's at the entry's place. -/
theorem wide_entry (c : Dev nD) (t : Fin cfg0.N) (a : Fin 512) (d : Fin 1024) (R : Fin 512) (C : Fin 10240)
    (hR : R.val = a.val) (hC : C.val = 1024 * t.val + d.val) :
    wide (theTile m c) (iblk m c 4 t) (ix2 a d) = ∑ k : Fin 2048, rowAt m c R k * weightsArg m c (ix3 0 k (wideCol C)) := by
  obtain rfl : R = a := Fin.ext hR
  refine (wide_apply _ _ _ _).trans (Finset.sum_congr rfl fun k _ => ?_)
  rw [theTile_apply, wideBlock_apply m c t k d C hC, V_wide]

/-- An entry of the narrow product. -/
theorem narrow_entry (c : Dev nD) (a : Fin 512) (d : Fin 128) (R : Fin 512) (C : Fin 128) (hR : R.val = a.val) (hC : C.val = d.val) :
    theNarrow m c (ix2 a d) = ∑ k : Fin 2048, rowAt m c R k * narrowWeight m c k C := by
  obtain rfl : R = a := Fin.ext hR
  obtain rfl : C = d := Fin.ext hC
  refine (narrow_apply _ _ _ _).trans (Finset.sum_congr rfl fun k _ => ?_)
  rw [theTile_apply, narrowBlock_apply, V_narrow]

/-- The wide result. -/
theorem array_wide (c : Dev nD) : (data m 0 c).arrAt 6 cfg0.N
    = fun i : S512x10240.Idx => ∑ k : Fin 2048, rowAt m c (i 0) k * weightsArg m c (ix3 0 k (wideCol (i 1))) := by
  refine (data m 0 c).arrAt_eq_of_covers 6 _ (by decide +kernel) fun t hf y => ?_
  blk_simp
  obtain ⟨a, d, rfl⟩ : ∃ (a : Fin 512) (d : Fin 1024), y = ix2 a d := ⟨y 0, y 1, (ix2_eta y).symm⟩
  have e : (data m 0 c).after 6 t = wide (theTile m c) (iblk m c 4 t) := by dsimp only [data]
  rw [e]
  refine wide_entry m c t a d _ _ ?_ ?_
  · blk_simp [index6 t]; try omega
  · blk_simp [index6 t]; try omega

/-- The narrow result. -/
theorem array_narrow (c : Dev nD) : (data m 0 c).arrAt 7 cfg0.N
    = fun i : S512x128.Idx => ∑ k : Fin 2048, rowAt m c (i 0) k * narrowWeight m c k (i 1) := by
  refine (data m 0 c).arrAt_eq_of_covers 7 _ (by decide +kernel) fun t hf y => ?_
  blk_simp
  obtain ⟨a, d, rfl⟩ : ∃ (a : Fin 512) (d : Fin 128), y = ix2 a d := ⟨y 0, y 1, (ix2_eta y).symm⟩
  have e : (data m 0 c).after 7 t = theNarrow m c := by dsimp only [data]
  rw [e]
  refine narrow_entry m c a d _ _ ?_ ?_
  · blk_simp [index7 t]; try omega
  · blk_simp [index7 t]; try omega

/-- The launch, its two results named and its arguments unchanged. -/
theorem results (ρ : Dev nD → PrngReg) : θ_run defs (onTc (τ := τ) (main (F := Ideal))) ⟨m, fun _ => 0, ρ⟩ (fun r => ∀ c : Dev nD,
      r.2.mem ((c.tc : Thread nD τ).loc main_v18_0) = (data m 0 c).arrAt 6 cfg0.N
      ∧ r.2.mem ((c.tc : Thread nD τ).loc main_v18_1) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 6, (h.1.1 c).1 7, h.2.1 c⟩) (θ_run_and (run m ρ) (unchanged m ρ))

end Cert.Kernel6Ideal.Inproj

end
-- ==== Proof.SampleReading.lean ====
/-
  The reference of the sample's input projection, entry by entry.
-/
module

public import proofs.«01_k».proof.Proof.Gen.Reference6Ideal.Read
public import proofs.«01_k».proof.Proof.Modulate

@[expose] public section

set_option maxRecDepth 16384

noncomputable section

namespace Cert.Reference6Ideal.Reading

open Idealize.ShloMosaic Idealize.ShloMosaic.TcCoe Idealize.ShloMosaic.Tactic Cert.Reference6Ideal.Gen Cert.Reference6Ideal Cert.Reference6Ideal.Read
open Cert.Modulate

variable (x : FVec Ideal S32x16x2048 .f32) (mod : FVec Ideal S32x12288 .f32) (g : FVec Ideal S1x2048 .f32) (w : FVec Ideal S1x2048x10256 .f32)

/-- The normalized and modulated rows. -/
theorem modulated_apply (s : Fin 32) (t : Fin 16) (k : Fin 2048) :
    val_main_v23 (F := Ideal) x mod g (ix3 s t k)
      = modulated (fun k => x (ix3 s t k)) (fun k => g (ix2 0 k)) (fun k => mod (ix2 s (part 1 (by decide) k))) (fun k => mod (ix2 s (firstPart k))) k := by
  unfold modulated
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- The projection of a row by every column of the weights. -/
def projected (R : Fin 512) (C : Fin 10256) : EReal :=
  ∑ k : Fin 2048, modulated (fun k => x (ix3 (sampleOf R) (stepOf R) k)) (fun k => g (ix2 0 k)) (fun k => mod (ix2 (sampleOf R) (part 1 (by decide) k)))
    (fun k => mod (ix2 (sampleOf R) (firstPart k))) k * w (ix3 0 k C)

/-- The product before its columns are taken apart. -/
theorem product_apply (R : Fin 512) (C : Fin 10256) : val_main_v26 (F := Ideal) x mod g w (ix2 R C) = projected x mod g w R C := by
  unfold projected
  simp only [← modulated_apply]
  unfold val_main_v26 val_main_v25 val_main_v24
  generalize val_main_v23 (F := Ideal) x mod g = h
  pointwise
  rfl

/-- The wide columns. -/
theorem wide_apply (R : Fin 512) (C : Fin 10240) : val_main_v30 (F := Ideal) x mod g w (ix2 R C) = projected x mod g w R (wideCol C) := by
  rw [← product_apply]
  unfold val_main_v30 val_main_v29 val_main_v28
  generalize val_main_v26 (F := Ideal) x mod g w = h
  pointwise
  unfold wideCol
  split
  · exact congrArg h (congrArg (ix2 R) (Fin.ext (by simp only)))
  · exact congrArg h (congrArg (ix2 R) (Fin.ext (by simp only; omega)))

/-- The narrow columns, with zeros to their right. -/
theorem narrow_apply (R : Fin 512) (C : Fin 128) : val_main_v31 (F := Ideal) x mod g w (ix2 R C)
    = if h : C.val < 16 then projected x mod g w R (narrowCol C h) else (0 : EReal) := by
  simp only [← product_apply]
  unfold val_main_v31 val_main_v27 val_main_call0_v0 val_main_c
  generalize val_main_v26 (F := Ideal) x mod g w = h
  pointwise
  split
  · rfl
  · exact zero_word

end Cert.Reference6Ideal.Reading

end
-- ==== Proof.SampleEquation.lean ====
/-
  The results of the sample's input projection are its reference's.
-/
module

public import proofs.«01_k».proof.Proof.SampleArray
public import proofs.«01_k».proof.Proof.SampleReading

@[expose] public section

set_option maxRecDepth 16384

noncomputable section

namespace Cert.Kernel6Ideal.Inproj

open Idealize.ShloMosaic Idealize.ShloMosaic.TcCoe Cert.Kernel6Ideal Cert.Modulate

variable (m : (ℓ : Loc nD τ sig) → Buf (Elt Ideal) ℓ)

/-- The wide result. -/
theorem wide_eq (c : Dev nD) : (data m 0 c).arrAt 6 cfg0.N
    = Cert.Reference6Ideal.Read.val_main_v30 (F := Ideal) (rowsArg m c) (modArg m c) (gainArg m c) (weightsArg m c) := by
  refine (array_wide m c).trans (funext fun i => ?_)
  obtain ⟨R, C, rfl⟩ : ∃ (R : Fin 512) (C : Fin 10240), i = ix2 R C := ⟨i 0, i 1, (ix2_eta i).symm⟩
  exact (Cert.Reference6Ideal.Reading.wide_apply (rowsArg m c) (modArg m c) (gainArg m c) (weightsArg m c) R C).symm

/-- The narrow result: a column of zero weights gives zero. -/
theorem narrow_eq (c : Dev nD) : (data m 0 c).arrAt 7 cfg0.N
    = Cert.Reference6Ideal.Read.val_main_v31 (F := Ideal) (rowsArg m c) (modArg m c) (gainArg m c) (weightsArg m c) := by
  refine (array_narrow m c).trans (funext fun i => ?_)
  obtain ⟨R, C, rfl⟩ : ∃ (R : Fin 512) (C : Fin 128), i = ix2 R C := ⟨i 0, i 1, (ix2_eta i).symm⟩
  refine Eq.trans ?_ (Cert.Reference6Ideal.Reading.narrow_apply (rowsArg m c) (modArg m c) (gainArg m c) (weightsArg m c) R C).symm
  show (∑ k : Fin 2048, rowAt m c R k * narrowWeight m c k C) = _
  unfold narrowWeight
  by_cases h : C.val < 16
  · simp only [dif_pos h]
    rfl
  · simp only [dif_neg h, mul_zero]
    exact Finset.sum_const_zero

end Cert.Kernel6Ideal.Inproj

end
-- ==== Proof.FoldEquation.lean ====
/-
  The fold of the query weights with the subkeys is its reference's.
-/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit.Acc
public import Idealize.ShloMosaic.Lib.Pipeline.ValueKit.Point
public import Idealize.ShloMosaic.Lib.StableHlo.ReadAt

@[expose] public section

set_option maxRecDepth 16384

noncomputable section

namespace Cert.Reference7Ideal.Reading

open Idealize.ShloMosaic Idealize.ShloMosaic.TcCoe Idealize.ShloMosaic.Tactic Cert.Reference7Ideal.Gen Cert.Reference7Ideal Cert.Reference7Ideal.Read

variable (w : FVec Ideal S1x2048x2048 .f32) (s : FVec Ideal S1x2x128x128 .f32)

/-- The group of a column: a head and a half. -/
def group (j : Fin 2048) : Fin 16 := ⟨j.val / 128, by omega⟩

/-- The half of a column. -/
def half (j : Fin 2048) : Fin 2 := ⟨j.val / 128 % 2, by omega⟩

/-- The subkey of a column. -/
def keyOf (j : Fin 2048) : Fin 128 := ⟨j.val % 128, by omega⟩

/-- The query's column of entry `e` in a group. -/
def entryCol (g : Fin 16) (e : Fin 128) : Fin 2048 := ⟨128 * g.val + e.val, by omega⟩

/-- An entry of the fold: a row of the query weights, within a head and half, times a subkey of that half. -/
def fold (n j : Fin 2048) : EReal := ∑ e : Fin 128, w (ix3 0 n (entryCol (group j) e)) * s (ix4 0 (half j) (keyOf j) e)

/-- The query weights by row, head, half and entry. -/
theorem weights_apply (n : Fin 2048) (h : Fin 8) (p : Fin 2) (e : Fin 128) (g : Fin 16) (hg : g.val = 2 * h.val + p.val) :
    val_main_v1 (F := Ideal) w (ix4 n h p e) = w (ix3 0 n (entryCol g e)) := by
  have hn : (ix2 n (entryCol g e) : S2048x2048.Idx) = idx_main_v1 (ix4 n h p e) := by
    refine funext fun a => Fin.ext ?_
    match a with
    | ⟨0, _⟩ => show n.val = (((n.val * 8 + h.val) * 2 + p.val) * 128 + e.val) / 2048; omega
    | ⟨1, _⟩ => show 128 * g.val + e.val = (((n.val * 8 + h.val) * 2 + p.val) * 128 + e.val) % 2048; omega
  rw [val_main_v1_apply, ← hn]
  unfold val_main_v0
  pointwise

/-- The subkeys by half, subkey and entry. -/
theorem subkeys_apply (p : Fin 2) (k e : Fin 128) : val_main_v2 (F := Ideal) s (ix3 p k e) = s (ix4 0 p k e) := by
  unfold val_main_v2
  pointwise

/-- The reference by entries. -/
theorem fold_apply (n j : Fin 2048) : val_main_v5 (F := Ideal) w s (ix2 n j) = fold w s n j := by
  have hv : idx_main_v4 (idx_main_v5 (ix2 n j)) = ix4 (half j) (keyOf j) n (⟨j.val / 256, by omega⟩ : Fin 8) := by
    refine funext fun a => Fin.ext ?_
    match a with
    | ⟨0, _⟩ => show (n.val * 2048 + j.val) / 128 % 2 = j.val / 128 % 2; omega
    | ⟨1, _⟩ => show (n.val * 2048 + j.val) % 128 = j.val % 128; omega
    | ⟨2, _⟩ => show (n.val * 2048 + j.val) / 2048 = n.val; omega
    | ⟨3, _⟩ => show (n.val * 2048 + j.val) / 256 % 8 = j.val / 256; omega
  rw [val_main_v5_apply, val_main_v4_apply, hv, val_main_v3_apply]
  unfold fold
  refine Finset.sum_congr rfl fun e _ => ?_
  rw [mul_comm]
  refine congrArg₂ (· * ·) ?_ ?_
  · rw [← weights_apply w n ⟨j.val / 256, by omega⟩ (half j) e (group j) (by show j.val / 128 = 2 * (j.val / 256) + j.val / 128 % 2; omega)]
    refine congrArg (val_main_v1 (F := Ideal) w) (funext fun a => Fin.ext ?_)
    match a with
    | ⟨0, _⟩ => rfl
    | ⟨1, _⟩ => rfl
    | ⟨2, _⟩ => rfl
    | ⟨3, _⟩ => rfl
  · rw [← subkeys_apply s]
    refine congrArg (val_main_v2 (F := Ideal) s) (funext fun a => Fin.ext ?_)
    match a with
    | ⟨0, _⟩ => rfl
    | ⟨1, _⟩ => rfl
    | ⟨2, _⟩ => rfl

end Cert.Reference7Ideal.Reading

namespace Cert.Kernel7Ideal.Fold

open Idealize.ShloMosaic Idealize.ShloMosaic.TcCoe Idealize.ShloMosaic.Tactic Cert.Kernel7Ideal.Gen Cert.Kernel7Ideal Cert.Kernel7Ideal.Facts
open Cert.Reference7Ideal.Reading

/-- A grid point's block by entries. -/
theorem out_entry (x : FVec Ideal S2048x128 .bf16) (y : FVec Ideal S1x128x128 .bf16) (n : Fin 2048) (k : Fin 128) :
    out0_2 (F := Ideal) x y (ix2 n k) = ∑ e : Fin 128, x (ix2 n e) * y (ix3 0 k e) := by
  unfold out0_2
  simp (disch := decide) only [View.ld_unit_lit', View.canon_cons_unit_lit']
  unfold k0_pay1
  pointwise

variable (m : (ℓ : Loc nD τ sig) → Buf (Elt Ideal) ℓ)

/-- The query weights. -/
abbrev weightsArg (c : Dev nD) : FVec Ideal S1x2048x2048 .f32 := m ((c : Thread nD τ).loc main_arg0)
/-- The subkeys. -/
abbrev subkeysArg (c : Dev nD) : FVec Ideal S1x2x128x128 .f32 := m ((c : Thread nD τ).loc main_arg1)

/-- The query weights as a matrix. -/
theorem V_weights (c : Dev nD) (n j : Fin 2048) : (V m c main_v1 : FVec Ideal S2048x2048 .bf16) (ix2 n j) = weightsArg m c (ix3 0 n j) := by
  unfold V
  after_reads_at

/-- The subkeys without their leading axis. -/
theorem V_subkeys (c : Dev nD) (p : Fin 2) (k e : Fin 128) :
    (V m c main_v3 : FVec Ideal S2x128x128 .bf16) (ix3 p k e) = subkeysArg m c (ix4 0 p k e) := by
  unfold V
  after_reads_at

/-- The block of weights that a grid point reads. -/
theorem index0 : ∀ t : Fin cfg0.N, win0_0.index t = ![0, t.val] := (by decide +kernel : ∀ t : Fin grid0.N, _)
/-- The block of subkeys. -/
theorem index1 : ∀ t : Fin cfg0.N, win0_1.index t = ![t.val % 2, 0, 0] := (by decide +kernel : ∀ t : Fin grid0.N, _)
/-- The block of the result. -/
theorem index2 : ∀ t : Fin cfg0.N, win0_2.index t = ![0, t.val] := (by decide +kernel : ∀ t : Fin grid0.N, _)

/-- A point's entry of the result. -/
theorem entry (c : Dev nD) (t : Fin cfg0.N) (n n' : Fin 2048) (k : Fin 128) (j : Fin 2048) (hn : n'.val = n.val) (hj : j.val = 128 * t.val + k.val) :
    out0_2 (iblk m c 0 t) (iblk m c 1 t) (ix2 n k) = fold (weightsArg m c) (subkeysArg m c) n' j := by
  obtain rfl : n' = n := Fin.ext hn
  have hk := k.isLt
  unfold fold
  rw [out_entry]
  refine Finset.sum_congr rfl fun e _ => congrArg₂ (· * ·) ?_ ?_
  · rw [← V_weights]
    have : (entryCol (group j) e).val = 128 * t.val + e.val := by show 128 * (j.val / 128) + e.val = _; omega
    blk_ext! [iblk, index0 t]
  · rw [← V_subkeys]
    have h1 : (half j).val = t.val % 2 := by show j.val / 128 % 2 = _; omega
    have h2 : (keyOf j).val = k.val := by show j.val % 128 = _; omega
    blk_ext! [iblk, index1 t]

/-- The result of the launch. -/
theorem array (c : Dev nD) : (dats m 0 c).arrAt 2 cfg0.N
    = fun i : S2048x2048.Idx => fold (weightsArg m c) (subkeysArg m c) (i 0) (i 1) := by
  refine (dats m 0 c).arrAt_eq_of_covers 2 _ (by decide +kernel) fun t hf y => ?_
  blk_simp
  obtain ⟨n, k, rfl⟩ : ∃ (n : Fin 2048) (k : Fin 128), y = ix2 n k := ⟨y 0, y 1, (ix2_eta y).symm⟩
  rw [after0_2]
  refine entry m c t n _ k _ ?_ ?_
  · blk_simp [index2 t]; try omega
  · blk_simp [index2 t]; try omega

/-- The result is the reference's. -/
theorem fold_eq (c : Dev nD) : (dats m 0 c).arrAt 2 cfg0.N
    = Cert.Reference7Ideal.Read.val_main_v5 (F := Ideal) (weightsArg m c) (subkeysArg m c) := by
  refine (array m c).trans (funext fun i => ?_)
  obtain ⟨n, j, rfl⟩ : ∃ n j : Fin 2048, i = ix2 n j := ⟨i 0, i 1, (ix2_eta i).symm⟩
  exact (fold_apply _ _ n j).symm

end Cert.Kernel7Ideal.Fold

end
-- ==== Proof.CacheBlock.lean ====
/-
  What one grid point of the sample's attention leaves in its output block: for each of the eight heads the same function of the
  sixteen queries, the 512 keys and values of the cache and the sixteen new ones, and the two bias tables.
-/
module

public import proofs.«01_k».proof.Proof.Gen.Kernel8Ideal.Value
public import proofs.«01_k».proof.Proof.Softmax
public import Idealize.ShloMosaic.Lib.Pipeline.Value
public import Idealize.ShloMosaic.Lib.Pointwise
public import Idealize.ShloMosaic.Lib.MatmulPlain

@[expose] public section

set_option maxRecDepth 16384

noncomputable section

namespace Cert.Kernel8Ideal.Block

open Idealize.ShloMosaic Idealize.ShloMosaic.TcCoe Idealize.ShloMosaic.Tactic Cert.Kernel8Ideal.Gen Cert.Kernel8Ideal Cert.Band
open Cert.Kernel8Ideal.Facts

/-- The scores of sixteen queries against the cached keys: the scaled products plus the bias. -/
def oldScores (q : FVec Ideal S16x128 .f32) (k : FVec Ideal S1x512x128 .f32) (b : FVec Ideal S1x16x512 .f32) : FVec Ideal S16x512 .f32 :=
  addf (mulf (matmul dot_S16x128_S512x128_S16x512_1_1_0_0_n_n none (truncf .bf16 q bitsLt_bf16_f32)
      (truncf .bf16 (shapeCast S512x128 k shapeCasts_S1x512x128_S512x128) bitsLt_bf16_f32) (constant S16x512 .f32 0x00000000#32))
    (broadcast S16x512 (Scalar.ofBits .f32 0x3DB504F3#32))) (shapeCast S16x512 b shapeCasts_S1x16x512_S16x512)

/-- The scores against the new keys. -/
def newScores (q k : FVec Ideal S16x128 .f32) (b : FVec Ideal S1x16x16 .f32) : FVec Ideal S16x16 .f32 :=
  addf (mulf (matmul dot_S16x128_S16x128_S16x16_1_1_0_0_n_n none (truncf .bf16 q bitsLt_bf16_f32)
      (truncf .bf16 k bitsLt_bf16_f32) (constant S16x16 .f32 0x00000000#32))
    (broadcast S16x16 (Scalar.ofBits .f32 0x3DB504F3#32))) (shapeCast S16x16 b shapeCasts_S1x16x16_S16x16)

/-- Each query's greatest score. -/
def greatest (s : FVec Ideal S16x512 .f32) (s' : FVec Ideal S16x16 .f32) : FVec Ideal S16x1 .f32 :=
  maximumf (shapeCast S16x1 (multiReduction .maximumf [1] S16 s 0xFF800000#32 reduces_S16x512_S16 (.inl rfl) rfl) shapeCasts_S16_S16x1)
    (shapeCast S16x1 (multiReduction .maximumf [1] S16 s' 0xFF800000#32 reduces_S16x16_S16 (.inl rfl) rfl) shapeCasts_S16_S16x1)

/-- The exponentials of the cached keys' scores. -/
def oldWeights (s : FVec Ideal S16x512 .f32) (g : FVec Ideal S16x1 .f32) : FVec Ideal S16x512 .f32 :=
  exp (subf s (broadcastTo S16x512 g broadcasts_S16x1_S16x512))

/-- The exponentials of the new keys' scores. -/
def newWeights (s : FVec Ideal S16x16 .f32) (g : FVec Ideal S16x1 .f32) : FVec Ideal S16x16 .f32 :=
  exp (subf s (broadcastTo S16x16 g broadcasts_S16x1_S16x16))

/-- One head's output from its weights: the two products' sum over the two sums' sum. -/
def quotient (p : FVec Ideal S16x512 .f32) (p' : FVec Ideal S16x16 .f32) (v : FVec Ideal S1x512x128 .f32) (v' : FVec Ideal S16x128 .f32) :
    FVec Ideal S16x128 .bf16 :=
  truncf .bf16 (divf
    (addf (matmul dot_S16x512_S512x128_S16x128_1_0_0_1_n_n none (truncf .bf16 p bitsLt_bf16_f32)
        (truncf .bf16 (shapeCast S512x128 v shapeCasts_S1x512x128_S512x128) bitsLt_bf16_f32) (constant S16x128 .f32 0x00000000#32))
      (matmul dot_S16x16_S16x128_S16x128_1_0_0_1_n_n none (truncf .bf16 p' bitsLt_bf16_f32) (truncf .bf16 v' bitsLt_bf16_f32)
        (constant S16x128 .f32 0x00000000#32)))
    (broadcastTo S16x128 (addf
      (shapeCast S16x1 (multiReduction .add [1] S16 p 0x00000000#32 reduces_S16x512_S16 (.inl rfl) rfl) shapeCasts_S16_S16x1)
      (shapeCast S16x1 (multiReduction .add [1] S16 p' 0x00000000#32 reduces_S16x16_S16 (.inl rfl) rfl) shapeCasts_S16_S16x1))
      broadcasts_S16x1_S16x128)) bitsLt_bf16_f32

/-- One head's output from its scores. -/
def cell (s : FVec Ideal S16x512 .f32) (s' : FVec Ideal S16x16 .f32) (v : FVec Ideal S1x512x128 .f32) (v' : FVec Ideal S16x128 .f32) :
    FVec Ideal S16x128 .bf16 :=
  quotient (oldWeights s (greatest s s')) (newWeights s' (greatest s s')) v v'

/-- The word of `-∞`. -/
theorem ofBits_neg_inf : Ideal.ofBits .f32 0xFF800000#32 = (⊥ : EReal) := by
  simp [Ideal.ofBits, Ideal.ieee]

/-- The scale, `128 ^ (-1/2)` as its float word reads. -/
def scale : EReal := Ideal.ofBits .f32 0x3DB504F3#32

/-- One score against the cache. -/
theorem oldScores_apply (q : FVec Ideal S16x128 .f32) (k : FVec Ideal S1x512x128 .f32) (b : FVec Ideal S1x16x512 .f32) (a : Fin 16) (c : Fin 512) :
    oldScores q k b (ix2 a c) = (∑ e : Fin 128, q (ix2 a e) * k (ix3 0 c e)) * scale + b (ix3 0 a c) := by
  unfold oldScores scale
  pointwise

/-- One score against the new keys. -/
theorem newScores_apply (q k : FVec Ideal S16x128 .f32) (b : FVec Ideal S1x16x16 .f32) (a c : Fin 16) :
    newScores q k b (ix2 a c) = (∑ e : Fin 128, q (ix2 a e) * k (ix2 c e)) * scale + b (ix3 0 a c) := by
  unfold newScores scale
  pointwise

/-- The greatest score is the greater of the two parts' greatest. -/
theorem greatest_apply (s : FVec Ideal S16x512 .f32) (s' : FVec Ideal S16x16 .f32) (a : Fin 16) (z : Fin 1) :
    greatest s s' (ix2 a z) = max (top fun c : Fin 512 => s (ix2 a c)) (top fun c : Fin 16 => s' (ix2 a c)) := by
  obtain rfl : z = 0 := Subsingleton.elim _ _
  unfold top
  rw [← ofBits_neg_inf]
  unfold greatest
  pointwise

/-- One exponential of the cache's. -/
theorem oldWeights_apply (s : FVec Ideal S16x512 .f32) (g : FVec Ideal S16x1 .f32) (a : Fin 16) (c : Fin 512) :
    oldWeights s g (ix2 a c) = Ideal.exp (s (ix2 a c) - g (ix2 a 0)) := by
  unfold oldWeights
  pointwise

/-- One exponential of the new keys'. -/
theorem newWeights_apply (s : FVec Ideal S16x16 .f32) (g : FVec Ideal S16x1 .f32) (a c : Fin 16) :
    newWeights s g (ix2 a c) = Ideal.exp (s (ix2 a c) - g (ix2 a 0)) := by
  unfold newWeights
  pointwise

/-- One entry of the quotient. -/
theorem quotient_apply (p : FVec Ideal S16x512 .f32) (p' : FVec Ideal S16x16 .f32) (v : FVec Ideal S1x512x128 .f32) (v' : FVec Ideal S16x128 .f32)
    (a : Fin 16) (d : Fin 128) :
    quotient p p' v v' (ix2 a d) = Ideal.div ((∑ c : Fin 512, p (ix2 a c) * v (ix3 0 c d)) + ∑ c : Fin 16, p' (ix2 a c) * v' (ix2 c d))
      ((∑ c : Fin 512, p (ix2 a c)) + ∑ c : Fin 16, p' (ix2 a c)) := by
  unfold quotient
  pointwise

/-- The greatest of two parts. -/
theorem top_parts {ι κ : Type*} [Fintype ι] [Fintype κ] (s : ι → EReal) (s' : κ → EReal) : top (Sum.elim s s') = max (top s) (top s') := by
  simp only [top_eq_sup]
  apply le_antisymm
  · refine Finset.sup_le fun c _ => ?_
    match c with
    | .inl c => exact le_max_of_le_left (Finset.le_sup (Finset.mem_univ c))
    | .inr c => exact le_max_of_le_right (Finset.le_sup (Finset.mem_univ c))
  · refine max_le (Finset.sup_le fun c _ => ?_) (Finset.sup_le fun c _ => ?_)
    · exact Finset.le_sup (f := Sum.elim s s') (Finset.mem_univ (Sum.inl c))
    · exact Finset.le_sup (f := Sum.elim s s') (Finset.mem_univ (Sum.inr c))

/-- One output: the average over the cached and the new keys together, divided at the end. -/
theorem cell_apply (s : FVec Ideal S16x512 .f32) (s' : FVec Ideal S16x16 .f32) (v : FVec Ideal S1x512x128 .f32) (v' : FVec Ideal S16x128 .f32)
    (a : Fin 16) (d : Fin 128) :
    cell s s' v v' (ix2 a d) = lateAverage (Sum.elim (fun c : Fin 512 => s (ix2 a c)) fun c : Fin 16 => s' (ix2 a c))
      (Sum.elim (fun c => v (ix3 0 c d)) fun c => v' (ix2 c d)) := by
  unfold cell
  rw [quotient_apply]
  simp only [oldWeights_apply, newWeights_apply, greatest_apply, ← top_parts]
  unfold lateAverage weight
  rw [Fintype.sum_sum_type, Fintype.sum_sum_type]
  rfl

/-- A column of a head. -/
def headCol (h : Fin 8) (e : Fin 128) : Fin 1024 := ⟨128 * h.val + e.val, by omega⟩

/-- A head's row in a cache whose rows are the keys' heads. -/
def cacheRow (h : Fin 8) (c : Fin 512) : Fin 4096 := ⟨8 * c.val + h.val, by omega⟩

/-- One entry of a grid point's output block. -/
def entry (x0 x1 x2 : FVec Ideal S16x1024 .f32) (x3 x4 : FVec Ideal S1x4096x128 .f32) (x5 : FVec Ideal S8x16x512 .f32) (x6 : FVec Ideal S8x16x16 .f32)
    (h : Fin 8) (a : Fin 16) (d : Fin 128) : EReal :=
  lateAverage (Sum.elim
      (fun c : Fin 512 => (∑ e : Fin 128, x0 (ix2 a (headCol h e)) * x3 (ix3 0 (cacheRow h c) e)) * scale + x5 (ix3 h a c))
      fun c : Fin 16 => (∑ e : Fin 128, x0 (ix2 a (headCol h e)) * x1 (ix2 c (headCol h e))) * scale + x6 (ix3 h a c))
    (Sum.elim (fun c => x4 (ix3 0 (cacheRow h c) d)) fun c => x2 (ix2 c (headCol h d)))

/-- The head of a column. -/
def headOf (j : Fin 1024) : Fin 8 := ⟨j.val / 128, by omega⟩

/-- The place of a column in its head. -/
def placeOf (j : Fin 1024) : Fin 128 := ⟨j.val % 128, by omega⟩

/-- A head's columns in a block. -/
abbrev cols (h : ℕ) (i : ∀ a, (![0, 128 * h] : Fin 2 → ℕ) a + (![16, 128] : Fin 2 → ℕ) a ≤ S16x1024.size a) : Rect S16x1024 :=
  Rect.unit ![0, 128 * h] ![16, 128] i
/-- A head's rows in a cache. -/
abbrev rows (h : ℕ) (i : ∀ a, (![1, 512, 128] : Fin 3 → ℕ) a = 0 ∨ (![0, h, 0] : Fin 3 → ℕ) a + (![1, 8, 1] : Fin 3 → ℕ) a * ((![1, 512, 128] : Fin 3 → ℕ) a - 1) < S1x4096x128.size a) :
    LoadRect S1x4096x128 := ⟨![0, h, 0], ![1, 512, 128], ![1, 8, 1], i⟩
/-- A head's bias against the cache. -/
abbrev oldHead (h : ℕ) (i : ∀ a, (![h, 0, 0] : Fin 3 → ℕ) a + (![1, 16, 512] : Fin 3 → ℕ) a ≤ S8x16x512.size a) : Rect S8x16x512 :=
  Rect.unit ![h, 0, 0] ![1, 16, 512] i
/-- A head's bias against the new keys. -/
abbrev newHead (h : ℕ) (i : ∀ a, (![h, 0, 0] : Fin 3 → ℕ) a + (![1, 16, 16] : Fin 3 → ℕ) a ≤ S8x16x16.size a) : Rect S8x16x16 :=
  Rect.unit ![h, 0, 0] ![1, 16, 16] i

/-- A head's payload is the block's entries at the head's columns. -/
theorem tile (x0 x1 x2 : FVec Ideal S16x1024 .f32) (x3 x4 : FVec Ideal S1x4096x128 .f32) (x5 : FVec Ideal S8x16x512 .f32)
    (x6 : FVec Ideal S8x16x16 .f32) (h : Fin 8) (i1 i2 i3 i4) (x : (cols h.val i1).shape.Idx) :
    cell (oldScores (fun y => x0 ((cols h.val i1).toLoadRect.idx y)) (fun y => x3 ((rows h.val i2).idx y)) (fun y => x5 ((oldHead h.val i3).toLoadRect.idx y)))
      (newScores (fun y => x0 ((cols h.val i1).toLoadRect.idx y)) (fun y => x1 ((cols h.val i1).toLoadRect.idx y)) (fun y => x6 ((newHead h.val i4).toLoadRect.idx y)))
      (fun y => x4 ((rows h.val i2).idx y)) (fun y => x2 ((cols h.val i1).toLoadRect.idx y)) x
    = entry x0 x1 x2 x3 x4 x5 x6 (headOf ((cols h.val i1).emb x 1)) ((cols h.val i1).emb x 0) (placeOf ((cols h.val i1).emb x 1)) := by
  obtain ⟨a, d, rfl⟩ : ∃ (a : Fin 16) (d : Fin 128), x = ix2 a d := ⟨x 0, x 1, (ix2_eta x).symm⟩
  have hc : ∀ (a : Fin 16) (e : Fin 128), (cols h.val i1).toLoadRect.idx (ix2 a e) = ix2 a (headCol h e) := fun a e => by
    refine funext fun j => Fin.ext ?_
    match j with
    | ⟨0, _⟩ => show 0 + 1 * a.val = a.val; omega
    | ⟨1, _⟩ => show 128 * h.val + 1 * e.val = 128 * h.val + e.val; omega
  have hr : ∀ (c : Fin 512) (e : Fin 128), (rows h.val i2).idx (ix3 0 c e) = ix3 0 (cacheRow h c) e := fun c e => by
    refine funext fun j => Fin.ext ?_
    match j with
    | ⟨0, _⟩ => rfl
    | ⟨1, _⟩ => show h.val + 8 * c.val = 8 * c.val + h.val; omega
    | ⟨2, _⟩ => show 0 + 1 * e.val = e.val; omega
  have ho : ∀ (a : Fin 16) (c : Fin 512), (oldHead h.val i3).toLoadRect.idx (ix3 0 a c) = ix3 h a c := fun a c => by
    refine funext fun j => Fin.ext ?_
    match j with
    | ⟨0, _⟩ => show h.val + 1 * 0 = h.val; omega
    | ⟨1, _⟩ => show 0 + 1 * a.val = a.val; omega
    | ⟨2, _⟩ => show 0 + 1 * c.val = c.val; omega
  have hn : ∀ a c : Fin 16, (newHead h.val i4).toLoadRect.idx (ix3 0 a c) = ix3 h a c := fun a c => by
    refine funext fun j => Fin.ext ?_
    match j with
    | ⟨0, _⟩ => show h.val + 1 * 0 = h.val; omega
    | ⟨1, _⟩ => show 0 + 1 * a.val = a.val; omega
    | ⟨2, _⟩ => show 0 + 1 * c.val = c.val; omega
  have e0 : (cols h.val i1).emb (ix2 a d) 0 = a := Fin.ext (by show 0 + 1 * a.val = _; omega)
  have e1 : (cols h.val i1).emb (ix2 a d) 1 = headCol h d := Fin.ext (by show 128 * h.val + 1 * d.val = 128 * h.val + d.val; omega)
  have e2 : headOf (headCol h d) = h := Fin.ext (by show (128 * h.val + d.val) / 128 = h.val; omega)
  have e3 : placeOf (headCol h d) = d := Fin.ext (by show (128 * h.val + d.val) % 128 = d.val; omega)
  rw [e0, e1, e2, e3, cell_apply]
  simp only [oldScores_apply, newScores_apply, hc, hr, ho, hn]
  rfl

variable (m : (ℓ : Loc nD τ sig) → Buf (Elt Ideal) ℓ)

/-- What a load reads of a buffer: the contents at the places loaded. -/
theorem load_eq {κ : Kind} {sp : Space} {sig' : RefSig} {S : Shape} {e : EltTy} (v : View sig' κ sp S e) (r : LoadRect S) (f : v.ty.Contents (Elt Ideal)) :
    v.readAt (Elt Ideal) r f = fun x => v.read (Elt Ideal) f (r.idx x) := rfl

/-- **A grid point's output block, entry by entry.** -/
theorem outs_apply (c : Dev nD) (t : Fin cfg0.N) (y : S16x1024.Idx) :
    outsAt0 m c t y = entry (iblk m c 0 t) (iblk m c 1 t) (iblk m c 2 t) (iblk m c 3 t) (iblk m c 4 t) (iblk m c 5 t) (iblk m c 6 t)
      (headOf (y 1)) (y 0) (placeOf (y 1)) := by
  unfold outsAt0 out0_A_7
  rw [View.read_writes_eq_canon _ _ _ (cover0_A_7 c _ _ _ _ _ _ _ _ _ _ _ _ _ _ _ _ _ _ _ _ _ _ _ _)]
  refine View.canon_apply_of_pieces (Val := Elt Ideal) (e := .bf16) (fun y : S16x1024.Idx => entry _ _ _ _ _ _ _ (headOf (y 1)) (y 0) (placeOf (y 1))) _ ?_ y
    (cover0_A_7 c _ _ _ _ _ _ _ _ _ _ _ _ _ _ _ _ _ _ _ _ _ _ _ _ y)
  unfold kernelRun0_A
  dsimp only
  sl_unfold_words
  simp only [load_eq, (hs0_0 t).read_unread, (hs0_1 t).read_unread, (hs0_2 t).read_unread, (hs0_3 t).read_unread, (hs0_4 t).read_unread, (hs0_5 t).read_unread, (hs0_6 t).read_unread]
  simp only [List.forall_mem_cons, List.not_mem_nil, false_implies, implies_true, and_true]
  refine ⟨fun x => ?_, fun x => ?_, fun x => ?_, fun x => ?_, fun x => ?_, fun x => ?_, fun x => ?_, fun x => ?_⟩
  · exact tile _ _ _ _ _ _ _ 7 _ _ _ _ x
  · exact tile _ _ _ _ _ _ _ 6 _ _ _ _ x
  · exact tile _ _ _ _ _ _ _ 5 _ _ _ _ x
  · exact tile _ _ _ _ _ _ _ 4 _ _ _ _ x
  · exact tile _ _ _ _ _ _ _ 3 _ _ _ _ x
  · exact tile _ _ _ _ _ _ _ 2 _ _ _ _ x
  · exact tile _ _ _ _ _ _ _ 1 _ _ _ _ x
  · exact tile _ _ _ _ _ _ _ 0 _ _ _ _ x

end Cert.Kernel8Ideal.Block

end
-- ==== Proof.CacheBias.lean ====
/-
  The arrays that the sample's attention reads: the two bias tables, by head, query and key the relative bias of their distance clipped
  to 128, and the caches with a key's heads as rows.
-/
module

public import proofs.«01_k».proof.Proof.Gen.Kernel8Ideal.Value
public import Idealize.ShloMosaic.Lib.Pointwise
public import Idealize.ShloMosaic.Lib.StableHlo.ReadAt

@[expose] public section

set_option maxRecDepth 16384

noncomputable section

namespace Cert.Kernel8Ideal.Bias

open Idealize.ShloMosaic Idealize.ShloMosaic.TcCoe Idealize.ShloMosaic.Tactic Cert.Kernel8Ideal.Gen Cert.Kernel8Ideal

variable (m : (ℓ : Loc nD τ sig) → Buf (Elt Ideal) ℓ)

/-- The projections. -/
abbrev rowsArg (c : Dev nD) : FVec Ideal S512x10240 .f32 := m ((c : Thread nD τ).loc main_arg0)
/-- The cached keys. -/
abbrev keysArg (c : Dev nD) : FVec Ideal S1x32x512x8x128 .f32 := m ((c : Thread nD τ).loc main_arg1)
/-- The cached values. -/
abbrev valuesArg (c : Dev nD) : FVec Ideal S1x32x512x8x128 .f32 := m ((c : Thread nD τ).loc main_arg2)
/-- The relative biases. -/
abbrev biasArg (c : Dev nD) : FVec Ideal S1x8x257 .f32 := m ((c : Thread nD τ).loc main_arg3)

/-- The relative biases from number 129 on, and then the last again, at position `k`. -/
theorem pick (x : FVec Ideal S1x8x257 .f32) (h : Fin 8) (k : Fin 527) (n : ℕ) (hn : n ≤ 256) (n' : ℕ) (hk : k.val = n') (e : n = min (n' + 129) 256) :
    (if hc : k.val < 128 then x (ix3 0 h ⟨129 + k.val, by omega⟩) else x (ix3 0 h 256)) = x (ix3 0 h ⟨n, by omega⟩) := by
  split
  · have : (⟨129 + k.val, by omega⟩ : Fin 257) = ⟨n, by omega⟩ := Fin.ext (by show 129 + k.val = n; omega)
    rw [this]
  · have : (256 : Fin 257) = ⟨n, by omega⟩ := Fin.ext (by show 256 = n; omega)
    rw [this]

/-- The table against the cache: the bias at the clipped distance. -/
theorem oldTable_apply (c : Dev nD) (h : Fin 8) (a : Fin 16) (w : Fin 512) :
    (V m c main_v12 : FVec Ideal S8x16x512 .f32) (ix3 h a w) = biasArg m c (ix3 0 h ⟨min (640 + a.val - w.val) 256, by omega⟩) := by
  have ha := a.isLt
  have hw := w.isLt
  unfold V
  after_reads_at
  have n1 : (a.val * 527 + (15 + w.val)) % 528 = 15 + w.val - a.val := by omega
  rw [dif_pos (by rw [n1]; omega)]
  after_reads_at
  have hr : (⟨(a.val * 527 + (15 + w.val)) % 528, by rw [n1]; omega⟩ : Fin 527).rev.val = 511 + a.val - w.val := by
    rw [Fin.val_rev]
    show 527 - ((a.val * 527 + (15 + w.val)) % 528 + 1) = _
    rw [n1]
    omega
  simp only [List.mem_singleton, ↓reduceIte, zero_ne_one]
  exact pick _ h _ _ (by omega) _ hr (by omega)

/-- The table against the new keys. -/
theorem newTable_apply (c : Dev nD) (h : Fin 8) (a w : Fin 16) :
    (V m c main_v21 : FVec Ideal S8x16x16 .f32) (ix3 h a w) = biasArg m c (ix3 0 h ⟨128 + a.val - w.val, by omega⟩) := by
  have ha := a.isLt
  have hw := w.isLt
  unfold V
  after_reads_at
  have n1 : (a.val * 31 + (15 + w.val)) % 32 = 15 + w.val - a.val := by omega
  rw [dif_pos (by rw [n1]; omega)]
  have hr : (⟨(a.val * 31 + (15 + w.val)) % 32, by rw [n1]; omega⟩ : Fin 31).rev.val = 15 + a.val - w.val := by
    rw [Fin.val_rev]
    show 31 - ((a.val * 31 + (15 + w.val)) % 32 + 1) = _
    rw [n1]
    omega
  simp only [List.mem_singleton, ↓reduceIte, zero_ne_one]
  refine congrArg (biasArg m c) (congrArg (ix3 0 h) (Fin.ext ?_))
  show 113 + _ = 128 + a.val - w.val
  rw [hr]
  omega

/-- The cached keys by sample, key and head together, and entry. -/
theorem keys_apply (c : Dev nD) (b : Fin 32) (k : Fin 512) (h : Fin 8) (e : Fin 128) (r : Fin 4096) (hr : r.val = 8 * k.val + h.val) :
    (V m c main_v23 : FVec Ideal S32x4096x128 .f32) (ix3 b r e) = keysArg m c (ix5 0 b k h e) := by
  unfold V
  after_reads_at
  have e1 : (⟨r.val / 8, by omega⟩ : Fin 512) = k := Fin.ext (by show r.val / 8 = k.val; omega)
  have e2 : (⟨r.val % 8, by omega⟩ : Fin 8) = h := Fin.ext (by show r.val % 8 = h.val; omega)
  rw [e1, e2]

/-- The cached values. -/
theorem values_apply (c : Dev nD) (b : Fin 32) (k : Fin 512) (h : Fin 8) (e : Fin 128) (r : Fin 4096) (hr : r.val = 8 * k.val + h.val) :
    (V m c main_v25 : FVec Ideal S32x4096x128 .f32) (ix3 b r e) = valuesArg m c (ix5 0 b k h e) := by
  unfold V
  after_reads_at
  have e1 : (⟨r.val / 8, by omega⟩ : Fin 512) = k := Fin.ext (by show r.val / 8 = k.val; omega)
  have e2 : (⟨r.val % 8, by omega⟩ : Fin 8) = h := Fin.ext (by show r.val % 8 = h.val; omega)
  rw [e1, e2]

end Cert.Kernel8Ideal.Bias

end
-- ==== Proof.CacheArray.lean ====
/-
  The sample's attention as a whole array: each grid point writes the rows of one sample, and reads its rows of the projections, its
  caches and the bias tables.
-/
module

public import proofs.«01_k».proof.Proof.CacheBlock
public import proofs.«01_k».proof.Proof.CacheBias
public import Idealize.ShloMosaic.Lib.Pipeline.ValueKit.Point

@[expose] public section

set_option maxRecDepth 16384

noncomputable section

namespace Cert.Kernel8Ideal.Array

open Idealize.ShloMosaic Idealize.ShloMosaic.TcCoe Idealize.ShloMosaic.Tactic Cert.Kernel8Ideal.Gen Cert.Kernel8Ideal Cert.Band Cert.Kernel8Ideal.Block
open Cert.Kernel8Ideal.Bias

/-- The row of `z` of query `a` of sample `b`. -/
def row (b : Fin 32) (a : Fin 16) : Fin 512 := ⟨16 * b.val + a.val, by omega⟩

/-- The column of `z` of entry `e` of head `h` in the columns from `o`. -/
def col (o : ℕ) (ho : o ≤ 2048) (h : Fin 8) (e : Fin 128) : Fin 10240 := ⟨o + (128 * h.val + e.val), by omega⟩

/-- One entry of the result in terms of the arguments. -/
def result (z : FVec Ideal S512x10240 .f32) (y y' : FVec Ideal S1x32x512x8x128 .f32) (r : FVec Ideal S1x8x257 .f32)
    (b : Fin 32) (h : Fin 8) (a : Fin 16) (d : Fin 128) : EReal :=
  lateAverage (Sum.elim
      (fun c : Fin 512 => (∑ e : Fin 128, z (ix2 (row b a) (col 0 (by omega) h e)) * y (ix5 0 b c h e)) * scale
        + r (ix3 0 h ⟨min (640 + a.val - c.val) 256, by omega⟩))
      fun c : Fin 16 => (∑ e : Fin 128, z (ix2 (row b a) (col 0 (by omega) h e)) * z (ix2 (row b c) (col 1024 (by omega) h e))) * scale
        + r (ix3 0 h ⟨128 + a.val - c.val, by omega⟩))
    (Sum.elim (fun c => y' (ix5 0 b c h d)) fun c => z (ix2 (row b c) (col 2048 (by omega) h d)))

variable (m : (ℓ : Loc nD τ sig) → Buf (Elt Ideal) ℓ)

/-- A grid point's queries. -/
theorem index0 : ∀ t : Fin cfg0.N, win0_0.index t = ![t.val, 0] := (by decide +kernel : ∀ t : Fin grid0.N, _)
/-- Its new keys. -/
theorem index1 : ∀ t : Fin cfg0.N, win0_1.index t = ![t.val, 1] := (by decide +kernel : ∀ t : Fin grid0.N, _)
/-- Its new values. -/
theorem index2 : ∀ t : Fin cfg0.N, win0_2.index t = ![t.val, 2] := (by decide +kernel : ∀ t : Fin grid0.N, _)
/-- Its cached keys. -/
theorem index3 : ∀ t : Fin cfg0.N, win0_3.index t = ![t.val, 0, 0] := (by decide +kernel : ∀ t : Fin grid0.N, _)
/-- Its cached values. -/
theorem index4 : ∀ t : Fin cfg0.N, win0_4.index t = ![t.val, 0, 0] := (by decide +kernel : ∀ t : Fin grid0.N, _)
/-- The bias against the cache, the same for all. -/
theorem index5 : ∀ t : Fin cfg0.N, win0_5.index t = ![0, 0, 0] := (by decide +kernel : ∀ t : Fin grid0.N, _)
/-- The bias against the new keys, the same for all. -/
theorem index6 : ∀ t : Fin cfg0.N, win0_6.index t = ![0, 0, 0] := (by decide +kernel : ∀ t : Fin grid0.N, _)
/-- The rows of the result that a grid point writes. -/
theorem index7 : ∀ t : Fin cfg0.N, win0_7.index t = ![t.val, 0] := (by decide +kernel : ∀ t : Fin grid0.N, _)

/-- The queries that a grid point reads. -/
theorem query_apply (c : Dev nD) (t : Fin cfg0.N) (b : Fin 32) (hb : b.val = t.val) (a : Fin 16) (h : Fin 8) (e : Fin 128) :
    (iblk m c 0 t : FVec Ideal S16x1024 .f32) (ix2 a (headCol h e)) = rowsArg m c (ix2 (row b a) (col 0 (by omega) h e)) := by
  have e1 : (row b a).val = 16 * t.val + a.val := by unfold row; simp only; omega
  have e2 : (col 0 (by omega) h e).val = (headCol h e).val := by unfold col headCol; simp only; omega
  generalize row b a = R at *
  generalize col 0 (by omega) h e = C at *
  rw [show rowsArg m c = V m c main_arg0 from (V_main_arg0 m c).symm]
  blk_ext! [iblk, index0 t]

/-- The new keys. -/
theorem key_apply (c : Dev nD) (t : Fin cfg0.N) (b : Fin 32) (hb : b.val = t.val) (a : Fin 16) (h : Fin 8) (e : Fin 128) :
    (iblk m c 1 t : FVec Ideal S16x1024 .f32) (ix2 a (headCol h e)) = rowsArg m c (ix2 (row b a) (col 1024 (by omega) h e)) := by
  have e1 : (row b a).val = 16 * t.val + a.val := by unfold row; simp only; omega
  have e2 : (col 1024 (by omega) h e).val = 1024 + (headCol h e).val := by unfold col headCol; simp only
  generalize row b a = R at *
  generalize col 1024 (by omega) h e = C at *
  rw [show rowsArg m c = V m c main_arg0 from (V_main_arg0 m c).symm]
  blk_ext! [iblk, index1 t]

/-- The new values. -/
theorem value_apply (c : Dev nD) (t : Fin cfg0.N) (b : Fin 32) (hb : b.val = t.val) (a : Fin 16) (h : Fin 8) (e : Fin 128) :
    (iblk m c 2 t : FVec Ideal S16x1024 .f32) (ix2 a (headCol h e)) = rowsArg m c (ix2 (row b a) (col 2048 (by omega) h e)) := by
  have e1 : (row b a).val = 16 * t.val + a.val := by unfold row; simp only; omega
  have e2 : (col 2048 (by omega) h e).val = 2048 + (headCol h e).val := by unfold col headCol; simp only
  generalize row b a = R at *
  generalize col 2048 (by omega) h e = C at *
  rw [show rowsArg m c = V m c main_arg0 from (V_main_arg0 m c).symm]
  blk_ext! [iblk, index2 t]

/-- The cached keys. -/
theorem oldKey_apply (c : Dev nD) (t : Fin cfg0.N) (b : Fin 32) (hb : b.val = t.val) (k : Fin 512) (h : Fin 8) (e : Fin 128) :
    (iblk m c 3 t : FVec Ideal S1x4096x128 .f32) (ix3 0 (cacheRow h k) e) = keysArg m c (ix5 0 b k h e) := by
  rw [← keys_apply m c b k h e (cacheRow h k) rfl]
  blk_ext! [iblk, index3 t]

/-- The cached values. -/
theorem oldValue_apply (c : Dev nD) (t : Fin cfg0.N) (b : Fin 32) (hb : b.val = t.val) (k : Fin 512) (h : Fin 8) (e : Fin 128) :
    (iblk m c 4 t : FVec Ideal S1x4096x128 .f32) (ix3 0 (cacheRow h k) e) = valuesArg m c (ix5 0 b k h e) := by
  rw [← values_apply m c b k h e (cacheRow h k) rfl]
  blk_ext! [iblk, index4 t]

/-- The bias against the cache. -/
theorem oldBias_apply (c : Dev nD) (t : Fin cfg0.N) (h : Fin 8) (a : Fin 16) (k : Fin 512) :
    (iblk m c 5 t : FVec Ideal S8x16x512 .f32) (ix3 h a k) = biasArg m c (ix3 0 h ⟨min (640 + a.val - k.val) 256, by omega⟩) := by
  rw [← oldTable_apply m c h a k]
  blk_ext! [iblk, index5 t]

/-- The bias against the new keys. -/
theorem newBias_apply (c : Dev nD) (t : Fin cfg0.N) (h : Fin 8) (a k : Fin 16) :
    (iblk m c 6 t : FVec Ideal S8x16x16 .f32) (ix3 h a k) = biasArg m c (ix3 0 h ⟨128 + a.val - k.val, by omega⟩) := by
  rw [← newTable_apply m c h a k]
  blk_ext! [iblk, index6 t]

/-- A grid point's entry is the result's. -/
theorem entry_apply (c : Dev nD) (t : Fin cfg0.N) (b : Fin 32) (hb : b.val = t.val) (h : Fin 8) (a : Fin 16) (d : Fin 128) :
    entry (iblk m c 0 t) (iblk m c 1 t) (iblk m c 2 t) (iblk m c 3 t) (iblk m c 4 t) (iblk m c 5 t) (iblk m c 6 t) h a d
      = result (rowsArg m c) (keysArg m c) (valuesArg m c) (biasArg m c) b h a d := by
  unfold entry result
  simp only [query_apply m c t b hb, key_apply m c t b hb, value_apply m c t b hb, oldKey_apply m c t b hb, oldValue_apply m c t b hb,
    oldBias_apply, newBias_apply]

/-- The sample of a row. -/
def sampleOf (R : Fin 512) : Fin 32 := ⟨R.val / 16, by omega⟩

/-- The place of a row in its sample. -/
def queryOf (R : Fin 512) : Fin 16 := ⟨R.val % 16, by omega⟩

/-- **The kernel's result array, in terms of its arguments.** -/
theorem array_apply (c : Dev nD) : (dats m 0 c).arrAt 7 cfg0.N
    = fun i : S512x1024.Idx => result (rowsArg m c) (keysArg m c) (valuesArg m c) (biasArg m c) (sampleOf (i 0)) (headOf (i 1)) (queryOf (i 0)) (placeOf (i 1)) := by
  refine (dats m 0 c).arrAt_eq_of_covers 7 _ (by decide +kernel) fun t hf y => ?_
  blk_simp
  rw [after0_7, outs_apply]
  obtain ⟨a, d, rfl⟩ : ∃ (a : Fin 16) (d : Fin 1024), y = ix2 a d := ⟨y 0, y 1, (ix2_eta y).symm⟩
  have ht : t.val < 32 := t.isLt
  have ha := a.isLt
  have p0 : (win0_7.blk t).view.emb (ix2 a d) 0 = row ⟨t.val, ht⟩ a := Fin.ext (by
    show _ = 16 * t.val + a.val
    blk_simp [index7 t]; omega)
  have p1 : (win0_7.blk t).view.emb (ix2 a d) 1 = d := Fin.ext (by
    blk_simp [index7 t])
  have q0 : sampleOf (row ⟨t.val, ht⟩ a) = ⟨t.val, ht⟩ := Fin.ext (by show (16 * t.val + a.val) / 16 = t.val; omega)
  have q1 : queryOf (row ⟨t.val, ht⟩ a) = a := Fin.ext (by show (16 * t.val + a.val) % 16 = a.val; omega)
  refine (entry_apply m c t ⟨t.val, ht⟩ rfl (headOf d) a (placeOf d)).trans ?_
  rw [p0, p1, q0, q1]

end Cert.Kernel8Ideal.Array

end
-- ==== Proof.CacheReading.lean ====
/-
  The sample's reference at a row and a column: the softmax average over the cached keys and the new ones. Every key is in the band
  of chunks of every query, so the mask is nowhere used.
-/
module

public import proofs.«01_k».proof.Proof.Gen.Reference8Ideal.Read
public import proofs.«01_k».proof.Proof.Clip
public import proofs.«01_k».proof.Proof.Softmax
public import Idealize.ShloMosaic.Lib.Pointwise

@[expose] public section

set_option maxRecDepth 16384

noncomputable section

namespace Cert.Reference8Ideal.Reading

open Idealize.ShloMosaic Idealize.ShloMosaic.TcCoe Idealize.ShloMosaic.Tactic Cert.Reference8Ideal.Gen Cert.Reference8Ideal Cert.Reference8Ideal.Read Cert.Band

/-- The scale, `128 ^ (-1/2)` as its float word reads. -/
def scale : EReal := Ideal.ofBits .f32 0x3DB504F3#32

/-- A query's position. -/
theorem queryPlace_apply (a : Fin 16) : val_main_v12 (F := Ideal) (ix1 a) = BitVec.ofNat 32 (4096 + a.val) := by
  rw [val_main_v12_apply, val_main_v11_apply, val_main_v10_apply, BitVec.ofNat_add]
  rfl

/-- A key's position. -/
theorem keyPlace_apply (k : Fin 528) : val_main_v15 (F := Ideal) (ix1 k) = BitVec.ofNat 32 (3584 + k.val) := by
  rw [val_main_v15_apply, val_main_v14_apply, val_main_v13_apply, BitVec.ofNat_add]
  rfl

/-- A query's chunk. -/
theorem queryChunk_apply (a : Fin 16) : val_main_v38 (F := Ideal) (ix1 a) = BitVec.ofNat 32 ((4096 + a.val) / 64) := by
  rw [← floorWord_eq _ (by omega), ← queryPlace_apply]
  unfold val_main_v38 val_main_call1_v11 val_main_call1_v6 val_main_call1_v5 val_main_call1_v4 val_main_call1_v3
    val_main_call1_v10 val_main_call1_v9 val_main_call1_v8 val_main_call1_v7 val_main_call1_v13 val_main_call1_v12 val_main_call1_v2
    val_main_call1_v1 val_main_call1_v0 val_main_c_6
  rfl

/-- A key's chunk. -/
theorem keyChunk_apply (k : Fin 528) : val_main_v39 (F := Ideal) (ix1 k) = BitVec.ofNat 32 ((3584 + k.val) / 64) := by
  rw [← floorWord_eq _ (by omega), ← keyPlace_apply]
  unfold val_main_v39 val_main_call2_v11 val_main_call2_v6 val_main_call2_v5 val_main_call2_v4 val_main_call2_v3
    val_main_call2_v10 val_main_call2_v9 val_main_call2_v8 val_main_call2_v7 val_main_call2_v13 val_main_call2_v12 val_main_call2_v2
    val_main_call2_v1 val_main_call2_v0 val_main_c_7
  rfl

/-- The index of the relative bias of a query and a key. -/
theorem distance_apply (a : Fin 16) (k : Fin 528) : val_main_v32 (F := Ideal) (ix2 a k) = BitVec.ofNat 32 (min (640 + a.val - k.val) 256) := by
  have n : min (4096 + a.val + 128 - (3584 + k.val)) 256 = min (640 + a.val - k.val) 256 := by omega
  have e : val_main_v26 (F := Ideal) (ix2 a k) = BitVec.ofNat 32 (min (640 + a.val - k.val) 256) := by
    rw [← n, ← clipWord_eq _ _ (by omega) (by omega), ← queryPlace_apply, ← keyPlace_apply]
    simp only [val_main_v26_apply, val_main_v24_apply, val_main_call0_v4_apply, val_main_call0_v2_apply, val_main_call0_v1_apply,
      val_main_v23_apply, val_main_v21_apply, val_main_v22_apply, val_main_v19_apply, val_main_v20_apply, val_main_v25_apply]
    have i1 : idx_main_v19 (idx_main_v21 (ix2 a k)) = ix1 a := funext fun j => Fin.ext (by match j with | ⟨0, _⟩ => rfl)
    have i2 : idx_main_v20 (idx_main_v22 (ix2 a k)) = ix1 k := funext fun j => Fin.ext (by match j with | ⟨0, _⟩ => rfl)
    rw [i1, i2]
    rfl
  rw [val_main_v32_apply, val_main_v31_apply, val_main_v29_apply, e, val_main_v28_apply, val_main_v30_apply]
  exact wrap_eq _ (by omega)

/-- The mask lets every key through. -/
theorem mask_apply (a : Fin 16) (k : Fin 528) : val_main_v57 (F := Ideal) (ix2 a k) = 1#1 := by
  have ha := a.isLt
  have hk := k.isLt
  rw [val_main_v57_apply, val_main_v49_apply, val_main_v48_apply, val_main_v47_apply, val_main_v56_apply, val_main_v42_apply, val_main_v45_apply,
    val_main_v46_apply, val_main_v54_apply, val_main_v55_apply, val_main_v40_apply, val_main_v41_apply, val_main_v43_apply, val_main_v44_apply,
    val_main_v50_apply, val_main_v53_apply, val_main_v51_apply, val_main_v52_apply]
  have p1 := sge_small (3584 + k.val) 0 (by omega) (by omega)
  have p2 := sle_small ((3584 + k.val) / 64) ((4096 + a.val) / 64) (by omega) (by omega)
  have p3 := sge_sub ((3584 + k.val) / 64) ((4096 + a.val) / 64) (by omega) (by omega)
  rw [decide_eq_true (by omega), ← keyPlace_apply] at p1
  rw [decide_eq_true (by omega), ← keyChunk_apply, ← queryChunk_apply] at p2
  rw [decide_eq_true (by omega), ← keyChunk_apply, ← queryChunk_apply] at p3
  exact (congrArg₂ IntOp.andi (congrArg₂ IntOp.andi p1 p2) p3).trans (by decide)

/-- The relative bias taken from the table of a head at an index. -/
theorem gather_apply (b : FVec Ideal S1x8x257 .f32) (h : Fin 8) (t : Fin 16) (k : Fin 528) :
    val_main_v34 (F := Ideal) b (ix3 h t k) = b (ix3 0 h ⟨min (640 + t.val - k.val) 256, by omega⟩) := by
  unfold val_main_v34
  have e : val_main_v33 (F := Ideal) (ix3 t k 0) = BitVec.ofNat 32 (min (640 + t.val - k.val) 256) := by
    rw [val_main_v33_apply, ← distance_apply t k]
    rfl
  have hx : ∀ j : Fin 257, val_main_v27 (F := Ideal) b (ix2 h j) = b (ix3 0 h j) := fun j => by
    rw [val_main_v27_apply]
    refine congrArg b (funext fun a => Fin.ext ?_)
    match a with
    | ⟨0, _⟩ => rfl
    | ⟨1, _⟩ => show (h.val * 257 + j.val) / 257 % 8 = h.val; omega
    | ⟨2, _⟩ => show (h.val * 257 + j.val) % 257 = j.val; omega
  rw [← hx]
  generalize val_main_v27 (F := Ideal) b = x
  generalize val_main_v33 (F := Ideal) = w at e
  unfold Host.gather
  refine congrArg x (funext fun a => Fin.ext ?_)
  show gather_S8x257_S16x528x1_S8x16x528_0_1_n_n_1_2_81.start _ w a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show (0 : Fin 2) ∉ gather_S8x257_S16x528x1_S8x16x528_0_1_n_n_1_2_81.startIndexMap by decide)]
    rw [dif_pos (show (0 : Fin 2) ∈ gather_S8x257_S16x528x1_S8x16x528_0_1_n_n_1_2_81.sKept by decide)]
    show 0 + 0 + h.val = h.val
    omega
  · rw [GatherDims.offCoord_eq_zero _ _ _ (fun h => ((GatherDims.mem_sKept _ _).mp h).1 (List.mem_singleton.mpr rfl))]
    unfold GatherDims.start
    rw [dif_pos (show (1 : Fin 2) ∈ gather_S8x257_S16x528x1_S8x16x528_0_1_n_n_1_2_81.startIndexMap from List.mem_singleton.mpr rfl)]
    rw [show gather_S8x257_S16x528x1_S8x16x528_0_1_n_n_1_2_81.siIdx (ix3 h t k)
        ⟨List.idxOf (1 : Fin 2) gather_S8x257_S16x528x1_S8x16x528_0_1_n_n_1_2_81.startIndexMap,
          List.idxOf_lt_length_iff.2 (List.mem_singleton.mpr rfl)⟩ = ix3 t k 0 from funext fun b => Fin.ext (by
        match b with
        | ⟨0, _⟩ => rfl
        | ⟨1, _⟩ => rfl
        | ⟨2, _⟩ => rfl), e, toInt_small _ (by omega)]
    show min (min (640 + t.val - k.val) 256) 256 + 0 + 0 = min (640 + t.val - k.val) 256
    omega

/-- The row of query `a` of sample `b`. -/
def row (b : Fin 32) (a : Fin 16) : Fin 512 := ⟨16 * b.val + a.val, by omega⟩

/-- The column of entry `e` of head `h` in the columns from `o`. -/
def col (o : ℕ) (ho : o ≤ 2048) (h : Fin 8) (e : Fin 128) : Fin 10240 := ⟨o + (128 * h.val + e.val), by omega⟩

/-- The cached rows with the new ones behind them. -/
def joined (z : FVec Ideal S512x10240 .f32) (y : FVec Ideal S1x32x512x8x128 .f32) (o : ℕ) (ho : o ≤ 2048) (b : Fin 32) (k : Fin 528) (h : Fin 8) (e : Fin 128) :
    EReal :=
  if hk : k.val < 512 then y (ix5 0 b ⟨k.val, hk⟩ h e) else z (ix2 (row b ⟨k.val - 512, by omega⟩) (col o ho h e))

/-- The score of a query and a key. -/
def score (z : FVec Ideal S512x10240 .f32) (y : FVec Ideal S1x32x512x8x128 .f32) (r : FVec Ideal S1x8x257 .f32) (b : Fin 32) (h : Fin 8) (a : Fin 16)
    (k : Fin 528) : EReal :=
  (∑ e : Fin 128, z (ix2 (row b a) (col 0 (by omega) h e)) * joined z y 1024 (by omega) b k h e) * scale
    + r (ix3 0 h ⟨min (640 + a.val - k.val) 256, by omega⟩)

/-- The queries by sample, place, head and entry. -/
theorem query_apply (z : FVec Ideal S512x10240 .f32) (b : Fin 32) (a : Fin 16) (h : Fin 8) (e : Fin 128) :
    val_main_v1 (F := Ideal) z (ix4 b a h e) = z (ix2 (row b a) (col 0 (by omega) h e)) := by
  rw [val_main_v1_apply, val_main_v0_apply]
  refine congrArg z (funext fun j => Fin.ext ?_)
  match j with
  | ⟨0, _⟩ => show (((b.val * 16 + a.val) * 8 + h.val) * 128 + e.val) / 1024 = 16 * b.val + a.val; omega
  | ⟨1, _⟩ => show (((b.val * 16 + a.val) * 8 + h.val) * 128 + e.val) % 1024 = 0 + (128 * h.val + e.val); omega

/-- The new keys. -/
theorem newKey_apply (z : FVec Ideal S512x10240 .f32) (b : Fin 32) (a : Fin 16) (h : Fin 8) (e : Fin 128) :
    val_main_v3 (F := Ideal) z (ix4 b a h e) = z (ix2 (row b a) (col 1024 (by omega) h e)) := by
  rw [val_main_v3_apply, val_main_v2_apply]
  refine congrArg z (funext fun j => Fin.ext ?_)
  match j with
  | ⟨0, _⟩ => show (((b.val * 16 + a.val) * 8 + h.val) * 128 + e.val) / 1024 = 16 * b.val + a.val; omega
  | ⟨1, _⟩ => show 1024 + (((b.val * 16 + a.val) * 8 + h.val) * 128 + e.val) % 1024 = 1024 + (128 * h.val + e.val); omega

/-- The new values. -/
theorem newValue_apply (z : FVec Ideal S512x10240 .f32) (b : Fin 32) (a : Fin 16) (h : Fin 8) (e : Fin 128) :
    val_main_v5 (F := Ideal) z (ix4 b a h e) = z (ix2 (row b a) (col 2048 (by omega) h e)) := by
  rw [val_main_v5_apply, val_main_v4_apply]
  refine congrArg z (funext fun j => Fin.ext ?_)
  match j with
  | ⟨0, _⟩ => show (((b.val * 16 + a.val) * 8 + h.val) * 128 + e.val) / 1024 = 16 * b.val + a.val; omega
  | ⟨1, _⟩ => show 2048 + (((b.val * 16 + a.val) * 8 + h.val) * 128 + e.val) % 1024 = 2048 + (128 * h.val + e.val); omega

/-- A cached row, whose leading axis of length one is dropped. -/
theorem cached_apply (y : FVec Ideal S1x32x512x8x128 .f32) (b : Fin 32) (k : Fin 512) (h : Fin 8) (e : Fin 128) :
    val_main_v6 (F := Ideal) y (ix4 b k h e) = y (ix5 0 b k h e) := by
  rw [val_main_v6_apply]
  refine congrArg y (funext fun j => Fin.ext ?_)
  match j with
  | ⟨0, _⟩ => rfl
  | ⟨1, _⟩ => show (((b.val * 512 + k.val) * 8 + h.val) * 128 + e.val) / 524288 % 32 = b.val; omega
  | ⟨2, _⟩ => show (((b.val * 512 + k.val) * 8 + h.val) * 128 + e.val) / 1024 % 512 = k.val; omega
  | ⟨3, _⟩ => show (((b.val * 512 + k.val) * 8 + h.val) * 128 + e.val) / 128 % 8 = h.val; omega
  | ⟨4, _⟩ => show (((b.val * 512 + k.val) * 8 + h.val) * 128 + e.val) % 128 = e.val; omega

/-- Cached and new rows in one. -/
theorem concat_apply (x : FVec Ideal S32x512x8x128 .f32) (x' : FVec Ideal S32x16x8x128 .f32) (b : Fin 32) (k : Fin 528) (h : Fin 8) (e : Fin 128) :
    concatenate S32x528x8x128 1 [⟨S32x512x8x128, x⟩, ⟨S32x16x8x128, x'⟩] concatenates_S32x512x8x128_S32x16x8x128_S32x528x8x128_d1 (ix4 b k h e)
      = if hk : k.val < 512 then x (ix4 b ⟨k.val, hk⟩ h e) else x' (ix4 b ⟨k.val - 512, by omega⟩ h e) := by
  pointwise

/-- The keys. -/
theorem key_apply (z : FVec Ideal S512x10240 .f32) (y : FVec Ideal S1x32x512x8x128 .f32) (b : Fin 32) (k : Fin 528) (h : Fin 8) (e : Fin 128) :
    val_main_v7 (F := Ideal) z y (ix4 b k h e) = joined z y 1024 (by omega) b k h e := by
  unfold val_main_v7
  rw [concat_apply]
  simp only [cached_apply, newKey_apply]
  rfl

/-- The values. -/
theorem value_apply (z : FVec Ideal S512x10240 .f32) (y : FVec Ideal S1x32x512x8x128 .f32) (b : Fin 32) (k : Fin 528) (h : Fin 8) (e : Fin 128) :
    val_main_v9 (F := Ideal) z y (ix4 b k h e) = joined z y 2048 (by omega) b k h e := by
  unfold val_main_v9
  rw [concat_apply, show val_main_v8 (F := Ideal) y = val_main_v6 (F := Ideal) y from rfl]
  simp only [cached_apply, newValue_apply]
  rfl

/-- The word of `-∞`. -/
theorem neg_inf : Ideal.ofBits .f32 0xFF800000#32 = (⊥ : EReal) := by
  simp [Ideal.ofBits, Ideal.ieee]

variable (z : FVec Ideal S512x10240 .f32) (y y' : FVec Ideal S1x32x512x8x128 .f32) (r : FVec Ideal S1x8x257 .f32)

/-- The scores. -/
theorem score_apply (b : Fin 32) (h : Fin 8) (a : Fin 16) (k : Fin 528) : val_main_v59 (F := Ideal) z y r (ix4 b h a k) = score z y r b h a k := by
  have e1 : val_main_call3_v1 (F := Ideal) (ix4 b h a k) = 1#1 := by
    rw [val_main_call3_v1_apply, val_main_v58_apply, ← mask_apply a k]
    rfl
  have e2 : val_main_v36 (F := Ideal) r (ix4 b h a k) = r (ix3 0 h ⟨min (640 + a.val - k.val) 256, by omega⟩) := by
    rw [val_main_v36_apply, val_main_v35_apply, ← gather_apply r h a k]
    refine congrArg _ (funext fun j => Fin.ext ?_)
    match j with
    | ⟨0, _⟩ => rfl
    | ⟨1, _⟩ => rfl
    | ⟨2, _⟩ => rfl
  have e3 : val_main_v16 (F := Ideal) z y (ix4 b h a k)
      = ∑ e : Fin 128, z (ix2 (row b a) (col 0 (by omega) h e)) * joined z y 1024 (by omega) b k h e := by
    rw [val_main_v16_apply]
    refine Finset.sum_congr rfl fun e _ => ?_
    rw [← query_apply z b a h e, ← key_apply z y b k h e]
    refine congrArg₂ (fun i j => val_main_v1 (F := Ideal) z i * val_main_v7 (F := Ideal) z y j) (funext fun j => Fin.ext ?_) (funext fun j => Fin.ext ?_)
    · match j with
      | ⟨0, _⟩ => rfl
      | ⟨1, _⟩ => rfl
      | ⟨2, _⟩ => rfl
      | ⟨3, _⟩ => rfl
    · match j with
      | ⟨0, _⟩ => rfl
      | ⟨1, _⟩ => rfl
      | ⟨2, _⟩ => rfl
      | ⟨3, _⟩ => rfl
  have e4 : val_main_v17 (F := Ideal) (ix4 b h a k) = scale := by
    rw [val_main_v17_apply]
    rfl
  rw [val_main_v59_apply, e1, val_main_v37_apply, val_main_v18_apply, e2, e3, e4]
  rfl

/-- The greatest score of a query. -/
theorem top_apply (b : Fin 32) (h : Fin 8) (a : Fin 16) : val_main_v62 (F := Ideal) z y r (ix3 b h a) = top (score z y r b h a) := by
  have e : val_main_v60 (F := Ideal) z y r (ix3 b h a) = Finset.univ.fold max (Ideal.ofBits .f32 0xFF800000#32) (score z y r b h a) := by
    unfold val_main_v60
    rw [show score z y r b h a = fun k => val_main_v59 (F := Ideal) z y r (ix4 b h a k) from funext fun k => (score_apply z y r b h a k).symm]
    generalize val_main_v59 (F := Ideal) z y r = x
    simp only [pointwise]
    rfl
  have e' : val_main_v61 (F := Ideal) (ix3 b h a) = ⊥ := by
    rw [val_main_v61_apply, ← neg_inf]
    rfl
  rw [val_main_v62_apply, e, e', neg_inf]
  exact max_eq_right bot_le

/-- The weights before the division. -/
theorem weight_apply (b : Fin 32) (h : Fin 8) (a : Fin 16) (k : Fin 528) :
    val_main_v66 (F := Ideal) z y r (ix4 b h a k) = weight (score z y r b h a) k := by
  have e : val_main_v64 (F := Ideal) z y r (ix4 b h a k) = top (score z y r b h a) := by
    rw [val_main_v64_apply, val_main_v63_apply, ← top_apply]
    refine congrArg _ (funext fun j => Fin.ext ?_)
    match j with
    | ⟨0, _⟩ => rfl
    | ⟨1, _⟩ => rfl
    | ⟨2, _⟩ => rfl
  rw [val_main_v66_apply, val_main_v65_apply, e, score_apply]
  rfl

/-- The softmax. -/
theorem softmax_apply (b : Fin 32) (h : Fin 8) (a : Fin 16) (k : Fin 528) :
    val_main_v70 (F := Ideal) z y r (ix4 b h a k) = Ideal.div (weight (score z y r b h a) k) (∑ j, weight (score z y r b h a) j) := by
  have e : val_main_v69 (F := Ideal) z y r (ix4 b h a k) = ∑ j, weight (score z y r b h a) j := by
    rw [val_main_v69_apply, val_main_v68_apply, val_main_v67_apply]
    refine (congrArg₂ (· + ·) (show _ = (0 : EReal) from Ideal.ofBits_zero .f32) (Finset.sum_congr rfl fun j _ => ?_)).trans (zero_add _)
    rw [← weight_apply]
    refine congrArg _ (funext fun j => Fin.ext ?_)
    match j with
    | ⟨0, _⟩ => rfl
    | ⟨1, _⟩ => rfl
    | ⟨2, _⟩ => rfl
    | ⟨3, _⟩ => rfl
  rw [val_main_v70_apply, e, weight_apply]
  rfl

/-- The reference at the row of query `a` of sample `b` and the column of entry `d` of head `h`. -/
theorem result_apply (b : Fin 32) (h : Fin 8) (a : Fin 16) (d : Fin 128)
    (i : S512x1024.Idx) (h0 : (i 0).val = 16 * b.val + a.val) (h1 : (i 1).val = 128 * h.val + d.val) :
    val_main_v74 (F := Ideal) z y y' r i = average (score z y r b h a) (fun k => joined z y' 2048 (by omega) b k h d) := by
  rw [val_main_v74_apply]
  show val_main_v73 (F := Ideal) z y y' r i = _
  rw [val_main_v73_apply, val_main_v72_apply, val_main_v71_apply]
  unfold average
  refine Finset.sum_congr rfl fun k _ => ?_
  beta_reduce
  rw [mul_comm, ← value_apply z y' b k h d, ← softmax_apply z y r b h a k]
  refine congrArg₂ (fun i j => val_main_v70 (F := Ideal) z y r i * val_main_v9 (F := Ideal) z y' j) (funext fun j => Fin.ext ?_) (funext fun j => Fin.ext ?_)
  · match j with
    | ⟨0, _⟩ => show ((i 0).val * 1024 + (i 1).val) / 16384 = b.val; omega
    | ⟨1, _⟩ => show ((i 0).val * 1024 + (i 1).val) / 128 % 8 = h.val; omega
    | ⟨2, _⟩ => show ((i 0).val * 1024 + (i 1).val) / 1024 % 16 = a.val; omega
    | ⟨3, _⟩ => rfl
  · match j with
    | ⟨0, _⟩ => show ((i 0).val * 1024 + (i 1).val) / 16384 = b.val; omega
    | ⟨1, _⟩ => rfl
    | ⟨2, _⟩ => show ((i 0).val * 1024 + (i 1).val) / 128 % 8 = h.val; omega
    | ⟨3, _⟩ => show ((i 0).val * 1024 + (i 1).val) % 128 = d.val; omega

end Cert.Reference8Ideal.Reading

end
-- ==== Proof.CacheEquation.lean ====
/-
  The sample's attention is the reference's, for finite projections, cached keys and biases.
-/
module

public import proofs.«01_k».proof.Defs
public import proofs.«01_k».proof.Proof.CacheArray
public import proofs.«01_k».proof.Proof.CacheReading
public import proofs.«01_k».proof.Proof.Equation

@[expose] public section

set_option maxRecDepth 16384

noncomputable section

namespace Cert.Kernel8Ideal.Equation

open Idealize.ShloMosaic Idealize.ShloMosaic.TcCoe Cert.Band Cert.Reference8Ideal.Reading

/-- An array whose entries' absolute values all compare below `+∞` is one of real numbers. -/
theorem real_array {S : Shape} (x : FVec Ideal S .f32) (h : ∀ i, Ideal.cmp .olt (max (x i) (-(x i))) (Ideal.ofBits .f32 0x7F800000#32) = 1#1) :
    ∃ f : S.Idx → ℝ, ∀ i, x i = (f i : EReal) :=
  ⟨fun i => Classical.choose (real_of_below (x i) (h i)), fun i => Classical.choose_spec (real_of_below (x i) (h i))⟩

/-- Cached and new keys together are real. -/
theorem joined_real (z : FVec Ideal Cert.Reference8Ideal.S512x10240 .f32) (y : FVec Ideal Cert.Reference8Ideal.S1x32x512x8x128 .f32)
    (zr : Cert.Reference8Ideal.S512x10240.Idx → ℝ) (hz : ∀ i, z i = (zr i : EReal))
    (yr : Cert.Reference8Ideal.S1x32x512x8x128.Idx → ℝ) (hy : ∀ i, y i = (yr i : EReal))
    (b : Fin 32) (k : Fin 528) (h : Fin 8) : ∃ f : Fin 128 → ℝ, ∀ e, joined z y 1024 (by omega) b k h e = (f e : EReal) := by
  by_cases hk : k.val < 512
  · exact ⟨fun e => yr (ix5 0 b ⟨k.val, hk⟩ h e), fun e => by unfold joined; rw [dif_pos hk, hy]⟩
  · exact ⟨fun e => zr (ix2 (row b ⟨k.val - 512, by omega⟩) (col 1024 (by omega) h e)), fun e => by unfold joined; rw [dif_neg hk, hz]⟩

/-- A score of finite inputs is real. -/
theorem score_real (z : FVec Ideal Cert.Reference8Ideal.S512x10240 .f32) (y : FVec Ideal Cert.Reference8Ideal.S1x32x512x8x128 .f32)
    (r : FVec Ideal Cert.Reference8Ideal.S1x8x257 .f32)
    (zr : Cert.Reference8Ideal.S512x10240.Idx → ℝ) (hz : ∀ i, z i = (zr i : EReal))
    (yr : Cert.Reference8Ideal.S1x32x512x8x128.Idx → ℝ) (hy : ∀ i, y i = (yr i : EReal))
    (rr : Cert.Reference8Ideal.S1x8x257.Idx → ℝ) (hr : ∀ i, r i = (rr i : EReal))
    (b : Fin 32) (h : Fin 8) (a : Fin 16) (k : Fin 528) : ∃ x : ℝ, score z y r b h a k = (x : EReal) := by
  obtain ⟨sr, hs⟩ := scale_real
  obtain ⟨f, hf⟩ := joined_real z y zr hz yr hy b k h
  refine ⟨(∑ e, zr (ix2 (row b a) (col 0 (by omega) h e)) * f e) * sr + rr (ix3 0 h ⟨min (640 + a.val - k.val) 256, by omega⟩), ?_⟩
  unfold score
  rw [EReal.coe_add, hr]
  exact congrArg (· + _) (scaled_sum (fun e => z (ix2 (row b a) (col 0 (by omega) h e))) (fun e => joined z y 1024 (by omega) b k h e)
    Cert.ReferenceIdeal.Reading.scale _ f sr (fun e => hz _) hf hs).2

/-- The key among all of a cached or a new key. -/
def keyOf : Fin 512 ⊕ Fin 16 → Fin 528 := Sum.elim (fun c => ⟨c.val, by omega⟩) fun c => ⟨512 + c.val, by omega⟩

/-- A new row among all rows. -/
theorem joined_new (z : FVec Ideal Cert.Reference8Ideal.S512x10240 .f32) (y : FVec Ideal Cert.Reference8Ideal.S1x32x512x8x128 .f32) (o : ℕ) (ho : o ≤ 2048)
    (b : Fin 32) (c : Fin 16) (h : Fin 8) (e : Fin 128) : joined z y o ho b (keyOf (Sum.inr c)) h e = z (ix2 (row b c) (col o ho h e)) := by
  have hk : (keyOf (Sum.inr c)).val = 512 + c.val := rfl
  unfold joined
  rw [dif_neg (by omega)]
  exact congrArg z (congrArg (fun j => ix2 (row b j) (col o ho h e)) (Fin.ext (by show (keyOf (Sum.inr c)).val - 512 = c.val; omega)))

/-- A cached row among all rows. -/
theorem joined_old (z : FVec Ideal Cert.Reference8Ideal.S512x10240 .f32) (y : FVec Ideal Cert.Reference8Ideal.S1x32x512x8x128 .f32) (o : ℕ) (ho : o ≤ 2048)
    (b : Fin 32) (c : Fin 512) (h : Fin 8) (e : Fin 128) : joined z y o ho b (keyOf (Sum.inl c)) h e = y (ix5 0 b c h e) := by
  have hk : (keyOf (Sum.inl c)).val = c.val := rfl
  unfold joined
  rw [dif_pos (by omega)]
  rfl

/-- One entry: the late average over cached and new keys is the reference's average over all. -/
theorem entry_eq (z : FVec Ideal Cert.Reference8Ideal.S512x10240 .f32) (y y' : FVec Ideal Cert.Reference8Ideal.S1x32x512x8x128 .f32)
    (r : FVec Ideal Cert.Reference8Ideal.S1x8x257 .f32)
    (zr : Cert.Reference8Ideal.S512x10240.Idx → ℝ) (hz : ∀ i, z i = (zr i : EReal))
    (yr : Cert.Reference8Ideal.S1x32x512x8x128.Idx → ℝ) (hy : ∀ i, y i = (yr i : EReal))
    (rr : Cert.Reference8Ideal.S1x8x257.Idx → ℝ) (hr : ∀ i, r i = (rr i : EReal))
    (b : Fin 32) (h : Fin 8) (a : Fin 16) (d : Fin 128) :
    Cert.Kernel8Ideal.Array.result z y y' r b h a d = average (score z y r b h a) (fun k => joined z y' 2048 (by omega) b k h d) := by
  have ha := a.isLt
  unfold Cert.Kernel8Ideal.Array.result
  refine average_window _ _ _ _ (fun _ => True) keyOf ?_ ?_ ?_ ?_ ?_ ?_ 0 ?_
  · intro c c' _ _ e
    have e := congrArg Fin.val e
    match c, c' with
    | .inl c, .inl c' => exact congrArg Sum.inl (Fin.ext e)
    | .inl c, .inr c' => have e : c.val = 512 + c'.val := e; omega
    | .inr c, .inl c' => have e : 512 + c.val = c'.val := e; omega
    | .inr c, .inr c' => have e : 512 + c.val = 512 + c'.val := e; exact congrArg Sum.inr (Fin.ext (by omega))
  · intro c _
    match c with
    | .inl c =>
      unfold score
      simp only [joined_old]
      rfl
    | .inr c =>
      have hc := c.isLt
      unfold score
      simp only [joined_new]
      refine congrArg₂ (· + ·) rfl (congrArg r (congrArg (ix3 0 h) (Fin.ext ?_)))
      show 128 + a.val - c.val = min (640 + a.val - (512 + c.val)) 256
      omega
  · intro c _
    match c with
    | .inl c => exact (joined_old z y' 2048 (by omega) b c h d).symm
    | .inr c => exact (joined_new z y' 2048 (by omega) b c h d).symm
  · exact fun c hc => absurd trivial hc
  · intro k hk
    by_cases hlt : k.val < 512
    · exact absurd (Fin.ext rfl) (hk (Sum.inl ⟨k.val, hlt⟩) trivial)
    · exact absurd (Fin.ext (by show 512 + (k.val - 512) = k.val; omega)) (hk (Sum.inr ⟨k.val - 512, by omega⟩) trivial)
  · intro k
    obtain ⟨x, hx⟩ := score_real z y r zr hz yr hy rr hr b h a k
    rw [hx]
    exact EReal.coe_ne_top _
  · obtain ⟨x, hx⟩ := score_real z y r zr hz yr hy rr hr b h a 0
    rw [hx]
    exact EReal.coe_ne_bot _

/-- The kernel's result is the reference's. -/
theorem values_eq [Cert.Pre_finite_cache.Facts] (m : (ℓ : Loc Cert.Kernel8Ideal.nD Cert.Kernel8Ideal.τ Cert.Kernel8Ideal.sig) → Buf (Elt Ideal) ℓ)
    (hm : Cert.Pre_Kernel8Ideal_finite_cache m) (c : Dev Cert.Kernel8Ideal.nD) :
    (Cert.Kernel8Ideal.Gen.dats m 0 c).arrAt 7 Cert.Kernel8Ideal.cfg0.N
      = Cert.Reference8Ideal.Read.val_main_v74 (F := Ideal) (Cert.Kernel8Ideal.Bias.rowsArg m c) (Cert.Kernel8Ideal.Bias.keysArg m c)
          (Cert.Kernel8Ideal.Bias.valuesArg m c) (Cert.Kernel8Ideal.Bias.biasArg m c) := by
  obtain ⟨zr, hz⟩ := real_array (Cert.Kernel8Ideal.Bias.rowsArg m c) fun i => congrFun (hm c).1 i
  obtain ⟨yr, hy⟩ := real_array (Cert.Kernel8Ideal.Bias.keysArg m c) fun i => congrFun (hm c).2.1 i
  obtain ⟨rr, hr⟩ := real_array (Cert.Kernel8Ideal.Bias.biasArg m c) fun i => congrFun (hm c).2.2 i
  refine (Cert.Kernel8Ideal.Array.array_apply m c).trans (funext fun i => ?_)
  have hi0 : (i 0).val < 512 := (i 0).isLt
  have hi1 : (i 1).val < 1024 := (i 1).isLt
  rw [Cert.Reference8Ideal.Reading.result_apply _ _ _ _ (Cert.Kernel8Ideal.Array.sampleOf (i 0)) (Cert.Kernel8Ideal.Block.headOf (i 1))
    (Cert.Kernel8Ideal.Array.queryOf (i 0)) (Cert.Kernel8Ideal.Block.placeOf (i 1)) i
    (by show (i 0).val = 16 * ((i 0).val / 16) + (i 0).val % 16; omega) (by show (i 1).val = 128 * ((i 1).val / 128) + (i 1).val % 128; omega)]
  exact entry_eq _ _ _ _ zr hz yr hy rr hr _ _ _ _

end Cert.Kernel8Ideal.Equation

end
-- ==== Proof.lean ====
/- The proof of the certificate's claim: the frames, the named constants, and the equation of the values. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Equation
public import proofs.«01_k».proof.Proof.InprojFrame
public import proofs.«01_k».proof.Proof.InprojEquation
public import proofs.«01_k».proof.Proof.MergeEquation
public import proofs.«01_k».proof.Proof.SampleMergeEquation
public import proofs.«01_k».proof.Proof.GlaEquation
public import proofs.«01_k».proof.Proof.AdaEquation
public import proofs.«01_k».proof.Proof.SampleFrame
public import proofs.«01_k».proof.Proof.SampleEquation
public import proofs.«01_k».proof.Proof.FoldEquation
public import proofs.«01_k».proof.Proof.CacheEquation
public import Idealize.ShloMosaic.Adequacy
public import Idealize.ShloMosaic.Init

@[expose] public section

noncomputable section

namespace Cert.Proof

open Idealize.ShloMosaic Idealize.SL.Sem Cert.Kernel

/-- The side conditions of the precondition's operations. -/
theorem finiteFacts : Cert.Pre_finite.Facts := ⟨by decide, by decide⟩

/-- The attention's reference leaves its arguments as they were; it has no semaphore. -/
theorem attentionReferenceFrame : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The attention kernel's values are its reference's. -/
theorem attention : algebraic_KernelIdeal_ReferenceIdeal_pre_finite (hPre_finite := finiteFacts) := by
  intro m g m' g' hm hargs
  letI := finiteFacts
  refine ⟨fun c => (Cert.KernelIdeal.Gen.dats m 0 c).arrAt 6 Cert.KernelIdeal.cfg0.N, Cert.KernelIdeal.Value.run_blocks m g,
    (θ_run _ _ _).mono (fun r h c => ⟨(h c).1.trans ?_, (h c).2⟩) (Cert.ReferenceIdeal.Value.run m' g')⟩
  rw [Cert.ReferenceIdeal.Read.val_main_v59_eq, (hargs c).1, (hargs c).2]
  exact (Cert.Band.values_eq m hm c).symm

/-- The input projection's reference leaves its arguments as they were. -/
theorem inprojReferenceFrame : quiescent_Reference2Ideal (hReference2Ideal := Cert.Reference2Ideal.Gen.facts) := fun m g _ =>
  (θ_run _ _ _).mono (fun r h => ⟨fun c => (h c).2.2, sem_eq_zero_of_no_sems (by decide) r.2⟩) (Cert.Reference2Ideal.Value.run m g)

/-- The input projection's values are its reference's. -/
theorem inproj : algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Inproj.data m 0 c).arrAt 6 Cert.Kernel2Ideal.cfg0.N,
    fun c => (Cert.Kernel2Ideal.Inproj.data m 0 c).arrAt 7 Cert.Kernel2Ideal.cfg0.N, Cert.Kernel2Ideal.Inproj.results m g,
    (θ_run _ _ _).mono (fun r h c => ⟨(h c).1.trans ?_, (h c).2.1.trans ?_, (h c).2.2⟩) (Cert.Reference2Ideal.Value.run m' g')⟩
  · rw [Cert.Reference2Ideal.Read.val_main_v30_eq, (hargs c).1, (hargs c).2.1, (hargs c).2.2.1, (hargs c).2.2.2]
    exact (Cert.Kernel2Ideal.Inproj.wide_eq m c).symm
  · rw [Cert.Reference2Ideal.Read.val_main_v31_eq, (hargs c).1, (hargs c).2.1, (hargs c).2.2.1, (hargs c).2.2.2]
    exact (Cert.Kernel2Ideal.Inproj.narrow_eq m c).symm

/-- The merge's reference leaves its arguments as they were. -/
theorem mergeReferenceFrame : quiescent_Reference3Ideal (hReference3Ideal := Cert.Reference3Ideal.Gen.facts) := fun m g _ =>
  (θ_run _ _ _).mono (fun r h => ⟨fun c => (h c).2.2, sem_eq_zero_of_no_sems (by decide) r.2⟩) (Cert.Reference3Ideal.Value.run m g)

/-- The merge's values are its reference's. -/
theorem merge : algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 12 Cert.Kernel3Ideal.cfg0.N,
    fun c => (Cert.Kernel3Ideal.Gen.dats m 0 c).arrAt 13 Cert.Kernel3Ideal.cfg0.N, Cert.Kernel3Ideal.Value.run_blocks m g,
    (θ_run _ _ _).mono (fun r h c => ⟨(h c).1.trans ?_, (h c).2.1.trans ?_, (h c).2.2⟩) (Cert.Reference3Ideal.Value.run m' g')⟩
  · obtain ⟨h0, h1, h2, h3, h4, h5, h6, h7, h8⟩ := hargs c
    rw [Cert.Reference3Ideal.Read.val_main_v52_eq, h0, h1, h2, h3, h4, h6, h7, h8]
    exact (Cert.Kernel3Ideal.Merge.sums_eq m c).symm
  · obtain ⟨h0, h1, h2, h3, h4, h5, h6, h7, h8⟩ := hargs c
    rw [Cert.Reference3Ideal.Read.val_main_v55_eq, h0, h1, h2, h3, h4, h5, h6, h7, h8]
    exact (Cert.Kernel3Ideal.Merge.columns_eq m c).symm

/-- The reference of the sample's gated linear attention leaves its arguments as they were. -/
theorem glaReferenceFrame : quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run m g)

/-- The values of the sample's gated linear attention are its reference's. -/
theorem gla : algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N, Cert.Kernel4Ideal.Value.run_blocks m g,
    (θ_run _ _ _).mono (fun r h c => ⟨(h c).1.trans ?_, (h c).2.1.trans ?_, (h c).2.2⟩) (Cert.Reference4Ideal.Value.run m' g')⟩
  · obtain ⟨h0, h1, h2, h3, h4, h5⟩ := hargs c
    rw [Cert.Reference4Ideal.Read.val_main_v74_eq, h0, h1, h2, h3, h4, h5]
    exact (Cert.Kernel4Ideal.Gla.first_eq m c).symm
  · obtain ⟨h0, h1, h2, h3, h4, h5⟩ := hargs c
    rw [Cert.Reference4Ideal.Read.val_main_v55_eq, h0, h1, h2, h3, h4]
    exact (Cert.Kernel4Ideal.Gla.second_eq m c).symm

/-- The modulation's reference leaves its arguments as they were. -/
theorem adaReferenceFrame : quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

/-- The modulation's values are its reference's. -/
theorem ada : algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 3 Cert.Kernel5Ideal.cfg0.N, Cert.Kernel5Ideal.Value.run_blocks m g,
    (θ_run _ _ _).mono (fun r h c => ⟨(h c).1.trans ?_, (h c).2⟩) (Cert.Reference5Ideal.Value.run m' g')⟩
  obtain ⟨h0, h1, h2, h3⟩ := hargs c
  rw [Cert.Reference5Ideal.Read.val_main_v8_eq, h0, h1, h2, h3]
  exact (Cert.Kernel5Ideal.Ada.modulation_eq m c).symm

/-- The reference of the sample's input projection leaves its arguments as they were. -/
theorem sampleReferenceFrame : quiescent_Reference6Ideal (hReference6Ideal := Cert.Reference6Ideal.Gen.facts) := fun m g _ =>
  (θ_run _ _ _).mono (fun r h => ⟨fun c => (h c).2.2, sem_eq_zero_of_no_sems (by decide) r.2⟩) (Cert.Reference6Ideal.Value.run m g)

/-- The values of the sample's input projection are its reference's. -/
theorem sample : algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Inproj.data m 0 c).arrAt 6 Cert.Kernel6Ideal.cfg0.N,
    fun c => (Cert.Kernel6Ideal.Inproj.data m 0 c).arrAt 7 Cert.Kernel6Ideal.cfg0.N, Cert.Kernel6Ideal.Inproj.results m g,
    (θ_run _ _ _).mono (fun r h c => ⟨(h c).1.trans ?_, (h c).2.1.trans ?_, (h c).2.2⟩) (Cert.Reference6Ideal.Value.run m' g')⟩
  · rw [Cert.Reference6Ideal.Read.val_main_v30_eq, (hargs c).1, (hargs c).2.1, (hargs c).2.2.1, (hargs c).2.2.2]
    exact (Cert.Kernel6Ideal.Inproj.wide_eq m c).symm
  · rw [Cert.Reference6Ideal.Read.val_main_v31_eq, (hargs c).1, (hargs c).2.1, (hargs c).2.2.1, (hargs c).2.2.2]
    exact (Cert.Kernel6Ideal.Inproj.narrow_eq m c).symm

/-- The fold's reference leaves its arguments as they were. -/
theorem foldReferenceFrame : quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- The fold's values are its reference's. -/
theorem fold : algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 2 Cert.Kernel7Ideal.cfg0.N, Cert.Kernel7Ideal.Value.run_blocks m g,
    (θ_run _ _ _).mono (fun r h c => ⟨(h c).1.trans ?_, (h c).2⟩) (Cert.Reference7Ideal.Value.run m' g')⟩
  rw [Cert.Reference7Ideal.Read.val_main_v5_eq, (hargs c).1, (hargs c).2]
  exact (Cert.Kernel7Ideal.Fold.fold_eq m c).symm

/-- The side conditions of the operations of the precondition on the cache. -/
theorem finiteCacheFacts : Cert.Pre_finite_cache.Facts := ⟨by decide, by decide, by decide⟩

/-- The reference of the sample's attention leaves its arguments as they were. -/
theorem cacheReferenceFrame : quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run m g)

/-- The values of the sample's attention are its reference's. -/
theorem attentionSample : algebraic_Kernel8Ideal_Reference8Ideal_pre_finite_cache (hKernel8Ideal := Cert.Kernel8Ideal.Gen.facts)
    (hReference8Ideal := Cert.Reference8Ideal.Gen.facts) (hPre_finite_cache := finiteCacheFacts) := by
  intro m g m' g' hm hargs
  letI := finiteCacheFacts
  refine ⟨fun c => (Cert.Kernel8Ideal.Gen.dats m 0 c).arrAt 7 Cert.Kernel8Ideal.cfg0.N, Cert.Kernel8Ideal.Value.run_blocks m g,
    (θ_run _ _ _).mono (fun r h c => ⟨(h c).1.trans ?_, (h c).2⟩) (Cert.Reference8Ideal.Value.run m' g')⟩
  obtain ⟨h0, h1, h2, h3⟩ := hargs c
  rw [Cert.Reference8Ideal.Read.val_main_v74_eq, h0, h1, h2, h3]
  exact (Cert.Kernel8Ideal.Equation.values_eq m hm c).symm

/-- The reference of the sample's merge leaves its arguments as they were. -/
theorem sampleMergeReferenceFrame : quiescent_Reference9Ideal (hReference9Ideal := Cert.Reference9Ideal.Gen.facts) := fun m g _ =>
  (θ_run _ _ _).mono (fun r h => ⟨fun c => (h c).2.2, sem_eq_zero_of_no_sems (by decide) r.2⟩) (Cert.Reference9Ideal.Value.run m g)

/-- The values of the sample's merge are its reference's. -/
theorem sampleMerge : algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 12 Cert.Kernel9Ideal.cfg0.N,
    fun c => (Cert.Kernel9Ideal.Gen.dats m 0 c).arrAt 13 Cert.Kernel9Ideal.cfg0.N, Cert.Kernel9Ideal.Value.run_blocks m g,
    (θ_run _ _ _).mono (fun r h c => ⟨(h c).1.trans ?_, (h c).2.1.trans ?_, (h c).2.2⟩) (Cert.Reference9Ideal.Value.run m' g')⟩
  · obtain ⟨h0, h1, h2, h3, h4, h5, h6, h7, h8⟩ := hargs c
    rw [Cert.Reference9Ideal.Read.val_main_v52_eq, h0, h1, h2, h3, h4, h6, h7, h8]
    exact (Cert.Kernel9Ideal.Merge.sums_eq m c).symm
  · obtain ⟨h0, h1, h2, h3, h4, h5, h6, h7, h8⟩ := hargs c
    rw [Cert.Reference9Ideal.Read.val_main_v55_eq, h0, h1, h2, h3, h4, h5, h6, h7, h8]
    exact (Cert.Kernel9Ideal.Merge.columns_eq m c).symm

/-- The whole claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, finiteFacts, finiteCacheFacts,
    fun m g _ => Cert.Kernel.Gen.frame m g, fun m g _ => Cert.KernelIdeal.Gen.frame m g, fun m g _ => Cert.KernelIdeal.Gen.frame m g,
    attentionReferenceFrame, fun m g _ => attentionReferenceFrame m g trivial,
    fun m g _ => Cert.Kernel2.Inproj.unchanged m g, fun m g _ => Cert.Kernel2Ideal.Inproj.unchanged m g, inprojReferenceFrame,
    fun m g _ => Cert.Kernel3.Gen.frame m g, fun m g _ => Cert.Kernel3Ideal.Gen.frame m g, mergeReferenceFrame,
    fun m g _ => Cert.Kernel4.Gen.frame m g, fun m g _ => Cert.Kernel4Ideal.Gen.frame m g, glaReferenceFrame,
    fun m g _ => Cert.Kernel5.Gen.frame m g, fun m g _ => Cert.Kernel5Ideal.Gen.frame m g, adaReferenceFrame,
    fun m g _ => Cert.Kernel6.Inproj.unchanged m g, fun m g _ => Cert.Kernel6Ideal.Inproj.unchanged m g, sampleReferenceFrame,
    fun m g _ => Cert.Kernel7.Gen.frame m g, fun m g _ => Cert.Kernel7Ideal.Gen.frame m g, foldReferenceFrame,
    fun m g _ => Cert.Kernel8.Gen.frame m g, fun m g _ => Cert.Kernel8Ideal.Gen.frame m g, fun m g _ => Cert.Kernel8Ideal.Gen.frame m g,
    cacheReferenceFrame, fun m g _ => cacheReferenceFrame m g trivial,
    fun m g _ => Cert.Kernel9.Gen.frame m g, fun m g _ => Cert.Kernel9Ideal.Gen.frame m g, sampleMergeReferenceFrame,
    IdealRules.named_const.statement Cert.KernelIdeal.κ "mask" .f32 0xF149F2CA#32 ⊥ rfl,
    attention, trivial, inproj, trivial, merge, trivial, gla, trivial, ada, trivial, sample, trivial, fold, trivial, attentionSample, trivial, sampleMerge⟩

end Cert.Proof

end
